-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v322) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S1x3x384x384 : Shape := ⟨4, ![1, 3, 384, 384]⟩
abbrev S1x1x384x384 : Shape := ⟨4, ![1, 1, 384, 384]⟩
abbrev S_ : Shape := ⟨0, ![]⟩
abbrev S1x1x1x1 : Shape := ⟨4, ![1, 1, 1, 1]⟩

class Facts : Prop where
  bcast_S_S1x3x384x384 : S_.BroadcastsInDim S1x3x384x384 (![] : Fin 0 → Fin S1x3x384x384.rank)
  bcast_S_S1x1x384x384 : S_.BroadcastsInDim S1x1x384x384 (![] : Fin 0 → Fin S1x1x384x384.rank)
  slices_S1x3x384x384_S1x1x1x1_0_0_0_0 : S1x3x384x384.Slices ![0, 0, 0, 0] S1x1x1x1
  bcast_S1x1x1x1_S1x3x384x384_0_1_2_3 : S1x1x1x1.BroadcastsInDim S1x3x384x384 (![0, 1, 2, 3] : Fin 4 → Fin S1x3x384x384.rank)

variable [Facts]

def fn_part1 {F : FTy → Type} [FloatOps F] (main_arg3 : FVec F S1x3x384x384 .f32) (main_v4 : IVec S1x3x384x384 1) (main_v9 : IVec S1x1x384x384 1) (main_v14 : IVec S1x3x384x384 1) (main_v16 : IVec S1x3x384x384 1) : IVec S1x3x384x384 1 × IVec S1x1x384x384 1 × IVec S1x3x384x384 1 × IVec S1x3x384x384 1 :=
  let main_cst_6 : FVec F S_ .f32 := constant S_ .f32 0x7F800000#32
  let main_v17 : FVec F S1x3x384x384 .f32 := broadcastInDim S1x3x384x384 ![] bcast_S_S1x3x384x384 main_cst_6
  let main_v18 : IVec S1x3x384x384 1 := cmpf .olt main_arg3 main_v17
  let main_v19 : IVec S1x3x384x384 1 := andi main_v16 main_v18
  let main_v20 : FVec F S1x1x1x1 .f32 := (extractStridedSlice S1x1x1x1 ![0, 0, 0, 0] · slices_S1x3x384x384_S1x1x1x1_0_0_0_0) main_arg3
  let main_v21 : FVec F S1x3x384x384 .f32 := broadcastInDim S1x3x384x384 ![0, 1, 2, 3] bcast_S1x1x1x1_S1x3x384x384_0_1_2_3 main_v20
  let main_v22 : IVec S1x3x384x384 1 := cmpf .oeq main_arg3 main_v21
  let main_v23 : IVec S1x3x384x384 1 := andi main_v19 main_v22
  (main_v4, main_v9, main_v14, main_v23)

def fn {F : FTy → Type} [FloatOps F] (main_arg0 : FVec F S1x3x384x384 .f32) (main_arg1 : FVec F S1x1x384x384 .f32) (main_arg2 : FVec F S1x3x384x384 .f32) (main_arg3 : FVec F S1x3x384x384 .f32) : IVec S1x3x384x384 1 × IVec S1x1x384x384 1 × IVec S1x3x384x384 1 × IVec S1x3x384x384 1 :=
  let main_cst : FVec F S_ .f32 := constant S_ .f32 0x00000000#32
  let main_v0 : FVec F S1x3x384x384 .f32 := broadcastInDim S1x3x384x384 ![] bcast_S_S1x3x384x384 main_cst
  let main_v1 : IVec S1x3x384x384 1 := cmpf .oge main_arg0 main_v0
  let main_cst_0 : FVec F S_ .f32 := constant S_ .f32 0x7F800000#32
  let main_v2 : FVec F S1x3x384x384 .f32 := broadcastInDim S1x3x384x384 ![] bcast_S_S1x3x384x384 main_cst_0
  let main_v3 : IVec S1x3x384x384 1 := cmpf .olt main_arg0 main_v2
  let main_v4 : IVec S1x3x384x384 1 := andi main_v1 main_v3
  let main_cst_1 : FVec F S_ .f32 := constant S_ .f32 0x00000000#32
  let main_v5 : FVec F S1x1x384x384 .f32 := broadcastInDim S1x1x384x384 ![] bcast_S_S1x1x384x384 main_cst_1
  let main_v6 : IVec S1x1x384x384 1 := cmpf .oge main_arg1 main_v5
  let main_cst_2 : FVec F S_ .f32 := constant S_ .f32 0x7F800000#32
  let main_v7 : FVec F S1x1x384x384 .f32 := broadcastInDim S1x1x384x384 ![] bcast_S_S1x1x384x384 main_cst_2
  let main_v8 : IVec S1x1x384x384 1 := cmpf .olt main_arg1 main_v7
  let main_v9 : IVec S1x1x384x384 1 := andi main_v6 main_v8
  let main_cst_3 : FVec F S_ .f32 := constant S_ .f32 0xFF800000#32
  let main_v10 : FVec F S1x3x384x384 .f32 := broadcastInDim S1x3x384x384 ![] bcast_S_S1x3x384x384 main_cst_3
  let main_v11 : IVec S1x3x384x384 1 := cmpf .ogt main_arg2 main_v10
  let main_cst_4 : FVec F S_ .f32 := constant S_ .f32 0x7F800000#32
  let main_v12 : FVec F S1x3x384x384 .f32 := broadcastInDim S1x3x384x384 ![] bcast_S_S1x3x384x384 main_cst_4
  let main_v13 : IVec S1x3x384x384 1 := cmpf .olt main_arg2 main_v12
  let main_v14 : IVec S1x3x384x384 1 := andi main_v11 main_v13
  let main_cst_5 : FVec F S_ .f32 := constant S_ .f32 0x00000000#32
  let main_v15 : FVec F S1x3x384x384 .f32 := broadcastInDim S1x3x384x384 ![] bcast_S_S1x3x384x384 main_cst_5
  let main_v16 : IVec S1x3x384x384 1 := cmpf .oge main_arg3 main_v15
  fn_part1 (F := F) main_arg3 main_v4 main_v9 main_v14 main_v16
-- ==== Kernel.lean ====
abbrev S1x3x384x384 : Shape := ⟨4, ![1, 3, 384, 384]⟩
abbrev S1x1x384x384 : Shape := ⟨4, ![1, 1, 384, 384]⟩
abbrev S384 : Shape := ⟨1, ![384]⟩
abbrev S_ : Shape := ⟨0, ![]⟩
abbrev S24x384 : Shape := ⟨2, ![24, 384]⟩
abbrev S384x1 : Shape := ⟨2, ![384, 1]⟩
abbrev S384x2 : Shape := ⟨2, ![384, 2]⟩
abbrev S384x24 : Shape := ⟨2, ![384, 24]⟩
abbrev S16x22x24x24 : Shape := ⟨4, ![16, 22, 24, 24]⟩
abbrev S3x4x16x24x24 : Shape := ⟨5, ![3, 4, 16, 24, 24]⟩
abbrev S24x24x16x3x4 : Shape := ⟨5, ![24, 24, 16, 3, 4]⟩
abbrev S1x24x24x16x3x4 : Shape := ⟨6, ![1, 24, 24, 16, 3, 4]⟩
abbrev S384x384 : Shape := ⟨2, ![384, 384]⟩
abbrev S24x24 : Shape := ⟨2, ![24, 24]⟩
abbrev S1x1x24x24 : Shape := ⟨4, ![1, 1, 24, 24]⟩
abbrev S16x1x24x24 : Shape := ⟨4, ![16, 1, 24, 24]⟩
abbrev S16x24x24 : Shape := ⟨3, ![16, 24, 24]⟩
abbrev S1x16x24x24 : Shape := ⟨4, ![1, 16, 24, 24]⟩
abbrev S1 : Shape := ⟨1, ![1]⟩
abbrev S1x1x1x1 : Shape := ⟨4, ![1, 1, 1, 1]⟩
abbrev S1x1x16x24x24 : Shape := ⟨5, ![1, 1, 16, 24, 24]⟩

abbrev nBuf : Space → Nat
  | .hbm => 151
  | .vmem => 9
  | .smem => 0
  | _ => 0

abbrev hbmTy0_0 (i : Nat) : BufTy := match i % 128 with
  | 0 => ⟨S1x3x384x384, .f32⟩
  | 1 => ⟨S1x1x384x384, .f32⟩
  | 2 => ⟨S1x3x384x384, .f32⟩
  | 3 => ⟨S1x3x384x384, .f32⟩
  | 4 => ⟨S384, .f32⟩
  | 5 => ⟨S_, .f32⟩
  | 6 => ⟨S384, .f32⟩
  | 7 => ⟨S384, .f32⟩
  | 8 => ⟨S_, .f32⟩
  | 9 => ⟨S384, .f32⟩
  | 10 => ⟨S384, .f32⟩
  | 11 => ⟨S_, .f32⟩
  | 12 => ⟨S384, .f32⟩
  | 13 => ⟨S384, .f32⟩
  | 14 => ⟨S384, .f32⟩
  | 15 => ⟨S384, .i32⟩
  | 16 => ⟨S_, .i32⟩
  | 17 => ⟨S_, .i32⟩
  | 18 => ⟨S_, .i32⟩
  | 19 => ⟨S384, .i32⟩
  | 20 => ⟨S384, .i32⟩
  | 21 => ⟨S_, .i32⟩
  | 22 => ⟨S384, .i32⟩
  | 23 => ⟨S384, .i32⟩
  | 24 => ⟨S_, .i32⟩
  | 25 => ⟨S384, .i32⟩
  | 26 => ⟨S384, .i32⟩
  | 27 => ⟨S_, .i32⟩
  | 28 => ⟨S384, .i32⟩
  | 29 => ⟨S384, .i32⟩
  | 30 => ⟨S384, .f32⟩
  | 31 => ⟨S384, .f32⟩
  | 32 => ⟨S_, .f32⟩
  | 33 => ⟨S24x384, .f32⟩
  | 34 => ⟨S384, .i32⟩
  | 35 => ⟨S_, .f32⟩
  | 36 => ⟨S384, .f32⟩
  | 37 => ⟨S384, .f32⟩
  | 38 => ⟨S_, .i32⟩
  | 39 => ⟨S384, .i32⟩
  | 40 => ⟨S384, .i1⟩
  | 41 => ⟨S_, .i32⟩
  | 42 => ⟨S384, .i32⟩
  | 43 => ⟨S384, .i32⟩
  | 44 => ⟨S384, .i32⟩
  | 45 => ⟨S_, .i32⟩
  | 46 => ⟨S384, .i32⟩
  | 47 => ⟨S384, .i1⟩
  | 48 => ⟨S_, .i32⟩
  | 49 => ⟨S384, .i32⟩
  | 50 => ⟨S384, .i32⟩
  | 51 => ⟨S384, .i32⟩
  | 52 => ⟨S384x1, .i32⟩
  | 53 => ⟨S384x1, .i32⟩
  | 54 => ⟨S384x2, .i32⟩
  | 55 => ⟨S24x384, .f32⟩
  | 56 => ⟨S384, .i32⟩
  | 57 => ⟨S_, .i32⟩
  | 58 => ⟨S384, .i32⟩
  | 59 => ⟨S384, .i1⟩
  | 60 => ⟨S_, .i32⟩
  | 61 => ⟨S384, .i32⟩
  | 62 => ⟨S384, .i32⟩
  | 63 => ⟨S384, .i32⟩
  | 64 => ⟨S_, .i32⟩
  | 65 => ⟨S384, .i32⟩
  | 66 => ⟨S384, .i1⟩
  | 67 => ⟨S_, .i32⟩
  | 68 => ⟨S384, .i32⟩
  | 69 => ⟨S384, .i32⟩
  | 70 => ⟨S384, .i32⟩
  | 71 => ⟨S384x1, .i32⟩
  | 72 => ⟨S384x1, .i32⟩
  | 73 => ⟨S384x2, .i32⟩
  | 74 => ⟨S24x384, .f32⟩
  | 75 => ⟨S384, .f32⟩
  | 76 => ⟨S_, .f32⟩
  | 77 => ⟨S384, .f32⟩
  | 78 => ⟨S384, .f32⟩
  | 79 => ⟨S_, .f32⟩
  | 80 => ⟨S384, .f32⟩
  | 81 => ⟨S384, .f32⟩
  | 82 => ⟨S_, .f32⟩
  | 83 => ⟨S384, .f32⟩
  | 84 => ⟨S384, .f32⟩
  | 85 => ⟨S384, .f32⟩
  | 86 => ⟨S384, .i32⟩
  | 87 => ⟨S_, .i32⟩
  | 88 => ⟨S_, .i32⟩
  | 89 => ⟨S_, .i32⟩
  | 90 => ⟨S384, .i32⟩
  | 91 => ⟨S384, .i32⟩
  | 92 => ⟨S_, .i32⟩
  | 93 => ⟨S384, .i32⟩
  | 94 => ⟨S384, .i32⟩
  | 95 => ⟨S_, .i32⟩
  | 96 => ⟨S384, .i32⟩
  | 97 => ⟨S384, .i32⟩
  | 98 => ⟨S_, .i32⟩
  | 99 => ⟨S384, .i32⟩
  | 100 => ⟨S384, .i32⟩
  | 101 => ⟨S384, .f32⟩
  | 102 => ⟨S384, .f32⟩
  | 103 => ⟨S_, .f32⟩
  | 104 => ⟨S24x384, .f32⟩
  | 105 => ⟨S384, .i32⟩
  | 106 => ⟨S_, .f32⟩
  | 107 => ⟨S384, .f32⟩
  | 108 => ⟨S384, .f32⟩
  | 109 => ⟨S_, .i32⟩
  | 110 => ⟨S384, .i32⟩
  | 111 => ⟨S384, .i1⟩
  | 112 => ⟨S_, .i32⟩
  | 113 => ⟨S384, .i32⟩
  | 114 => ⟨S384, .i32⟩
  | 115 => ⟨S384, .i32⟩
  | 116 => ⟨S_, .i32⟩
  | 117 => ⟨S384, .i32⟩
  | 118 => ⟨S384, .i1⟩
  | 119 => ⟨S_, .i32⟩
  | 120 => ⟨S384, .i32⟩
  | 121 => ⟨S384, .i32⟩
  | 122 => ⟨S384, .i32⟩
  | 123 => ⟨S384x1, .i32⟩
  | 124 => ⟨S384x1, .i32⟩
  | 125 => ⟨S384x2, .i32⟩
  | 126 => ⟨S24x384, .f32⟩
  | 127 => ⟨S384, .i32⟩
  | _ => ⟨S1x3x384x384, .f32⟩

abbrev hbmTy0_1 (i : Nat) : BufTy := match i % 128 with
  | 0 => ⟨S_, .i32⟩
  | 1 => ⟨S384, .i32⟩
  | 2 => ⟨S384, .i1⟩
  | 3 => ⟨S_, .i32⟩
  | 4 => ⟨S384, .i32⟩
  | 5 => ⟨S384, .i32⟩
  | 6 => ⟨S384, .i32⟩
  | 7 => ⟨S_, .i32⟩
  | 8 => ⟨S384, .i32⟩
  | 9 => ⟨S384, .i1⟩
  | 10 => ⟨S_, .i32⟩
  | 11 => ⟨S384, .i32⟩
  | 12 => ⟨S384, .i32⟩
  | 13 => ⟨S384, .i32⟩
  | 14 => ⟨S384x1, .i32⟩
  | 15 => ⟨S384x1, .i32⟩
  | 16 => ⟨S384x2, .i32⟩
  | 17 => ⟨S24x384, .f32⟩
  | 18 => ⟨S384x24, .f32⟩
  | 19 => ⟨S16x22x24x24, .f32⟩
  | 20 => ⟨S3x4x16x24x24, .f32⟩
  | 21 => ⟨S24x24x16x3x4, .f32⟩
  | 22 => ⟨S1x24x24x16x3x4, .f32⟩
  | _ => ⟨S1x3x384x384, .f32⟩

abbrev hbmTy (i : Nat) : BufTy := match i / 128 with
  | 0 => hbmTy0_0 i
  | 1 => hbmTy0_1 i
  | _ => ⟨S1x3x384x384, .f32⟩

abbrev bufTy : (tb : Table) → Fin (tcTables nBuf tb) → BufTy
  | .hbm, ⟨i, _⟩ => hbmTy i
  | .local _ .vmem, ⟨0, _⟩ => ⟨S1x3x384x384, .f32⟩
  | .local _ .vmem, ⟨1, _⟩ => ⟨S1x1x384x384, .f32⟩
  | .local _ .vmem, ⟨2, _⟩ => ⟨S1x3x384x384, .f32⟩
  | .local _ .vmem, ⟨3, _⟩ => ⟨S1x3x384x384, .f32⟩
  | .local _ .vmem, ⟨4, _⟩ => ⟨S24x384, .f32⟩
  | .local _ .vmem, ⟨5, _⟩ => ⟨S384x24, .f32⟩
  | .local _ .vmem, ⟨6, _⟩ => ⟨S16x22x24x24, .f32⟩
  | .local _ .vmem, ⟨7, _⟩ => ⟨S16x22x24x24, .f32⟩
  | .local _ .vmem, ⟨8, _⟩ => ⟨S3x4x16x24x24, .f32⟩
  | _, _ => ⟨S1x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_call0_cst_0 : Ref sig .tc := ⟨.hbm, 8, rfl⟩
abbrev main_call0_v3 : Ref sig .tc := ⟨.hbm, 9, rfl⟩
abbrev main_call0_v4 : Ref sig .tc := ⟨.hbm, 10, rfl⟩
abbrev main_call0_cst_1 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_c_2 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_v9 : Ref sig .tc := ⟨.hbm, 23, rfl⟩
abbrev main_call0_c_3 : Ref sig .tc := ⟨.hbm, 24, rfl⟩
abbrev main_call0_v10 : Ref sig .tc := ⟨.hbm, 25, rfl⟩
abbrev main_call0_v11 : Ref sig .tc := ⟨.hbm, 26, rfl⟩
abbrev main_call0_c_4 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_cst_5 : Ref sig .tc := ⟨.hbm, 32, rfl⟩
abbrev main_call0_v16 : Ref sig .tc := ⟨.hbm, 33, rfl⟩
abbrev main_call0_v17 : Ref sig .tc := ⟨.hbm, 34, rfl⟩
abbrev main_call0_cst_6 : Ref sig .tc := ⟨.hbm, 35, rfl⟩
abbrev main_call0_v18 : Ref sig .tc := ⟨.hbm, 36, rfl⟩
abbrev main_call0_v19 : Ref sig .tc := ⟨.hbm, 37, rfl⟩
abbrev main_call0_c_7 : Ref sig .tc := ⟨.hbm, 38, rfl⟩
abbrev main_call0_v20 : Ref sig .tc := ⟨.hbm, 39, rfl⟩
abbrev main_call0_v21 : Ref sig .tc := ⟨.hbm, 40, rfl⟩
abbrev main_call0_c_8 : Ref sig .tc := ⟨.hbm, 41, rfl⟩
abbrev main_call0_v22 : Ref sig .tc := ⟨.hbm, 42, rfl⟩
abbrev main_call0_v23 : Ref sig .tc := ⟨.hbm, 43, rfl⟩
abbrev main_call0_v24 : Ref sig .tc := ⟨.hbm, 44, rfl⟩
abbrev main_call0_c_9 : Ref sig .tc := ⟨.hbm, 45, rfl⟩
abbrev main_call0_v25 : Ref sig .tc := ⟨.hbm, 46, rfl⟩
abbrev main_call0_v26 : Ref sig .tc := ⟨.hbm, 47, rfl⟩
abbrev main_call0_c_10 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_c_11 : Ref sig .tc := ⟨.hbm, 57, rfl⟩
abbrev main_call0_v35 : Ref sig .tc := ⟨.hbm, 58, rfl⟩
abbrev main_call0_v36 : Ref sig .tc := ⟨.hbm, 59, rfl⟩
abbrev main_call0_c_12 : Ref sig .tc := ⟨.hbm, 60, rfl⟩
abbrev main_call0_v37 : Ref sig .tc := ⟨.hbm, 61, rfl⟩
abbrev main_call0_v38 : Ref sig .tc := ⟨.hbm, 62, rfl⟩
abbrev main_call0_v39 : Ref sig .tc := ⟨.hbm, 63, rfl⟩
abbrev main_call0_c_13 : Ref sig .tc := ⟨.hbm, 64, rfl⟩
abbrev main_call0_v40 : Ref sig .tc := ⟨.hbm, 65, rfl⟩
abbrev main_call0_v41 : Ref sig .tc := ⟨.hbm, 66, rfl⟩
abbrev main_call0_c_14 : Ref sig .tc := ⟨.hbm, 67, rfl⟩
abbrev main_call0_v42 : Ref sig .tc := ⟨.hbm, 68, rfl⟩
abbrev main_call0_v43 : Ref sig .tc := ⟨.hbm, 69, rfl⟩
abbrev main_call0_v44 : Ref sig .tc := ⟨.hbm, 70, rfl⟩
abbrev main_call0_v45 : Ref sig .tc := ⟨.hbm, 71, rfl⟩
abbrev main_call0_v46 : Ref sig .tc := ⟨.hbm, 72, rfl⟩
abbrev main_call0_v47 : Ref sig .tc := ⟨.hbm, 73, rfl⟩
abbrev main_call0_v48 : Ref sig .tc := ⟨.hbm, 74, rfl⟩
abbrev main_call0_v49 : Ref sig .tc := ⟨.hbm, 75, rfl⟩
abbrev main_call0_cst_15 : Ref sig .tc := ⟨.hbm, 76, rfl⟩
abbrev main_call0_v50 : Ref sig .tc := ⟨.hbm, 77, rfl⟩
abbrev main_call0_v51 : Ref sig .tc := ⟨.hbm, 78, rfl⟩
abbrev main_call0_cst_16 : Ref sig .tc := ⟨.hbm, 79, rfl⟩
abbrev main_call0_v52 : Ref sig .tc := ⟨.hbm, 80, rfl⟩
abbrev main_call0_v53 : Ref sig .tc := ⟨.hbm, 81, rfl⟩
abbrev main_call0_cst_17 : Ref sig .tc := ⟨.hbm, 82, rfl⟩
abbrev main_call0_v54 : Ref sig .tc := ⟨.hbm, 83, rfl⟩
abbrev main_call0_v55 : Ref sig .tc := ⟨.hbm, 84, rfl⟩
abbrev main_call0_v56 : Ref sig .tc := ⟨.hbm, 85, rfl⟩
abbrev main_call0_v57 : Ref sig .tc := ⟨.hbm, 86, rfl⟩
abbrev main_call0_c_18 : Ref sig .tc := ⟨.hbm, 87, rfl⟩
abbrev main_call0_c_19 : Ref sig .tc := ⟨.hbm, 88, rfl⟩
abbrev main_call0_call1_v0 : Ref sig .tc := ⟨.hbm, 89, rfl⟩
abbrev main_call0_call1_v1 : Ref sig .tc := ⟨.hbm, 90, rfl⟩
abbrev main_call0_call1_v2 : Ref sig .tc := ⟨.hbm, 91, rfl⟩
abbrev main_call0_call1_v3 : Ref sig .tc := ⟨.hbm, 92, rfl⟩
abbrev main_call0_call1_v4 : Ref sig .tc := ⟨.hbm, 93, rfl⟩
abbrev main_call0_v58 : Ref sig .tc := ⟨.hbm, 94, rfl⟩
abbrev main_call0_c_20 : Ref sig .tc := ⟨.hbm, 95, rfl⟩
abbrev main_call0_v59 : Ref sig .tc := ⟨.hbm, 96, rfl⟩
abbrev main_call0_v60 : Ref sig .tc := ⟨.hbm, 97, rfl⟩
abbrev main_call0_c_21 : Ref sig .tc := ⟨.hbm, 98, rfl⟩
abbrev main_call0_v61 : Ref sig .tc := ⟨.hbm, 99, rfl⟩
abbrev main_call0_v62 : Ref sig .tc := ⟨.hbm, 100, rfl⟩
abbrev main_call0_v63 : Ref sig .tc := ⟨.hbm, 101, rfl⟩
abbrev main_call0_v64 : Ref sig .tc := ⟨.hbm, 102, rfl⟩
abbrev main_call0_cst_22 : Ref sig .tc := ⟨.hbm, 103, rfl⟩
abbrev main_call0_v65 : Ref sig .tc := ⟨.hbm, 104, rfl⟩
abbrev main_call0_v66 : Ref sig .tc := ⟨.hbm, 105, rfl⟩
abbrev main_call0_cst_23 : Ref sig .tc := ⟨.hbm, 106, rfl⟩
abbrev main_call0_v67 : Ref sig .tc := ⟨.hbm, 107, rfl⟩
abbrev main_call0_v68 : Ref sig .tc := ⟨.hbm, 108, rfl⟩
abbrev main_call0_c_24 : Ref sig .tc := ⟨.hbm, 109, rfl⟩
abbrev main_call0_v69 : Ref sig .tc := ⟨.hbm, 110, rfl⟩
abbrev main_call0_v70 : Ref sig .tc := ⟨.hbm, 111, rfl⟩
abbrev main_call0_c_25 : Ref sig .tc := ⟨.hbm, 112, rfl⟩
abbrev main_call0_v71 : Ref sig .tc := ⟨.hbm, 113, rfl⟩
abbrev main_call0_v72 : Ref sig .tc := ⟨.hbm, 114, rfl⟩
abbrev main_call0_v73 : Ref sig .tc := ⟨.hbm, 115, rfl⟩
abbrev main_call0_c_26 : Ref sig .tc := ⟨.hbm, 116, rfl⟩
abbrev main_call0_v74 : Ref sig .tc := ⟨.hbm, 117, rfl⟩
abbrev main_call0_v75 : Ref sig .tc := ⟨.hbm, 118, rfl⟩
abbrev main_call0_c_27 : Ref sig .tc := ⟨.hbm, 119, rfl⟩
abbrev main_call0_v76 : Ref sig .tc := ⟨.hbm, 120, rfl⟩
abbrev main_call0_v77 : Ref sig .tc := ⟨.hbm, 121, rfl⟩
abbrev main_call0_v78 : Ref sig .tc := ⟨.hbm, 122, rfl⟩
abbrev main_call0_v79 : Ref sig .tc := ⟨.hbm, 123, rfl⟩
abbrev main_call0_v80 : Ref sig .tc := ⟨.hbm, 124, rfl⟩
abbrev main_call0_v81 : Ref sig .tc := ⟨.hbm, 125, rfl⟩
abbrev main_call0_v82 : Ref sig .tc := ⟨.hbm, 126, rfl⟩
abbrev main_call0_v83 : Ref sig .tc := ⟨.hbm, 127, rfl⟩
abbrev main_call0_c_28 : Ref sig .tc := ⟨.hbm, 128, rfl⟩
abbrev main_call0_v84 : Ref sig .tc := ⟨.hbm, 129, rfl⟩
abbrev main_call0_v85 : Ref sig .tc := ⟨.hbm, 130, rfl⟩
abbrev main_call0_c_29 : Ref sig .tc := ⟨.hbm, 131, rfl⟩
abbrev main_call0_v86 : Ref sig .tc := ⟨.hbm, 132, rfl⟩
abbrev main_call0_v87 : Ref sig .tc := ⟨.hbm, 133, rfl⟩
abbrev main_call0_v88 : Ref sig .tc := ⟨.hbm, 134, rfl⟩
abbrev main_call0_c_30 : Ref sig .tc := ⟨.hbm, 135, rfl⟩
abbrev main_call0_v89 : Ref sig .tc := ⟨.hbm, 136, rfl⟩
abbrev main_call0_v90 : Ref sig .tc := ⟨.hbm, 137, rfl⟩
abbrev main_call0_c_31 : Ref sig .tc := ⟨.hbm, 138, rfl⟩
abbrev main_call0_v91 : Ref sig .tc := ⟨.hbm, 139, rfl⟩
abbrev main_call0_v92 : Ref sig .tc := ⟨.hbm, 140, rfl⟩
abbrev main_call0_v93 : Ref sig .tc := ⟨.hbm, 141, rfl⟩
abbrev main_call0_v94 : Ref sig .tc := ⟨.hbm, 142, rfl⟩
abbrev main_call0_v95 : Ref sig .tc := ⟨.hbm, 143, rfl⟩
abbrev main_call0_v96 : Ref sig .tc := ⟨.hbm, 144, rfl⟩
abbrev main_call0_v97 : Ref sig .tc := ⟨.hbm, 145, rfl⟩
abbrev main_call0_v98 : Ref sig .tc := ⟨.hbm, 146, rfl⟩
abbrev main_call0_v99 : Ref sig .tc := ⟨.hbm, 147, rfl⟩
abbrev main_call0_v100 : Ref sig .tc := ⟨.hbm, 148, rfl⟩
abbrev main_call0_v101 : Ref sig .tc := ⟨.hbm, 149, rfl⟩
abbrev main_v0 : Ref sig .tc := ⟨.hbm, 150, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32_44 : BitVec 32 := 0#32
  let c16_i32 : BitVec 32 := 16#32
  let v47 : BitVec 32 := Scalar.addi c0_i32_44 c16_i32
  let c1_i32_45 : BitVec 32 := 1#32
  ⟨c0_i32_44, v47, c1_i32_45⟩
def k0_off1 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v63 : Index := Scalar.indexCast arg7
  let c0_52 : Index := 0#32
  let c0_53 : Index := 0#32
  let c0_54 : Index := 0#32
  ![v63.toNat, 0, 0, 0]
def k0_off2 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v71 : Index := Scalar.indexCast arg7
  let c1_57 : Index := 1#32
  let c0_58 : Index := 0#32
  let c0_59 : Index := 0#32
  ![v71.toNat, 1, 0, 0]
def k0_off3 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v79 : Index := Scalar.indexCast arg7
  let c2_62 : Index := 2#32
  let c0_63 : Index := 0#32
  let c0_64 : Index := 0#32
  ![v79.toNat, 2, 0, 0]
def k0_off4 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v87 : Index := Scalar.indexCast arg7
  let c3 : Index := 3#32
  let c0_67 : Index := 0#32
  let c0_68 : Index := 0#32
  ![v87.toNat, 3, 0, 0]
def k0_off5 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v95 : Index := Scalar.indexCast arg7
  let c4 : Index := 4#32
  let c0_71 : Index := 0#32
  let c0_72 : Index := 0#32
  ![v95.toNat, 4, 0, 0]
def k0_off6 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v103 : Index := Scalar.indexCast arg7
  let c5 : Index := 5#32
  let c0_75 : Index := 0#32
  let c0_76 : Index := 0#32
  ![v103.toNat, 5, 0, 0]
def k0_off7 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v111 : Index := Scalar.indexCast arg7
  let c6 : Index := 6#32
  let c0_79 : Index := 0#32
  let c0_80 : Index := 0#32
  ![v111.toNat, 6, 0, 0]
def k0_off8 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v119 : Index := Scalar.indexCast arg7
  let c7 : Index := 7#32
  let c0_83 : Index := 0#32
  let c0_84 : Index := 0#32
  ![v119.toNat, 7, 0, 0]
def k0_off9 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v127 : Index := Scalar.indexCast arg7
  let c8 : Index := 8#32
  let c0_87 : Index := 0#32
  let c0_88 : Index := 0#32
  ![v127.toNat, 8, 0, 0]
def k0_off10 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v135 : Index := Scalar.indexCast arg7
  let c9 : Index := 9#32
  let c0_91 : Index := 0#32
  let c0_92 : Index := 0#32
  ![v135.toNat, 9, 0, 0]
def k0_off11 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v143 : Index := Scalar.indexCast arg7
  let c10 : Index := 10#32
  let c0_95 : Index := 0#32
  let c0_96 : Index := 0#32
  ![v143.toNat, 10, 0, 0]
def k0_off12 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v151 : Index := Scalar.indexCast arg7
  let c11 : Index := 11#32
  let c0_99 : Index := 0#32
  let c0_100 : Index := 0#32
  ![v151.toNat, 11, 0, 0]
def k0_off13 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v159 : Index := Scalar.indexCast arg7
  let c12 : Index := 12#32
  let c0_103 : Index := 0#32
  let c0_104 : Index := 0#32
  ![v159.toNat, 12, 0, 0]
def k0_off14 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v167 : Index := Scalar.indexCast arg7
  let c13 : Index := 13#32
  let c0_107 : Index := 0#32
  let c0_108 : Index := 0#32
  ![v167.toNat, 13, 0, 0]
def k0_off15 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v175 : Index := Scalar.indexCast arg7
  let c14 : Index := 14#32
  let c0_111 : Index := 0#32
  let c0_112 : Index := 0#32
  ![v175.toNat, 14, 0, 0]
def k0_off16 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v183 : Index := Scalar.indexCast arg7
  let c15 : Index := 15#32
  let c0_115 : Index := 0#32
  let c0_116 : Index := 0#32
  ![v183.toNat, 15, 0, 0]
def k0_off17 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v191 : Index := Scalar.indexCast arg7
  let c16 : Index := 16#32
  let c0_119 : Index := 0#32
  let c0_120 : Index := 0#32
  ![v191.toNat, 16, 0, 0]
def k0_off18 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v199 : Index := Scalar.indexCast arg7
  let c17 : Index := 17#32
  let c0_123 : Index := 0#32
  let c0_124 : Index := 0#32
  ![v199.toNat, 17, 0, 0]
def k0_off19 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v207 : Index := Scalar.indexCast arg7
  let c18 : Index := 18#32
  let c0_127 : Index := 0#32
  let c0_128 : Index := 0#32
  ![v207.toNat, 18, 0, 0]
def k0_off20 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v215 : Index := Scalar.indexCast arg7
  let c19 : Index := 19#32
  let c0_131 : Index := 0#32
  let c0_132 : Index := 0#32
  ![v215.toNat, 19, 0, 0]
def k0_off21 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v223 : Index := Scalar.indexCast arg7
  let c20 : Index := 20#32
  let c0_135 : Index := 0#32
  let c0_136 : Index := 0#32
  ![v223.toNat, 20, 0, 0]
def k0_off22 (k0_t1 : Fin k0_t1_loop.trips) : Fin 4 → Nat :=
  let c0_i32_44 : BitVec 32 := 0#32
  let c1_i32_45 : BitVec 32 := 1#32
  let arg7 : BitVec 32 := Scf.iv c0_i32_44 c1_i32_45 k0_t1
  let v231 : Index := Scalar.indexCast arg7
  let c21 : Index := 21#32
  let c0_139 : Index := 0#32
  let c0_140 : Index := 0#32
  ![v231.toNat, 21, 0, 0]
abbrev stage0_0 : Fin 1 → Memref sig .tc .vmem S1x3x384x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3x384x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3x384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x22x24x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := .none

abbrev stage1_0 : Fin 1 → Memref sig .tc .vmem S16x22x24x24 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3x4x16x24x24 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "third" => some ((1 / 3 : ℝ) : EReal)
  | _ => none
-- ==== ReferenceIdeal.lean ====
abbrev S1x3x384x384 : Shape := ⟨4, ![1, 3, 384, 384]⟩
abbrev S1x1x384x384 : Shape := ⟨4, ![1, 1, 384, 384]⟩
abbrev S1x384x384 : Shape := ⟨3, ![1, 384, 384]⟩
abbrev S1x384x384x3 : Shape := ⟨4, ![1, 384, 384, 3]⟩
abbrev S_ : Shape := ⟨0, ![]⟩
abbrev S1x384x384x1 : Shape := ⟨4, ![1, 384, 384, 1]⟩
abbrev S1x384x384x4 : Shape := ⟨4, ![1, 384, 384, 4]⟩
abbrev S383 : Shape := ⟨1, ![383]⟩
abbrev S1 : Shape := ⟨1, ![1]⟩
abbrev S384 : Shape := ⟨1, ![384]⟩
abbrev S384x384 : Shape := ⟨2, ![384, 384]⟩
abbrev S1x147456 : Shape := ⟨2, ![1, 147456]⟩
abbrev S1x147456x1 : Shape := ⟨3, ![1, 147456, 1]⟩
abbrev S1x147456x8 : Shape := ⟨3, ![1, 147456, 8]⟩
abbrev S1x147456x4 : Shape := ⟨3, ![1, 147456, 4]⟩
abbrev S1x147456x3 : Shape := ⟨3, ![1, 147456, 3]⟩
abbrev S1x147456x4x1 : Shape := ⟨4, ![1, 147456, 4, 1]⟩
abbrev S1x147456x1x4 : Shape := ⟨4, ![1, 147456, 1, 4]⟩
abbrev S1x147456x4x4 : Shape := ⟨4, ![1, 147456, 4, 4]⟩
abbrev S1x147456x3x1 : Shape := ⟨4, ![1, 147456, 3, 1]⟩
abbrev S1x147456x3x4 : Shape := ⟨4, ![1, 147456, 3, 4]⟩
abbrev S1x147456x1x4x4 : Shape := ⟨5, ![1, 147456, 1, 4, 4]⟩
abbrev S1x147456x8x1x1 : Shape := ⟨5, ![1, 147456, 8, 1, 1]⟩
abbrev S1x147456x8x4x4 : Shape := ⟨5, ![1, 147456, 8, 4, 4]⟩
abbrev S1x147456x1x3x4 : Shape := ⟨5, ![1, 147456, 1, 3, 4]⟩
abbrev S1x147456x8x3x4 : Shape := ⟨5, ![1, 147456, 8, 3, 4]⟩
abbrev S1x1179648x4x4 : Shape := ⟨4, ![1, 1179648, 4, 4]⟩
abbrev S1x1179648x3x4 : Shape := ⟨4, ![1, 1179648, 3, 4]⟩
abbrev S1x1179648 : Shape := ⟨2, ![1, 1179648]⟩
abbrev S1x1 : Shape := ⟨2, ![1, 1]⟩
abbrev S1179648 : Shape := ⟨1, ![1179648]⟩
abbrev S1179648x4x4 : Shape := ⟨3, ![1179648, 4, 4]⟩
abbrev S1179648x3x4 : Shape := ⟨3, ![1179648, 3, 4]⟩
abbrev S9216x4x4 : Shape := ⟨3, ![9216, 4, 4]⟩
abbrev S1179648x1 : Shape := ⟨2, ![1179648, 1]⟩
abbrev S9216x3x4 : Shape := ⟨3, ![9216, 3, 4]⟩
abbrev S1x9216x4x4 : Shape := ⟨4, ![1, 9216, 4, 4]⟩
abbrev S1x9216x3x4 : Shape := ⟨4, ![1, 9216, 3, 4]⟩
abbrev S4x4 : Shape := ⟨2, ![4, 4]⟩
abbrev S1x1x4x4 : Shape := ⟨4, ![1, 1, 4, 4]⟩
abbrev S1x9216x1x1 : Shape := ⟨4, ![1, 9216, 1, 1]⟩
abbrev S1x9216 : Shape := ⟨2, ![1, 9216]⟩
abbrev S1x4x4 : Shape := ⟨3, ![1, 4, 4]⟩
abbrev S1x3x4 : Shape := ⟨3, ![1, 3, 4]⟩
abbrev S1x3x1 : Shape := ⟨3, ![1, 3, 1]⟩
abbrev S1x3 : Shape := ⟨2, ![1, 3]⟩
abbrev S1x1x3 : Shape := ⟨3, ![1, 1, 3]⟩
abbrev S1x9216x3 : Shape := ⟨3, ![1, 9216, 3]⟩
abbrev S1x9216x3x1 : Shape := ⟨4, ![1, 9216, 3, 1]⟩
abbrev S1x9216x1 : Shape := ⟨3, ![1, 9216, 1]⟩
abbrev S3x3 : Shape := ⟨2, ![3, 3]⟩
abbrev S1x1x3x3 : Shape := ⟨4, ![1, 1, 3, 3]⟩
abbrev S1x9216x3x3 : Shape := ⟨4, ![1, 9216, 3, 3]⟩
abbrev S1x9216x4x3 : Shape := ⟨4, ![1, 9216, 4, 3]⟩
abbrev S1x9216x4x7 : Shape := ⟨4, ![1, 9216, 4, 7]⟩
abbrev S4 : Shape := ⟨1, ![4]⟩
abbrev S4x1 : Shape := ⟨2, ![4, 1]⟩
abbrev S1x9216x1x7 : Shape := ⟨4, ![1, 9216, 1, 7]⟩
abbrev S1x9216x4x1 : Shape := ⟨4, ![1, 9216, 4, 1]⟩
abbrev S1x24x24x16x3x4 : Shape := ⟨6, ![1, 24, 24, 16, 3, 4]⟩

abbrev nBuf : Space → Nat
  | .hbm => 454
  | .vmem => 0
  | .smem => 0
  | _ => 0

abbrev hbmTy0_0 (i : Nat) : BufTy := match i % 128 with
  | 0 => ⟨S1x3x384x384, .f32⟩
  | 1 => ⟨S1x1x384x384, .f32⟩
  | 2 => ⟨S1x3x384x384, .f32⟩
  | 3 => ⟨S1x3x384x384, .f32⟩
  | 4 => ⟨S1x384x384, .f32⟩
  | 5 => ⟨S1x384x384x3, .f32⟩
  | 6 => ⟨S1x384x384x3, .f32⟩
  | 7 => ⟨S_, .f32⟩
  | 8 => ⟨S1x384x384x1, .f32⟩
  | 9 => ⟨S1x384x384x4, .f32⟩
  | 10 => ⟨S_, .f32⟩
  | 11 => ⟨S_, .i32⟩
  | 12 => ⟨S_, .f32⟩
  | 13 => ⟨S_, .f32⟩
  | 14 => ⟨S_, .f32⟩
  | 15 => ⟨S_, .f32⟩
  | 16 => ⟨S_, .f32⟩
  | 17 => ⟨S383, .f32⟩
  | 18 => ⟨S_, .f32⟩
  | 19 => ⟨S383, .f32⟩
  | 20 => ⟨S383, .f32⟩
  | 21 => ⟨S1, .f32⟩
  | 22 => ⟨S_, .f32⟩
  | 23 => ⟨S383, .f32⟩
  | 24 => ⟨S383, .f32⟩
  | 25 => ⟨S383, .f32⟩
  | 26 => ⟨S383, .f32⟩
  | 27 => ⟨S1, .f32⟩
  | 28 => ⟨S383, .f32⟩
  | 29 => ⟨S383, .f32⟩
  | 30 => ⟨S383, .f32⟩
  | 31 => ⟨S1, .f32⟩
  | 32 => ⟨S384, .f32⟩
  | 33 => ⟨S_, .f32⟩
  | 34 => ⟨S_, .i32⟩
  | 35 => ⟨S_, .f32⟩
  | 36 => ⟨S_, .f32⟩
  | 37 => ⟨S_, .f32⟩
  | 38 => ⟨S_, .f32⟩
  | 39 => ⟨S_, .f32⟩
  | 40 => ⟨S383, .f32⟩
  | 41 => ⟨S_, .f32⟩
  | 42 => ⟨S383, .f32⟩
  | 43 => ⟨S383, .f32⟩
  | 44 => ⟨S1, .f32⟩
  | 45 => ⟨S_, .f32⟩
  | 46 => ⟨S383, .f32⟩
  | 47 => ⟨S383, .f32⟩
  | 48 => ⟨S383, .f32⟩
  | 49 => ⟨S383, .f32⟩
  | 50 => ⟨S1, .f32⟩
  | 51 => ⟨S383, .f32⟩
  | 52 => ⟨S383, .f32⟩
  | 53 => ⟨S383, .f32⟩
  | 54 => ⟨S1, .f32⟩
  | 55 => ⟨S384, .f32⟩
  | 56 => ⟨S384x384, .f32⟩
  | 57 => ⟨S384x384, .f32⟩
  | 58 => ⟨S1x384x384, .f32⟩
  | 59 => ⟨S1x384x384, .f32⟩
  | 60 => ⟨S_, .f32⟩
  | 61 => ⟨S1x384x384, .f32⟩
  | 62 => ⟨S1x384x384, .f32⟩
  | 63 => ⟨S_, .f32⟩
  | 64 => ⟨S1x384x384, .f32⟩
  | 65 => ⟨S1x384x384, .f32⟩
  | 66 => ⟨S_, .f32⟩
  | 67 => ⟨S1x384x384, .f32⟩
  | 68 => ⟨S1x384x384, .f32⟩
  | 69 => ⟨S_, .f32⟩
  | 70 => ⟨S1x384x384, .f32⟩
  | 71 => ⟨S1x384x384, .f32⟩
  | 72 => ⟨S_, .f32⟩
  | 73 => ⟨S1x384x384, .f32⟩
  | 74 => ⟨S1x384x384, .f32⟩
  | 75 => ⟨S_, .f32⟩
  | 76 => ⟨S1x384x384, .f32⟩
  | 77 => ⟨S1x384x384, .f32⟩
  | 78 => ⟨S_, .f32⟩
  | 79 => ⟨S1x384x384, .f32⟩
  | 80 => ⟨S1x384x384, .f32⟩
  | 81 => ⟨S1x384x384, .f32⟩
  | 82 => ⟨S1x384x384, .i32⟩
  | 83 => ⟨S_, .i32⟩
  | 84 => ⟨S_, .i32⟩
  | 85 => ⟨S_, .i32⟩
  | 86 => ⟨S1x384x384, .i32⟩
  | 87 => ⟨S1x384x384, .i32⟩
  | 88 => ⟨S_, .i32⟩
  | 89 => ⟨S1x384x384, .i32⟩
  | 90 => ⟨S1x384x384, .i32⟩
  | 91 => ⟨S1x384x384, .f32⟩
  | 92 => ⟨S1x384x384, .i32⟩
  | 93 => ⟨S_, .i32⟩
  | 94 => ⟨S_, .i32⟩
  | 95 => ⟨S_, .i32⟩
  | 96 => ⟨S1x384x384, .i32⟩
  | 97 => ⟨S1x384x384, .i32⟩
  | 98 => ⟨S_, .i32⟩
  | 99 => ⟨S1x384x384, .i32⟩
  | 100 => ⟨S1x384x384, .i32⟩
  | 101 => ⟨S1x384x384, .f32⟩
  | 102 => ⟨S1x384x384, .i32⟩
  | 103 => ⟨S_, .i32⟩
  | 104 => ⟨S_, .i32⟩
  | 105 => ⟨S_, .i32⟩
  | 106 => ⟨S1x384x384, .i32⟩
  | 107 => ⟨S1x384x384, .i32⟩
  | 108 => ⟨S_, .i32⟩
  | 109 => ⟨S1x384x384, .i32⟩
  | 110 => ⟨S1x384x384, .i32⟩
  | 111 => ⟨S_, .i32⟩
  | 112 => ⟨S1x384x384, .i32⟩
  | 113 => ⟨S1x384x384, .i32⟩
  | 114 => ⟨S_, .i32⟩
  | 115 => ⟨S1x384x384, .i32⟩
  | 116 => ⟨S1x384x384, .i32⟩
  | 117 => ⟨S_, .i32⟩
  | 118 => ⟨S1x384x384, .i32⟩
  | 119 => ⟨S1x384x384, .i32⟩
  | 120 => ⟨S_, .i32⟩
  | 121 => ⟨S1x384x384, .i32⟩
  | 122 => ⟨S1x384x384, .i32⟩
  | 123 => ⟨S_, .i32⟩
  | 124 => ⟨S1x384x384, .i32⟩
  | 125 => ⟨S1x384x384, .i32⟩
  | 126 => ⟨S_, .i32⟩
  | 127 => ⟨S1x384x384, .i32⟩
  | _ => ⟨S1x3x384x384, .f32⟩

abbrev hbmTy0_1 (i : Nat) : BufTy := match i % 128 with
  | 0 => ⟨S1x384x384, .i32⟩
  | 1 => ⟨S1x384x384, .f32⟩
  | 2 => ⟨S1x384x384, .f32⟩
  | 3 => ⟨S1x384x384, .f32⟩
  | 4 => ⟨S1x384x384, .f32⟩
  | 5 => ⟨S1x384x384, .f32⟩
  | 6 => ⟨S1x384x384, .f32⟩
  | 7 => ⟨S1x147456, .i32⟩
  | 8 => ⟨S1x147456, .i32⟩
  | 9 => ⟨S1x147456, .i32⟩
  | 10 => ⟨S1x147456, .i32⟩
  | 11 => ⟨S1x147456, .i32⟩
  | 12 => ⟨S1x147456, .i32⟩
  | 13 => ⟨S1x147456, .f32⟩
  | 14 => ⟨S1x147456, .f32⟩
  | 15 => ⟨S1x147456, .f32⟩
  | 16 => ⟨S1x147456x1, .i32⟩
  | 17 => ⟨S1x147456x1, .i32⟩
  | 18 => ⟨S1x147456x1, .i32⟩
  | 19 => ⟨S1x147456x1, .i32⟩
  | 20 => ⟨S1x147456x1, .i32⟩
  | 21 => ⟨S1x147456x1, .i32⟩
  | 22 => ⟨S1x147456x1, .i32⟩
  | 23 => ⟨S1x147456x1, .i32⟩
  | 24 => ⟨S1x147456x8, .i32⟩
  | 25 => ⟨S1x147456x1, .i32⟩
  | 26 => ⟨S1x147456x1, .i32⟩
  | 27 => ⟨S1x147456x1, .i32⟩
  | 28 => ⟨S1x147456x1, .i32⟩
  | 29 => ⟨S1x147456x1, .i32⟩
  | 30 => ⟨S1x147456x1, .i32⟩
  | 31 => ⟨S1x147456x1, .i32⟩
  | 32 => ⟨S1x147456x1, .i32⟩
  | 33 => ⟨S1x147456x8, .i32⟩
  | 34 => ⟨S1x147456x1, .i32⟩
  | 35 => ⟨S1x147456x1, .i32⟩
  | 36 => ⟨S1x147456x1, .i32⟩
  | 37 => ⟨S1x147456x1, .i32⟩
  | 38 => ⟨S1x147456x1, .i32⟩
  | 39 => ⟨S1x147456x1, .i32⟩
  | 40 => ⟨S1x147456x1, .i32⟩
  | 41 => ⟨S1x147456x1, .i32⟩
  | 42 => ⟨S1x147456x8, .i32⟩
  | 43 => ⟨S_, .f32⟩
  | 44 => ⟨S1x147456, .f32⟩
  | 45 => ⟨S1x147456, .f32⟩
  | 46 => ⟨S_, .f32⟩
  | 47 => ⟨S1x147456, .f32⟩
  | 48 => ⟨S1x147456, .f32⟩
  | 49 => ⟨S1x147456, .f32⟩
  | 50 => ⟨S_, .f32⟩
  | 51 => ⟨S1x147456, .f32⟩
  | 52 => ⟨S1x147456, .f32⟩
  | 53 => ⟨S1x147456, .f32⟩
  | 54 => ⟨S_, .f32⟩
  | 55 => ⟨S1x147456, .f32⟩
  | 56 => ⟨S1x147456, .f32⟩
  | 57 => ⟨S_, .f32⟩
  | 58 => ⟨S1x147456, .f32⟩
  | 59 => ⟨S1x147456, .f32⟩
  | 60 => ⟨S1x147456, .f32⟩
  | 61 => ⟨S1x147456, .f32⟩
  | 62 => ⟨S_, .f32⟩
  | 63 => ⟨S1x147456, .f32⟩
  | 64 => ⟨S1x147456, .f32⟩
  | 65 => ⟨S1x147456, .f32⟩
  | 66 => ⟨S_, .f32⟩
  | 67 => ⟨S1x147456, .f32⟩
  | 68 => ⟨S1x147456, .f32⟩
  | 69 => ⟨S1x147456, .f32⟩
  | 70 => ⟨S_, .f32⟩
  | 71 => ⟨S1x147456, .f32⟩
  | 72 => ⟨S1x147456, .f32⟩
  | 73 => ⟨S1x147456, .f32⟩
  | 74 => ⟨S1x147456, .f32⟩
  | 75 => ⟨S_, .f32⟩
  | 76 => ⟨S1x147456, .f32⟩
  | 77 => ⟨S1x147456, .f32⟩
  | 78 => ⟨S1x147456, .f32⟩
  | 79 => ⟨S_, .f32⟩
  | 80 => ⟨S1x147456, .f32⟩
  | 81 => ⟨S1x147456, .f32⟩
  | 82 => ⟨S1x147456, .f32⟩
  | 83 => ⟨S_, .f32⟩
  | 84 => ⟨S1x147456, .f32⟩
  | 85 => ⟨S1x147456, .f32⟩
  | 86 => ⟨S1x147456, .f32⟩
  | 87 => ⟨S1x147456, .f32⟩
  | 88 => ⟨S1x147456, .f32⟩
  | 89 => ⟨S_, .f32⟩
  | 90 => ⟨S1x147456, .f32⟩
  | 91 => ⟨S1x147456, .f32⟩
  | 92 => ⟨S1x147456, .f32⟩
  | 93 => ⟨S1x147456, .f32⟩
  | 94 => ⟨S1x147456, .f32⟩
  | 95 => ⟨S1x147456x1, .f32⟩
  | 96 => ⟨S1x147456x1, .f32⟩
  | 97 => ⟨S1x147456x1, .f32⟩
  | 98 => ⟨S1x147456x1, .f32⟩
  | 99 => ⟨S1x147456x1, .f32⟩
  | 100 => ⟨S1x147456x1, .f32⟩
  | 101 => ⟨S1x147456x1, .f32⟩
  | 102 => ⟨S1x147456x1, .f32⟩
  | 103 => ⟨S1x147456x8, .f32⟩
  | 104 => ⟨S_, .i32⟩
  | 105 => ⟨S1x147456x8, .i32⟩
  | 106 => ⟨S1x147456x8, .i32⟩
  | 107 => ⟨S_, .i32⟩
  | 108 => ⟨S1x147456x8, .i32⟩
  | 109 => ⟨S1x147456x8, .i32⟩
  | 110 => ⟨S1x147456x8, .i32⟩
  | 111 => ⟨S1x147456x8, .i32⟩
  | 112 => ⟨S1x147456x4, .f32⟩
  | 113 => ⟨S1x147456x3, .f32⟩
  | 114 => ⟨S1x147456x3, .f32⟩
  | 115 => ⟨S_, .f32⟩
  | 116 => ⟨S1x147456, .f32⟩
  | 117 => ⟨S_, .f32⟩
  | 118 => ⟨S1x147456, .f32⟩
  | 119 => ⟨S1x147456, .f32⟩
  | 120 => ⟨S1x147456x4x1, .f32⟩
  | 121 => ⟨S1x147456x1x4, .f32⟩
  | 122 => ⟨S1x147456x4x4, .f32⟩
  | 123 => ⟨S1x147456x4x4, .f32⟩
  | 124 => ⟨S1x147456x4x4, .f32⟩
  | 125 => ⟨S1x147456x3x1, .f32⟩
  | 126 => ⟨S1x147456x1x4, .f32⟩
  | 127 => ⟨S1x147456x3x4, .f32⟩
  | _ => ⟨S1x3x384x384, .f32⟩

abbrev hbmTy0_2 (i : Nat) : BufTy := match i % 128 with
  | 0 => ⟨S1x147456x3x4, .f32⟩
  | 1 => ⟨S1x147456x3x4, .f32⟩
  | 2 => ⟨S1x147456x1, .f32⟩
  | 3 => ⟨S1x147456x8, .f32⟩
  | 4 => ⟨S1x147456x8, .f32⟩
  | 5 => ⟨S1x147456x1x4x4, .f32⟩
  | 6 => ⟨S1x147456x8x1x1, .f32⟩
  | 7 => ⟨S1x147456x8x4x4, .f32⟩
  | 8 => ⟨S1x147456x8x4x4, .f32⟩
  | 9 => ⟨S1x147456x8x4x4, .f32⟩
  | 10 => ⟨S1x147456x1x3x4, .f32⟩
  | 11 => ⟨S1x147456x8x1x1, .f32⟩
  | 12 => ⟨S1x147456x8x3x4, .f32⟩
  | 13 => ⟨S1x147456x8x3x4, .f32⟩
  | 14 => ⟨S1x147456x8x3x4, .f32⟩
  | 15 => ⟨S1x1179648x4x4, .f32⟩
  | 16 => ⟨S1x1179648x3x4, .f32⟩
  | 17 => ⟨S1x1179648, .i32⟩
  | 18 => ⟨S1, .i32⟩
  | 19 => ⟨S_, .i32⟩
  | 20 => ⟨S1, .i32⟩
  | 21 => ⟨S1, .i32⟩
  | 22 => ⟨S1x1, .i32⟩
  | 23 => ⟨S1x1179648, .i32⟩
  | 24 => ⟨S1x1179648, .i32⟩
  | 25 => ⟨S1179648, .i32⟩
  | 26 => ⟨S1179648x4x4, .f32⟩
  | 27 => ⟨S1179648x3x4, .f32⟩
  | 28 => ⟨S_, .f32⟩
  | 29 => ⟨S9216x4x4, .f32⟩
  | 30 => ⟨S_, .i32⟩
  | 31 => ⟨S1179648, .i32⟩
  | 32 => ⟨S1179648, .i1⟩
  | 33 => ⟨S_, .i32⟩
  | 34 => ⟨S1179648, .i32⟩
  | 35 => ⟨S1179648, .i32⟩
  | 36 => ⟨S1179648, .i32⟩
  | 37 => ⟨S1179648x1, .i32⟩
  | 38 => ⟨S9216x4x4, .f32⟩
  | 39 => ⟨S_, .f32⟩
  | 40 => ⟨S9216x3x4, .f32⟩
  | 41 => ⟨S_, .i32⟩
  | 42 => ⟨S1179648, .i32⟩
  | 43 => ⟨S1179648, .i1⟩
  | 44 => ⟨S_, .i32⟩
  | 45 => ⟨S1179648, .i32⟩
  | 46 => ⟨S1179648, .i32⟩
  | 47 => ⟨S1179648, .i32⟩
  | 48 => ⟨S1179648x1, .i32⟩
  | 49 => ⟨S9216x3x4, .f32⟩
  | 50 => ⟨S1x9216x4x4, .f32⟩
  | 51 => ⟨S1x9216x3x4, .f32⟩
  | 52 => ⟨S4x4, .i32⟩
  | 53 => ⟨S4x4, .i32⟩
  | 54 => ⟨S_, .i32⟩
  | 55 => ⟨S4x4, .i32⟩
  | 56 => ⟨S4x4, .i32⟩
  | 57 => ⟨S4x4, .i1⟩
  | 58 => ⟨S4x4, .f32⟩
  | 59 => ⟨S1x1x4x4, .f32⟩
  | 60 => ⟨S1x9216x1x1, .f32⟩
  | 61 => ⟨S1x9216, .f32⟩
  | 62 => ⟨S_, .f32⟩
  | 63 => ⟨S1x9216, .f32⟩
  | 64 => ⟨S1x9216, .f32⟩
  | 65 => ⟨S_, .f32⟩
  | 66 => ⟨S1x9216, .f32⟩
  | 67 => ⟨S1x9216, .f32⟩
  | 68 => ⟨S1x9216x1x1, .f32⟩
  | 69 => ⟨S1x9216x4x4, .f32⟩
  | 70 => ⟨S1x9216x4x4, .f32⟩
  | 71 => ⟨S1x9216x4x4, .f32⟩
  | 72 => ⟨S1x9216x4x4, .f32⟩
  | 73 => ⟨S_, .f32⟩
  | 74 => ⟨S1x4x4, .f32⟩
  | 75 => ⟨S_, .f32⟩
  | 76 => ⟨S1x3x4, .f32⟩
  | 77 => ⟨S_, .f32⟩
  | 78 => ⟨S1, .f32⟩
  | 79 => ⟨S_, .f32⟩
  | 80 => ⟨S1, .f32⟩
  | 81 => ⟨S1, .f32⟩
  | 82 => ⟨S_, .f32⟩
  | 83 => ⟨S1, .f32⟩
  | 84 => ⟨S1, .f32⟩
  | 85 => ⟨S1x3x1, .f32⟩
  | 86 => ⟨S1x3, .f32⟩
  | 87 => ⟨S1x3x1, .f32⟩
  | 88 => ⟨S1x3, .f32⟩
  | 89 => ⟨S1x1, .f32⟩
  | 90 => ⟨S1x3, .f32⟩
  | 91 => ⟨S1x3, .f32⟩
  | 92 => ⟨S1x3, .f32⟩
  | 93 => ⟨S1x1x3, .f32⟩
  | 94 => ⟨S1x9216x3, .f32⟩
  | 95 => ⟨S1x9216x3x1, .f32⟩
  | 96 => ⟨S1x9216x3, .f32⟩
  | 97 => ⟨S1x9216x3x1, .f32⟩
  | 98 => ⟨S1x9216x3, .f32⟩
  | 99 => ⟨S1x9216x1, .f32⟩
  | 100 => ⟨S1x9216x3, .f32⟩
  | 101 => ⟨S1x9216x3, .f32⟩
  | 102 => ⟨S1x9216x3, .f32⟩
  | 103 => ⟨S_, .f32⟩
  | 104 => ⟨S1x9216, .f32⟩
  | 105 => ⟨S1x9216, .i1⟩
  | 106 => ⟨S1x9216x1, .i1⟩
  | 107 => ⟨S1x9216x3, .i1⟩
  | 108 => ⟨S1x9216x3, .f32⟩
  | 109 => ⟨S3x3, .i32⟩
  | 110 => ⟨S3x3, .i32⟩
  | 111 => ⟨S_, .i32⟩
  | 112 => ⟨S3x3, .i32⟩
  | 113 => ⟨S3x3, .i32⟩
  | 114 => ⟨S3x3, .i1⟩
  | 115 => ⟨S3x3, .f32⟩
  | 116 => ⟨S_, .f32⟩
  | 117 => ⟨S1x9216x3x4, .f32⟩
  | 118 => ⟨S1x9216x3x1, .f32⟩
  | 119 => ⟨S1x1x3x3, .f32⟩
  | 120 => ⟨S1x9216x3x3, .f32⟩
  | 121 => ⟨S1x9216x3x3, .f32⟩
  | 122 => ⟨S1x9216x3x3, .f32⟩
  | 123 => ⟨S_, .i32⟩
  | 124 => ⟨S1, .i32⟩
  | 125 => ⟨S1x9216x3x4, .f32⟩
  | 126 => ⟨S1x9216x1x1, .f32⟩
  | 127 => ⟨S1x9216x3x4, .f32⟩
  | _ => ⟨S1x3x384x384, .f32⟩

abbrev hbmTy0_3 (i : Nat) : BufTy := match i % 128 with
  | 0 => ⟨S1x9216x3x4, .f32⟩
  | 1 => ⟨S1x9216x3x4, .f32⟩
  | 2 => ⟨S1x9216x4x4, .f32⟩
  | 3 => ⟨S1x9216x4x3, .f32⟩
  | 4 => ⟨S1x9216x4x7, .f32⟩
  | 5 => ⟨S4, .i32⟩
  | 6 => ⟨S4x1, .i32⟩
  | 7 => ⟨S1x9216x1x7, .f32⟩
  | 8 => ⟨S1x9216x1x1, .f32⟩
  | 9 => ⟨S1x9216x1x7, .f32⟩
  | 10 => ⟨S1x9216x1x7, .f32⟩
  | 11 => ⟨S_, .i32⟩
  | 12 => ⟨S4x1, .i32⟩
  | 13 => ⟨S4x1, .i1⟩
  | 14 => ⟨S1x9216x4x1, .f32⟩
  | 15 => ⟨S1x9216x4x7, .f32⟩
  | 16 => ⟨S1x9216x4x7, .f32⟩
  | 17 => ⟨S1x9216x4x7, .f32⟩
  | 18 => ⟨S1x9216x4x7, .f32⟩
  | 19 => ⟨S1x9216x4x7, .i1⟩
  | 20 => ⟨S1x9216x4x7, .f32⟩
  | 21 => ⟨S1x9216x4x7, .f32⟩
  | 22 => ⟨S1x9216x1x7, .f32⟩
  | 23 => ⟨S1x9216x1x1, .f32⟩
  | 24 => ⟨S1x9216x1x7, .f32⟩
  | 25 => ⟨S1x9216x1x7, .f32⟩
  | 26 => ⟨S_, .i32⟩
  | 27 => ⟨S4x1, .i32⟩
  | 28 => ⟨S4x1, .i1⟩
  | 29 => ⟨S1x9216x4x1, .f32⟩
  | 30 => ⟨S1x9216x4x7, .f32⟩
  | 31 => ⟨S1x9216x4x7, .f32⟩
  | 32 => ⟨S1x9216x4x7, .f32⟩
  | 33 => ⟨S1x9216x4x7, .f32⟩
  | 34 => ⟨S1x9216x4x7, .i1⟩
  | 35 => ⟨S1x9216x4x7, .f32⟩
  | 36 => ⟨S1x9216x4x7, .f32⟩
  | 37 => ⟨S1x9216x1x7, .f32⟩
  | 38 => ⟨S1x9216x1x1, .f32⟩
  | 39 => ⟨S1x9216x1x7, .f32⟩
  | 40 => ⟨S1x9216x1x7, .f32⟩
  | 41 => ⟨S_, .i32⟩
  | 42 => ⟨S4x1, .i32⟩
  | 43 => ⟨S4x1, .i1⟩
  | 44 => ⟨S1x9216x4x1, .f32⟩
  | 45 => ⟨S1x9216x4x7, .f32⟩
  | 46 => ⟨S1x9216x4x7, .f32⟩
  | 47 => ⟨S1x9216x4x7, .f32⟩
  | 48 => ⟨S1x9216x4x7, .f32⟩
  | 49 => ⟨S1x9216x4x7, .i1⟩
  | 50 => ⟨S1x9216x4x7, .f32⟩
  | 51 => ⟨S1x9216x4x7, .f32⟩
  | 52 => ⟨S1x9216x1x7, .f32⟩
  | 53 => ⟨S1x9216x1x1, .f32⟩
  | 54 => ⟨S1x9216x1x7, .f32⟩
  | 55 => ⟨S1x9216x1x7, .f32⟩
  | 56 => ⟨S_, .i32⟩
  | 57 => ⟨S4x1, .i32⟩
  | 58 => ⟨S4x1, .i1⟩
  | 59 => ⟨S1x9216x4x1, .f32⟩
  | 60 => ⟨S1x9216x4x7, .f32⟩
  | 61 => ⟨S1x9216x4x7, .f32⟩
  | 62 => ⟨S1x9216x4x7, .f32⟩
  | 63 => ⟨S1x9216x4x7, .f32⟩
  | 64 => ⟨S1x9216x4x7, .i1⟩
  | 65 => ⟨S1x9216x4x7, .f32⟩
  | 66 => ⟨S1x9216x4x7, .f32⟩
  | 67 => ⟨S1x9216x4x3, .f32⟩
  | 68 => ⟨S1x9216x3x4, .f32⟩
  | 69 => ⟨S1x24x24x16x3x4, .f32⟩
  | _ => ⟨S1x3x384x384, .f32⟩

abbrev hbmTy (i : Nat) : BufTy := match i / 128 with
  | 0 => hbmTy0_0 i
  | 1 => hbmTy0_1 i
  | 2 => hbmTy0_2 i
  | 3 => hbmTy0_3 i
  | _ => ⟨S1x3x384x384, .f32⟩

abbrev bufTy : (tb : Table) → Fin (tcTables nBuf tb) → BufTy
  | .hbm, ⟨i, _⟩ => hbmTy i
  | _, _ => ⟨S1x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v5 : Ref sig .tc := ⟨.hbm, 32, rfl⟩
abbrev main_cst_1 : Ref sig .tc := ⟨.hbm, 33, rfl⟩
abbrev main_c_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_cst : Ref sig .tc := ⟨.hbm, 38, rfl⟩
abbrev main_call1_v3 : Ref sig .tc := ⟨.hbm, 39, rfl⟩
abbrev main_call1_v4 : Ref sig .tc := ⟨.hbm, 40, rfl⟩
abbrev main_call1_cst_0 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_cst_1 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_v15 : Ref sig .tc := ⟨.hbm, 53, rfl⟩
abbrev main_call1_v16 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_cst_3 : Ref sig .tc := ⟨.hbm, 60, rfl⟩
abbrev main_v11 : Ref sig .tc := ⟨.hbm, 61, rfl⟩
abbrev main_v12 : Ref sig .tc := ⟨.hbm, 62, rfl⟩
abbrev main_cst_4 : Ref sig .tc := ⟨.hbm, 63, rfl⟩
abbrev main_v13 : Ref sig .tc := ⟨.hbm, 64, rfl⟩
abbrev main_v14 : Ref sig .tc := ⟨.hbm, 65, rfl⟩
abbrev main_cst_5 : Ref sig .tc := ⟨.hbm, 66, rfl⟩
abbrev main_v15 : Ref sig .tc := ⟨.hbm, 67, rfl⟩
abbrev main_v16 : Ref sig .tc := ⟨.hbm, 68, rfl⟩
abbrev main_cst_6 : Ref sig .tc := ⟨.hbm, 69, rfl⟩
abbrev main_v17 : Ref sig .tc := ⟨.hbm, 70, rfl⟩
abbrev main_v18 : Ref sig .tc := ⟨.hbm, 71, rfl⟩
abbrev main_cst_7 : Ref sig .tc := ⟨.hbm, 72, rfl⟩
abbrev main_v19 : Ref sig .tc := ⟨.hbm, 73, rfl⟩
abbrev main_v20 : Ref sig .tc := ⟨.hbm, 74, rfl⟩
abbrev main_cst_8 : Ref sig .tc := ⟨.hbm, 75, rfl⟩
abbrev main_v21 : Ref sig .tc := ⟨.hbm, 76, rfl⟩
abbrev main_v22 : Ref sig .tc := ⟨.hbm, 77, rfl⟩
abbrev main_cst_9 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_c_10 : Ref sig .tc := ⟨.hbm, 83, rfl⟩
abbrev main_c_11 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_c_12 : Ref sig .tc := ⟨.hbm, 93, rfl⟩
abbrev main_c_13 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_c_14 : Ref sig .tc := ⟨.hbm, 103, rfl⟩
abbrev main_c_15 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_v33 : Ref sig .tc := ⟨.hbm, 110, rfl⟩
abbrev main_c_16 : Ref sig .tc := ⟨.hbm, 111, rfl⟩
abbrev main_v34 : Ref sig .tc := ⟨.hbm, 112, rfl⟩
abbrev main_v35 : Ref sig .tc := ⟨.hbm, 113, rfl⟩
abbrev main_c_17 : Ref sig .tc := ⟨.hbm, 114, rfl⟩
abbrev main_v36 : Ref sig .tc := ⟨.hbm, 115, rfl⟩
abbrev main_v37 : Ref sig .tc := ⟨.hbm, 116, rfl⟩
abbrev main_c_18 : Ref sig .tc := ⟨.hbm, 117, rfl⟩
abbrev main_v38 : Ref sig .tc := ⟨.hbm, 118, rfl⟩
abbrev main_v39 : Ref sig .tc := ⟨.hbm, 119, rfl⟩
abbrev main_c_19 : Ref sig .tc := ⟨.hbm, 120, rfl⟩
abbrev main_v40 : Ref sig .tc := ⟨.hbm, 121, rfl⟩
abbrev main_v41 : Ref sig .tc := ⟨.hbm, 122, rfl⟩
abbrev main_c_20 : Ref sig .tc := ⟨.hbm, 123, rfl⟩
abbrev main_v42 : Ref sig .tc := ⟨.hbm, 124, rfl⟩
abbrev main_v43 : Ref sig .tc := ⟨.hbm, 125, rfl⟩
abbrev main_c_21 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_cst_22 : Ref sig .tc := ⟨.hbm, 171, rfl⟩
abbrev main_v88 : Ref sig .tc := ⟨.hbm, 172, rfl⟩
abbrev main_v89 : Ref sig .tc := ⟨.hbm, 173, rfl⟩
abbrev main_cst_23 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_cst_24 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_cst_25 : Ref sig .tc := ⟨.hbm, 182, rfl⟩
abbrev main_v96 : Ref sig .tc := ⟨.hbm, 183, rfl⟩
abbrev main_v97 : Ref sig .tc := ⟨.hbm, 184, rfl⟩
abbrev main_cst_26 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_cst_27 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_cst_28 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_cst_29 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_cst_30 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_cst_31 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_cst_32 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_cst_33 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_c_34 : Ref sig .tc := ⟨.hbm, 232, rfl⟩
abbrev main_v137 : Ref sig .tc := ⟨.hbm, 233, rfl⟩
abbrev main_v138 : Ref sig .tc := ⟨.hbm, 234, rfl⟩
abbrev main_c_35 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_cst_36 : Ref sig .tc := ⟨.hbm, 243, rfl⟩
abbrev main_v146 : Ref sig .tc := ⟨.hbm, 244, rfl⟩
abbrev main_cst_37 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_c_38 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_cst_39 : Ref sig .tc := ⟨.hbm, 284, rfl⟩
abbrev main_v184 : Ref sig .tc := ⟨.hbm, 285, rfl⟩
abbrev main_c_40 : Ref sig .tc := ⟨.hbm, 286, rfl⟩
abbrev main_v185 : Ref sig .tc := ⟨.hbm, 287, rfl⟩
abbrev main_v186 : Ref sig .tc := ⟨.hbm, 288, rfl⟩
abbrev main_c_41 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_cst_42 : Ref sig .tc := ⟨.hbm, 295, rfl⟩
abbrev main_v192 : Ref sig .tc := ⟨.hbm, 296, rfl⟩
abbrev main_c_43 : Ref sig .tc := ⟨.hbm, 297, rfl⟩
abbrev main_v193 : Ref sig .tc := ⟨.hbm, 298, rfl⟩
abbrev main_v194 : Ref sig .tc := ⟨.hbm, 299, rfl⟩
abbrev main_c_44 : Ref sig .tc := ⟨.hbm, 300, rfl⟩
abbrev main_v195 : Ref sig .tc := ⟨.hbm, 301, rfl⟩
abbrev main_v196 : Ref sig .tc := ⟨.hbm, 302, rfl⟩
abbrev main_v197 : Ref sig .tc := ⟨.hbm, 303, rfl⟩
abbrev main_v198 : Ref sig .tc := ⟨.hbm, 304, rfl⟩
abbrev main_v199 : Ref sig .tc := ⟨.hbm, 305, rfl⟩
abbrev main_v200 : Ref sig .tc := ⟨.hbm, 306, rfl⟩
abbrev main_v201 : Ref sig .tc := ⟨.hbm, 307, rfl⟩
abbrev main_v202 : Ref sig .tc := ⟨.hbm, 308, rfl⟩
abbrev main_v203 : Ref sig .tc := ⟨.hbm, 309, rfl⟩
abbrev main_c_45 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_v209 : Ref sig .tc := ⟨.hbm, 316, rfl⟩
abbrev main_v210 : Ref sig .tc := ⟨.hbm, 317, rfl⟩
abbrev main_cst_46 : Ref sig .tc := ⟨.hbm, 318, rfl⟩
abbrev main_v211 : Ref sig .tc := ⟨.hbm, 319, rfl⟩
abbrev main_v212 : Ref sig .tc := ⟨.hbm, 320, rfl⟩
abbrev main_cst_47 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_v218 : Ref sig .tc := ⟨.hbm, 327, rfl⟩
abbrev main_v219 : Ref sig .tc := ⟨.hbm, 328, rfl⟩
abbrev main_cst_48 : Ref sig .tc := ⟨.hbm, 329, rfl⟩
abbrev main_v220 : Ref sig .tc := ⟨.hbm, 330, rfl⟩
abbrev main_cst_49 : Ref sig .tc := ⟨.hbm, 331, rfl⟩
abbrev main_v221 : Ref sig .tc := ⟨.hbm, 332, rfl⟩
abbrev main_cst_50 : Ref sig .tc := ⟨.hbm, 333, rfl⟩
abbrev main_v222 : Ref sig .tc := ⟨.hbm, 334, rfl⟩
abbrev main_cst_51 : Ref sig .tc := ⟨.hbm, 335, rfl⟩
abbrev main_v223 : Ref sig .tc := ⟨.hbm, 336, rfl⟩
abbrev main_v224 : Ref sig .tc := ⟨.hbm, 337, rfl⟩
abbrev main_cst_52 : Ref sig .tc := ⟨.hbm, 338, rfl⟩
abbrev main_v225 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_v234 : Ref sig .tc := ⟨.hbm, 348, rfl⟩
abbrev main_v235 : Ref sig .tc := ⟨.hbm, 349, rfl⟩
abbrev main_v236 : Ref sig .tc := ⟨.hbm, 350, rfl⟩
abbrev main_v237 : Ref sig .tc := ⟨.hbm, 351, rfl⟩
abbrev main_v238 : Ref sig .tc := ⟨.hbm, 352, rfl⟩
abbrev main_v239 : Ref sig .tc := ⟨.hbm, 353, rfl⟩
abbrev main_v240 : Ref sig .tc := ⟨.hbm, 354, rfl⟩
abbrev main_v241 : Ref sig .tc := ⟨.hbm, 355, rfl⟩
abbrev main_v242 : Ref sig .tc := ⟨.hbm, 356, rfl⟩
abbrev main_v243 : Ref sig .tc := ⟨.hbm, 357, rfl⟩
abbrev main_v244 : Ref sig .tc := ⟨.hbm, 358, rfl⟩
abbrev main_cst_53 : Ref sig .tc := ⟨.hbm, 359, rfl⟩
abbrev main_v245 : Ref sig .tc := ⟨.hbm, 360, rfl⟩
abbrev main_v246 : Ref sig .tc := ⟨.hbm, 361, rfl⟩
abbrev main_v247 : Ref sig .tc := ⟨.hbm, 362, rfl⟩
abbrev main_call5_v0 : Ref sig .tc := ⟨.hbm, 363, rfl⟩
abbrev main_v248 : Ref sig .tc := ⟨.hbm, 364, rfl⟩
abbrev main_v249 : Ref sig .tc := ⟨.hbm, 365, rfl⟩
abbrev main_v250 : Ref sig .tc := ⟨.hbm, 366, rfl⟩
abbrev main_c_54 : Ref sig .tc := ⟨.hbm, 367, rfl⟩
abbrev main_v251 : Ref sig .tc := ⟨.hbm, 368, rfl⟩
abbrev main_v252 : Ref sig .tc := ⟨.hbm, 369, rfl⟩
abbrev main_v253 : Ref sig .tc := ⟨.hbm, 370, rfl⟩
abbrev main_v254 : Ref sig .tc := ⟨.hbm, 371, rfl⟩
abbrev main_cst_55 : Ref sig .tc := ⟨.hbm, 372, rfl⟩
abbrev main_v255 : Ref sig .tc := ⟨.hbm, 373, rfl⟩
abbrev main_v256 : Ref sig .tc := ⟨.hbm, 374, rfl⟩
abbrev main_v257 : Ref sig .tc := ⟨.hbm, 375, rfl⟩
abbrev main_v258 : Ref sig .tc := ⟨.hbm, 376, rfl⟩
abbrev main_v259 : Ref sig .tc := ⟨.hbm, 377, rfl⟩
abbrev main_v260 : Ref sig .tc := ⟨.hbm, 378, rfl⟩
abbrev main_c_56 : Ref sig .tc := ⟨.hbm, 379, rfl⟩
abbrev main_v261 : Ref sig .tc := ⟨.hbm, 380, rfl⟩
abbrev main_v262 : Ref sig .tc := ⟨.hbm, 381, rfl⟩
abbrev main_v263 : Ref sig .tc := ⟨.hbm, 382, rfl⟩
abbrev main_v264 : Ref sig .tc := ⟨.hbm, 383, rfl⟩
abbrev main_v265 : Ref sig .tc := ⟨.hbm, 384, rfl⟩
abbrev main_v266 : Ref sig .tc := ⟨.hbm, 385, rfl⟩
abbrev main_v267 : Ref sig .tc := ⟨.hbm, 386, rfl⟩
abbrev main_v268 : Ref sig .tc := ⟨.hbm, 387, rfl⟩
abbrev main_v269 : Ref sig .tc := ⟨.hbm, 388, rfl⟩
abbrev main_v270 : Ref sig .tc := ⟨.hbm, 389, rfl⟩
abbrev main_v271 : Ref sig .tc := ⟨.hbm, 390, rfl⟩
abbrev main_v272 : Ref sig .tc := ⟨.hbm, 391, rfl⟩
abbrev main_v273 : Ref sig .tc := ⟨.hbm, 392, rfl⟩
abbrev main_v274 : Ref sig .tc := ⟨.hbm, 393, rfl⟩
abbrev main_v275 : Ref sig .tc := ⟨.hbm, 394, rfl⟩
abbrev main_c_57 : Ref sig .tc := ⟨.hbm, 395, rfl⟩
abbrev main_v276 : Ref sig .tc := ⟨.hbm, 396, rfl⟩
abbrev main_v277 : Ref sig .tc := ⟨.hbm, 397, rfl⟩
abbrev main_v278 : Ref sig .tc := ⟨.hbm, 398, rfl⟩
abbrev main_v279 : Ref sig .tc := ⟨.hbm, 399, rfl⟩
abbrev main_v280 : Ref sig .tc := ⟨.hbm, 400, rfl⟩
abbrev main_v281 : Ref sig .tc := ⟨.hbm, 401, rfl⟩
abbrev main_v282 : Ref sig .tc := ⟨.hbm, 402, rfl⟩
abbrev main_call6_v0 : Ref sig .tc := ⟨.hbm, 403, rfl⟩
abbrev main_call6_v1 : Ref sig .tc := ⟨.hbm, 404, rfl⟩
abbrev main_v283 : Ref sig .tc := ⟨.hbm, 405, rfl⟩
abbrev main_v284 : Ref sig .tc := ⟨.hbm, 406, rfl⟩
abbrev main_v285 : Ref sig .tc := ⟨.hbm, 407, rfl⟩
abbrev main_v286 : Ref sig .tc := ⟨.hbm, 408, rfl⟩
abbrev main_v287 : Ref sig .tc := ⟨.hbm, 409, rfl⟩
abbrev main_c_58 : Ref sig .tc := ⟨.hbm, 410, rfl⟩
abbrev main_v288 : Ref sig .tc := ⟨.hbm, 411, rfl⟩
abbrev main_v289 : Ref sig .tc := ⟨.hbm, 412, rfl⟩
abbrev main_v290 : Ref sig .tc := ⟨.hbm, 413, rfl⟩
abbrev main_v291 : Ref sig .tc := ⟨.hbm, 414, rfl⟩
abbrev main_v292 : Ref sig .tc := ⟨.hbm, 415, rfl⟩
abbrev main_v293 : Ref sig .tc := ⟨.hbm, 416, rfl⟩
abbrev main_v294 : Ref sig .tc := ⟨.hbm, 417, rfl⟩
abbrev main_call7_v0 : Ref sig .tc := ⟨.hbm, 418, rfl⟩
abbrev main_call7_v1 : Ref sig .tc := ⟨.hbm, 419, rfl⟩
abbrev main_v295 : Ref sig .tc := ⟨.hbm, 420, rfl⟩
abbrev main_v296 : Ref sig .tc := ⟨.hbm, 421, rfl⟩
abbrev main_v297 : Ref sig .tc := ⟨.hbm, 422, rfl⟩
abbrev main_v298 : Ref sig .tc := ⟨.hbm, 423, rfl⟩
abbrev main_v299 : Ref sig .tc := ⟨.hbm, 424, rfl⟩
abbrev main_c_59 : Ref sig .tc := ⟨.hbm, 425, rfl⟩
abbrev main_v300 : Ref sig .tc := ⟨.hbm, 426, rfl⟩
abbrev main_v301 : Ref sig .tc := ⟨.hbm, 427, rfl⟩
abbrev main_v302 : Ref sig .tc := ⟨.hbm, 428, rfl⟩
abbrev main_v303 : Ref sig .tc := ⟨.hbm, 429, rfl⟩
abbrev main_v304 : Ref sig .tc := ⟨.hbm, 430, rfl⟩
abbrev main_v305 : Ref sig .tc := ⟨.hbm, 431, rfl⟩
abbrev main_v306 : Ref sig .tc := ⟨.hbm, 432, rfl⟩
abbrev main_call8_v0 : Ref sig .tc := ⟨.hbm, 433, rfl⟩
abbrev main_call8_v1 : Ref sig .tc := ⟨.hbm, 434, rfl⟩
abbrev main_v307 : Ref sig .tc := ⟨.hbm, 435, rfl⟩
abbrev main_v308 : Ref sig .tc := ⟨.hbm, 436, rfl⟩
abbrev main_v309 : Ref sig .tc := ⟨.hbm, 437, rfl⟩
abbrev main_v310 : Ref sig .tc := ⟨.hbm, 438, rfl⟩
abbrev main_v311 : Ref sig .tc := ⟨.hbm, 439, rfl⟩
abbrev main_c_60 : Ref sig .tc := ⟨.hbm, 440, rfl⟩
abbrev main_v312 : Ref sig .tc := ⟨.hbm, 441, rfl⟩
abbrev main_v313 : Ref sig .tc := ⟨.hbm, 442, rfl⟩
abbrev main_v314 : Ref sig .tc := ⟨.hbm, 443, rfl⟩
abbrev main_v315 : Ref sig .tc := ⟨.hbm, 444, rfl⟩
abbrev main_v316 : Ref sig .tc := ⟨.hbm, 445, rfl⟩
abbrev main_v317 : Ref sig .tc := ⟨.hbm, 446, rfl⟩
abbrev main_v318 : Ref sig .tc := ⟨.hbm, 447, rfl⟩
abbrev main_call9_v0 : Ref sig .tc := ⟨.hbm, 448, rfl⟩
abbrev main_call9_v1 : Ref sig .tc := ⟨.hbm, 449, rfl⟩
abbrev main_v319 : Ref sig .tc := ⟨.hbm, 450, rfl⟩
abbrev main_v320 : Ref sig .tc := ⟨.hbm, 451, rfl⟩
abbrev main_v321 : Ref sig .tc := ⟨.hbm, 452, rfl⟩
abbrev main_v322 : Ref sig .tc := ⟨.hbm, 453, rfl⟩

abbrev nD : Nat := 1
abbrev τ : Topo := Topo.v7x

variable {F : FTy → Type} [FloatOps F]
-- ==== Proof.Pre.lean ====
/- What the precondition says of the arguments, read entry by entry: the input, the guide and the weight are nonnegative
   reals, the output image is real, and the weight is one number everywhere. -/
module

public import proofs.«01_k».proof.Defs
public import Idealize.ShloMosaic.Lib.Pointwise

@[expose] public section

noncomputable section

namespace Cert.BguPre

open Idealize.ShloMosaic Idealize.ShloMosaic.Tactic
open Cert.Pre_well_posed

/-- The precondition's shapes hold. -/
theorem facts : Cert.Pre_well_posed.Facts where
  bcast_S_S1x3x384x384 := by decide
  bcast_S_S1x1x384x384 := by decide
  slices_S1x3x384x384_S1x1x1x1_0_0_0_0 := by decide
  bcast_S1x1x1x1_S1x3x384x384_0_1_2_3 := by decide

theorem andi_one (a b : BitVec 1) (h : IntOp.andi a b = 1#1) : a = 1#1 ∧ b = 1#1 := by
  revert a b
  decide

theorem ofBool_one (p : Prop) [Decidable p] (h : BitVec.ofBool (decide p) = 1#1) : p := by
  by_cases hp : p
  · exact hp
  · rw [decide_eq_false hp] at h
    exact absurd h (by decide)

theorem lit_inf : Ideal.ofBits .f32 2139095040#32 = (⊤ : EReal) := by
  simp [Ideal.ofBits, Ideal.ieee]

theorem lit_ninf : Ideal.ofBits .f32 4286578688#32 = (⊥ : EReal) := by
  simp [Ideal.ofBits, Ideal.ieee]

theorem real_of (v : EReal) (h0 : 0 ≤ v) (h1 : v < ⊤) : v = ((v.toReal : ℝ) : EReal) ∧ 0 ≤ v.toReal :=
  ⟨(EReal.coe_toReal (ne_of_lt h1) (ne_of_gt (lt_of_lt_of_le EReal.bot_lt_zero h0))).symm, EReal.toReal_nonneg h0⟩

variable [Cert.Pre_well_posed.Facts]
variable (x0 : FVec Ideal S1x3x384x384 .f32) (x1 : FVec Ideal S1x1x384x384 .f32) (x2 x3 : FVec Ideal S1x3x384x384 .f32)

/-- The input image. -/
theorem p0 (h : (fn (F := Ideal) x0 x1 x2 x3).1 = fun _ => 1#1) (k : Fin 3) (y x : Fin 384) :
    x0 (ix4 0 k y x) = (((x0 (ix4 0 k y x)).toReal : ℝ) : EReal) ∧ 0 ≤ (x0 (ix4 0 k y x)).toReal := by
  have e := congrFun h (ix4 0 k y x)
  unfold fn fn_part1 at e
  dsimp only at e
  revert e
  pointwise
  intro e
  obtain ⟨e1, e2⟩ := andi_one _ _ e
  have h1 := ofBool_one _ e1
  have h2 := ofBool_one _ e2
  rw [lit_inf] at h2
  exact real_of _ h1 h2

/-- The guide image. -/
theorem p1 (h : (fn (F := Ideal) x0 x1 x2 x3).2.1 = fun _ => 1#1) (y x : Fin 384) :
    x1 (ix4 0 0 y x) = (((x1 (ix4 0 0 y x)).toReal : ℝ) : EReal) ∧ 0 ≤ (x1 (ix4 0 0 y x)).toReal := by
  have e := congrFun h (ix4 0 0 y x)
  unfold fn fn_part1 at e
  dsimp only at e
  revert e
  pointwise
  intro e
  obtain ⟨e1, e2⟩ := andi_one _ _ e
  have h1 := ofBool_one _ e1
  have h2 := ofBool_one _ e2
  rw [lit_inf] at h2
  exact real_of _ h1 h2

/-- The output image. -/
theorem p2 (h : (fn (F := Ideal) x0 x1 x2 x3).2.2.1 = fun _ => 1#1) (k : Fin 3) (y x : Fin 384) :
    x2 (ix4 0 k y x) = (((x2 (ix4 0 k y x)).toReal : ℝ) : EReal) := by
  have e := congrFun h (ix4 0 k y x)
  unfold fn fn_part1 at e
  dsimp only at e
  revert e
  pointwise
  intro e
  obtain ⟨e1, e2⟩ := andi_one _ _ e
  have h1 := ofBool_one _ e1
  have h2 := ofBool_one _ e2
  rw [lit_ninf] at h1
  rw [lit_inf] at h2
  exact (EReal.coe_toReal (ne_of_lt h2) (ne_of_gt h1)).symm

/-- The weight image. -/
theorem p3 (h : (fn (F := Ideal) x0 x1 x2 x3).2.2.2 = fun _ => 1#1) (k : Fin 3) (y x : Fin 384) :
    x3 (ix4 0 k y x) = (((x3 (ix4 0 0 0 0)).toReal : ℝ) : EReal) ∧ 0 ≤ (x3 (ix4 0 0 0 0)).toReal := by
  have e := congrFun h (ix4 0 k y x)
  unfold fn fn_part1 at e
  dsimp only at e
  revert e
  pointwise
  intro e
  obtain ⟨e12, e3⟩ := andi_one _ _ e
  obtain ⟨e1, e2⟩ := andi_one _ _ e12
  have h1 := ofBool_one _ e1
  have h2 := ofBool_one _ e2
  have h3 := ofBool_one _ e3
  rw [lit_inf] at h2
  rw [h3] at h1 h2 ⊢
  exact real_of _ h1 h2

end Cert.BguPre

end
-- ==== Proof.Frames.lean ====
/- The frames of the three programs and the one named constant: every run ends, faults nowhere, leaves the arguments as
   they were and every counter at zero; the kernel's third is the rational one third, whose float is the printed word. -/
module

public import proofs.«01_k».proof.Defs
public import proofs.«01_k».proof.Proof.Pre
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent
public import Idealize.ShloMosaic.Adequacy

@[expose] public section

noncomputable section

namespace Cert.BguClaims

open Idealize.ShloMosaic Idealize.SL.Sem

/-- The kernel at the hardware's floats. -/
theorem frame_p : Cert.quiescent_Kernel := fun m ρ _ => Cert.Kernel.Gen.frame m ρ

/-- The kernel at exact arithmetic. -/
theorem frame_pi : Cert.quiescent_KernelIdeal := fun m ρ _ => Cert.KernelIdeal.Gen.frame m ρ

/-- The reference at exact arithmetic: it has no semaphore, so every counter is zero. -/
theorem frame_ri : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The kernel at exact arithmetic, on the inputs the precondition names. -/
theorem frame_pi_pre : Cert.quiescent_KernelIdeal_pre_well_posed (hPre_well_posed := BguPre.facts) :=
  fun m ρ _ => Cert.KernelIdeal.Gen.frame m ρ

/-- The reference at exact arithmetic, on the inputs the precondition names. -/
theorem frame_ri_pre : Cert.quiescent_ReferenceIdeal_pre_well_posed (hPre_well_posed := BguPre.facts) := fun m ρ _ =>
  (θ_run Cert.ReferenceIdeal.defs _ _).mono
    (fun r h => ⟨fun c => (h c).2, sem_eq_zero_of_no_sems (by decide) r.2⟩) (Cert.ReferenceIdeal.Value.run m ρ)

/-- The one rewritten constant. -/
theorem preserves : Cert.preserves_Kernel_KernelIdeal :=
  IdealRules.named_const.statement Cert.KernelIdeal.κ "third" .f32 0x3EAAAAAB#32 ((1 / 3 : ℝ) : EReal) rfl

end Cert.BguClaims

end
-- ==== Proof.Hat.lean ====
/- The interpolation weights over the reals, and the words that name a grid coordinate: a floor converted to an integer
   and clamped is the small natural number it should be. -/
module

public import Idealize.ShloMosaic.PureOps
public import Idealize.ShloMosaic.PureOps.Ideal.Laws
public import Idealize.ShloMosaic.Lib.Claim
public import Mathlib.Tactic.FieldSimp
public import Mathlib.Tactic.Linarith
public import Mathlib.Tactic.Positivity
public import Mathlib.Tactic.Ring

@[expose] public section

noncomputable section

namespace Cert.BguHat

open Idealize.ShloMosaic

/-- The guide cell of a guide value. -/
def zc (r : ℝ) : ℕ := min 15 ⌊r * 15⌋₊

/-- The guide weight within the cell. -/
def wz (r : ℝ) : ℝ := r * 15 - zc r

/-- The weight of guide level `z` at a guide value. -/
def hz (z : Fin 16) (r : ℝ) : ℝ :=
  (if zc r = z.val then 1 - wz r else 0) + (if min (zc r + 1) 15 = z.val then wz r else 0)

/-- The grid cell of a pixel's coordinate. -/
def qc (i : Fin 384) : ℕ := (46 * i.val + 23) / 768

/-- The weight within the cell. -/
def wq (i : Fin 384) : ℝ := (i.val + 1 / 2) * 23 / 384 - qc i

/-- The weight of grid line `g` at a pixel's coordinate. -/
def hs (g : Fin 24) (i : Fin 384) : ℝ :=
  (if qc i = g.val then 1 - wq i else 0) + (if min (qc i + 1) 23 = g.val then wq i else 0)

theorem qc_le (i : Fin 384) : qc i ≤ 22 := by
  have := i.isLt; unfold qc; omega

theorem floor_pos (i : Fin 384) : ⌊((i.val : ℝ) + 1 / 2) * 23 / 384⌋ = (qc i : ℤ) := by
  rw [Int.floor_eq_iff]
  have h1 : 768 * qc i ≤ 46 * i.val + 23 := by unfold qc; omega
  have h2 : 46 * i.val + 23 < 768 * (qc i + 1) := by unfold qc; omega
  have h1' : (768 * qc i : ℝ) ≤ 46 * i.val + 23 := by exact_mod_cast h1
  have h2' : (46 * i.val + 23 : ℝ) < 768 * (qc i + 1) := by exact_mod_cast h2
  push_cast
  constructor <;> linarith

theorem wq_nonneg (i : Fin 384) : 0 ≤ wq i := by
  have h := Int.floor_le (((i.val : ℝ) + 1 / 2) * 23 / 384)
  rw [floor_pos] at h
  unfold wq; push_cast at h; linarith

theorem wq_le (i : Fin 384) : wq i ≤ 1 := by
  have h := Int.lt_floor_add_one (((i.val : ℝ) + 1 / 2) * 23 / 384)
  rw [floor_pos] at h
  unfold wq; push_cast at h; linarith

theorem hs_nonneg (g : Fin 24) (i : Fin 384) : 0 ≤ hs g i := by
  have h1 := wq_nonneg i
  have h2 := wq_le i
  unfold hs
  split_ifs <;> linarith

theorem wz_nonneg (r : ℝ) (hr : 0 ≤ r) : 0 ≤ wz r := by
  have h : (⌊r * 15⌋₊ : ℝ) ≤ r * 15 := Nat.floor_le (by positivity)
  have h2 : (zc r : ℝ) ≤ ⌊r * 15⌋₊ := by exact_mod_cast Nat.min_le_right _ _
  unfold wz; linarith

theorem wz_le (r : ℝ) (h : zc r < 15) : wz r ≤ 1 := by
  have h1 : zc r = ⌊r * 15⌋₊ := by unfold zc at h ⊢; omega
  have h2 := Nat.lt_floor_add_one (r * 15)
  unfold wz; rw [h1]; linarith

theorem hz_nonneg (z : Fin 16) (r : ℝ) (hr : 0 ≤ r) : 0 ≤ hz z r := by
  have h1 := wz_nonneg r hr
  have h3 : zc r ≤ 15 := Nat.min_le_left _ _
  by_cases h : zc r < 15
  · have h2 := wz_le r h
    unfold hz
    split_ifs <;> linarith
  · have h4 : zc r = 15 := by omega
    unfold hz
    rw [h4]
    simp only [show min (15 + 1) 15 = 15 from rfl]
    split_ifs <;> linarith

/-! ## Words -/

theorem toInt_ofNat (n : ℕ) (hn : n < 2 ^ 31) : (BitVec.ofNat 32 n).toInt = n := by
  rw [BitVec.toInt_ofNat']
  have : (n : ℤ) < 2 ^ 31 := by exact_mod_cast hn
  exact Int.bmod_eq_of_le (by omega) (by omega)

theorem minsi_ofNat (m n : ℕ) (hm : m < 2 ^ 31) (hn : n < 2 ^ 31) :
    IntOp.minsi (BitVec.ofNat 32 m) (BitVec.ofNat 32 n) = BitVec.ofNat 32 (min m n) := by
  unfold IntOp.minsi
  rw [BitVec.slt_eq_decide, toInt_ofNat _ hm, toInt_ofNat _ hn]
  by_cases h : m < n
  · simp [h, Nat.min_eq_left h.le]
  · simp [h, Nat.min_eq_right (Nat.le_of_not_lt h)]

theorem maxsi_ofNat (m n : ℕ) (hm : m < 2 ^ 31) (hn : n < 2 ^ 31) :
    IntOp.maxsi (BitVec.ofNat 32 m) (BitVec.ofNat 32 n) = BitVec.ofNat 32 (max m n) := by
  unfold IntOp.maxsi
  rw [BitVec.slt_eq_decide, toInt_ofNat _ hm, toInt_ofNat _ hn]
  by_cases h : n < m
  · simp [h, Nat.max_eq_left h.le]
  · simp [h, Nat.max_eq_right (Nat.le_of_not_lt h)]

theorem addi_ofNat (m n : ℕ) : IntOp.addi (BitVec.ofNat 32 m) (BitVec.ofNat 32 n) = BitVec.ofNat 32 (m + n) := by
  unfold IntOp.addi; rw [BitVec.ofNat_add]

theorem ofNat_eq_iff (m n : ℕ) (hm : m < 2 ^ 31) (hn : n < 2 ^ 31) : BitVec.ofNat 32 m = BitVec.ofNat 32 n ↔ m = n := by
  constructor
  · intro h
    have := congrArg BitVec.toNat h
    rw [BitVec.toNat_ofNat, BitVec.toNat_ofNat] at this
    rwa [Nat.mod_eq_of_lt (by omega), Nat.mod_eq_of_lt (by omega)] at this
  · exact congrArg _

/-- A select on an equality of words of small naturals. -/
theorem select_eq_ofNat {α : Type} (m n : ℕ) (hm : m < 2 ^ 31) (hn : n < 2 ^ 31) (a b : α) :
    Scalar.select (IntOp.cmpi .eq (BitVec.ofNat 32 m) (BitVec.ofNat 32 n)) a b = if m = n then a else b := by
  have : IntOp.cmpi .eq (BitVec.ofNat 32 m) (BitVec.ofNat 32 n) = BitVec.ofBool (decide (m = n)) := by
    unfold IntOp.cmpi
    by_cases h : m = n
    · subst h; simp
    · have : ¬ BitVec.ofNat 32 m = BitVec.ofNat 32 n := fun e => h ((ofNat_eq_iff m n hm hn).mp e)
      rw [beq_false_of_ne this, decide_eq_false h]
  rw [this]
  by_cases h : m = n <;> simp [h, Scalar.select]

/-- A nonnegative number's floor, converted and kept above zero. -/
theorem fptosi_floor (r : ℝ) (hr : 0 ≤ r) :
    ∃ n : ℕ, n < 2 ^ 31 ∧ Ideal.fptosi 32 (((⌊r⌋ : ℤ) : ℝ) : EReal) = BitVec.ofNat 32 n ∧ n = min (2 ^ 31 - 1) ⌊r⌋₊ := by
  refine ⟨min (2 ^ 31 - 1) ⌊r⌋₊, by omega, ?_, rfl⟩
  have h0 : (0 : ℤ) ≤ ⌊r⌋ := Int.floor_nonneg.mpr hr
  have h1 : ((⌊r⌋ : ℤ) : ℝ) = ((⌊r⌋₊ : ℕ) : ℝ) := by
    rw [natCast_floor_eq_intCast_floor hr]
  have h2 : (⌊((⌊r⌋₊ : ℕ) : ℝ)⌋ : ℤ) = (⌊r⌋₊ : ℤ) := Int.floor_natCast _
  unfold Ideal.fptosi
  have h3 : Ideal.toIntClamped (-(2 ^ (32 - 1) : Nat)) ((2 ^ (32 - 1) : Nat) - 1) (((⌊r⌋ : ℤ) : ℝ) : EReal)
      = ((min (2 ^ 31 - 1) ⌊r⌋₊ : ℕ) : ℤ) := by
    rw [h1]
    show max _ (min _ (if 0 ≤ ((⌊r⌋₊ : ℕ) : ℝ) then _ else _)) = _
    rw [if_pos (Nat.cast_nonneg _), h2]
    push_cast
    omega
  rw [h3, BitVec.ofInt_natCast]

/-- The clamped floor as a word. -/
theorem clamp_floor (r : ℝ) (hr : 0 ≤ r) (B : ℕ) (hB : B < 2 ^ 20) :
    IntOp.minsi (BitVec.ofNat 32 B) (IntOp.maxsi (BitVec.ofNat 32 0) (Ideal.fptosi 32 (((⌊r⌋ : ℤ) : ℝ) : EReal)))
      = BitVec.ofNat 32 (min B ⌊r⌋₊) := by
  obtain ⟨n, hn, e, hn'⟩ := fptosi_floor r hr
  rw [e, maxsi_ofNat _ _ (by omega) hn, minsi_ofNat _ _ (by omega) (by omega)]
  congr 1; omega

/-- The clamped floor as a word, the operands in the other order. -/
theorem clamp_floor' (r : ℝ) (hr : 0 ≤ r) (B : ℕ) (hB : B < 2 ^ 20) :
    IntOp.minsi (IntOp.maxsi (Ideal.fptosi 32 (((⌊r⌋ : ℤ) : ℝ) : EReal)) (BitVec.ofNat 32 0)) (BitVec.ofNat 32 B)
      = BitVec.ofNat 32 (min B ⌊r⌋₊) := by
  obtain ⟨n, hn, e, hn'⟩ := fptosi_floor r hr
  rw [e, maxsi_ofNat _ _ hn (by omega), minsi_ofNat _ _ (by omega) (by omega)]
  congr 1; omega

/-! ## Literals -/

theorem lit_fifteen : Ideal.ofBits .f32 0x41700000#32 = ((15 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_23 : Ideal.ofBits .f32 0x41B80000#32 = ((23 : ℝ) : EReal) := by
  simp [Ideal.ofBits, Ideal.ieee, -EReal.coe_mul]; norm_num
theorem lit_384 : Ideal.ofBits .f32 0x43C00000#32 = ((384 : ℝ) : EReal) := by
  simp [Ideal.ofBits, Ideal.ieee, -EReal.coe_mul]; norm_num
theorem lit_3 : Ideal.ofBits .f32 0x40400000#32 = ((3 : ℝ) : EReal) := by
  simp [Ideal.ofBits, Ideal.ieee, -EReal.coe_mul]; norm_num

/-- The regularisation weight's literal. -/
def lam : ℝ := 14073749 / 140737488355328

theorem lit_lam : Ideal.ofBits .f32 0x33D6BF95#32 = ((lam : ℝ) : EReal) := by
  unfold lam
  simp [Ideal.ofBits, Ideal.ieee, -EReal.coe_mul]; norm_num

theorem lam_pos : 0 < lam := by unfold lam; norm_num

/-- A quotient of reals by a nonzero real. -/
theorem div_real (x y : ℝ) (hy : y ≠ 0) : Ideal.div (x : EReal) (y : EReal) = ((x / y : ℝ) : EReal) := by
  rw [Ideal.div_coe hy, ← EReal.coe_mul]; congr 1; field_simp

end Cert.BguHat

end
-- ==== Proof.SolveDefs.lean ====
/- One cell's regularised fit over the reals: the 4 × 4 system of a cell's 22 sums, and its solution by cofactors after a
   scaling by the largest entry. -/
module

public import proofs.«01_k».proof.Proof.Hat

@[expose] public section

noncomputable section

namespace Cert.BguAlg

open Cert.BguHat (lam)

/-- The regularisation's weight of a cell. -/
def wl (s : Fin 22 → ℝ) : ℝ := lam * (s 9 + 1)

/-- The place of channel `k`'s sum against one, and of output `k`'s. -/
def gi : Fin 3 → Fin 22 := ![3, 6, 8]
def ti : Fin 3 → Fin 22 := ![13, 17, 21]

/-- The prior gain of a cell: the global one where the cell is empty. -/
def mx (s : Fin 22 → ℝ) (γ : Fin 3 → ℝ) (k : Fin 3) : ℝ := if s 9 = 0 then γ k else s (ti k) / (s (gi k) + wl s)

/-- The system's matrix. -/
def mat (s : Fin 22 → ℝ) : Fin 4 → Fin 4 → ℝ :=
  ![![s 0 + wl s, s 1, s 2, s 3], ![s 1, s 4 + wl s, s 5, s 6], ![s 2, s 5, s 7 + wl s, s 8], ![s 3, s 6, s 8, s 9 + wl s]]

/-- The system's right-hand sides. -/
def rhs (s : Fin 22 → ℝ) (γ : Fin 3 → ℝ) : Fin 3 → Fin 4 → ℝ :=
  ![![s 10 + wl s * mx s γ 0, s 11, s 12, s 13], ![s 14, s 15 + wl s * mx s γ 1, s 16, s 17],
    ![s 18, s 19, s 20 + wl s * mx s γ 2, s 21]]

/-- The magnitude. -/
def av (x : ℝ) : ℝ := max x (-x)

/-- The largest magnitude of the matrix. -/
def amax (M : Fin 4 → Fin 4 → ℝ) : ℝ :=
  max (max (max (max (max (max (max (max (max (max (max (max (max (max (max (max (M 0 0) (av (M 0 0))) (av (M 0 1))) (av (M 0 2))) (av (M 0 3))) (av (M 1 0))) (av (M 1 1))) (av (M 1 2))) (av (M 1 3))) (av (M 2 0))) (av (M 2 1))) (av (M 2 2))) (av (M 2 3))) (av (M 3 0))) (av (M 3 1))) (av (M 3 2))) (av (M 3 3))

/-- The scale. -/
def sc (M : Fin 4 → Fin 4 → ℝ) : ℝ := 1 / amax M

/-- The scaled matrix. -/
def nrm (M : Fin 4 → Fin 4 → ℝ) : Fin 4 → Fin 4 → ℝ := fun i j => M i j * sc M

/-! The minors of the first two rows, and of the last two. -/
def s0 (m : Fin 4 → Fin 4 → ℝ) : ℝ := m 0 0 * m 1 1 - m 1 0 * m 0 1
def s1 (m : Fin 4 → Fin 4 → ℝ) : ℝ := m 0 0 * m 1 2 - m 1 0 * m 0 2
def s2 (m : Fin 4 → Fin 4 → ℝ) : ℝ := m 0 0 * m 1 3 - m 1 0 * m 0 3
def s3 (m : Fin 4 → Fin 4 → ℝ) : ℝ := m 0 1 * m 1 2 - m 1 1 * m 0 2
def s4 (m : Fin 4 → Fin 4 → ℝ) : ℝ := m 0 1 * m 1 3 - m 1 1 * m 0 3
def s5 (m : Fin 4 → Fin 4 → ℝ) : ℝ := m 0 2 * m 1 3 - m 1 2 * m 0 3
def c5 (m : Fin 4 → Fin 4 → ℝ) : ℝ := m 2 2 * m 3 3 - m 3 2 * m 2 3
def c4 (m : Fin 4 → Fin 4 → ℝ) : ℝ := m 2 1 * m 3 3 - m 3 1 * m 2 3
def c3 (m : Fin 4 → Fin 4 → ℝ) : ℝ := m 2 1 * m 3 2 - m 3 1 * m 2 2
def c2 (m : Fin 4 → Fin 4 → ℝ) : ℝ := m 2 0 * m 3 3 - m 3 0 * m 2 3
def c1 (m : Fin 4 → Fin 4 → ℝ) : ℝ := m 2 0 * m 3 2 - m 3 0 * m 2 2
def c0 (m : Fin 4 → Fin 4 → ℝ) : ℝ := m 2 0 * m 3 1 - m 3 0 * m 2 1

/-- Half of the determinant. -/
def dhalf (m : Fin 4 → Fin 4 → ℝ) : ℝ := s0 m * c5 m - s1 m * c4 m + s2 m * c3 m

/-- The determinant. -/
def det (m : Fin 4 → Fin 4 → ℝ) : ℝ := dhalf m + s3 m * c2 m - s4 m * c1 m + s5 m * c0 m

def rdet (m : Fin 4 → Fin 4 → ℝ) : ℝ := 1 / det m

/-- The inverse. -/
def inv (m : Fin 4 → Fin 4 → ℝ) : Fin 4 → Fin 4 → ℝ :=
  ![![(m 1 1 * c5 m - m 1 2 * c4 m + m 1 3 * c3 m) * rdet m,
      ((0 - m 0 1) * c5 m + m 0 2 * c4 m - m 0 3 * c3 m) * rdet m,
      (m 3 1 * s5 m - m 3 2 * s4 m + m 3 3 * s3 m) * rdet m,
      ((0 - m 2 1) * s5 m + m 2 2 * s4 m - m 2 3 * s3 m) * rdet m],
    ![((0 - m 1 0) * c5 m + m 1 2 * c2 m - m 1 3 * c1 m) * rdet m,
      (m 0 0 * c5 m - m 0 2 * c2 m + m 0 3 * c1 m) * rdet m,
      ((0 - m 3 0) * s5 m + m 3 2 * s2 m - m 3 3 * s1 m) * rdet m,
      (m 2 0 * s5 m - m 2 2 * s2 m + m 2 3 * s1 m) * rdet m],
    ![(m 1 0 * c4 m - m 1 1 * c2 m + m 1 3 * c0 m) * rdet m,
      ((0 - m 0 0) * c4 m + m 0 1 * c2 m - m 0 3 * c0 m) * rdet m,
      (m 3 0 * s4 m - m 3 1 * s2 m + m 3 3 * s0 m) * rdet m,
      ((0 - m 2 0) * s4 m + m 2 1 * s2 m - m 2 3 * s0 m) * rdet m],
    ![((0 - m 1 0) * c3 m + m 1 1 * c1 m - m 1 2 * c0 m) * rdet m,
      (m 0 0 * c3 m - m 0 1 * c1 m + m 0 2 * c0 m) * rdet m,
      ((0 - m 3 0) * s3 m + m 3 1 * s1 m - m 3 2 * s0 m) * rdet m,
      (m 2 0 * s3 m - m 2 1 * s1 m + m 2 2 * s0 m) * rdet m]]

/-- A cell's coefficient. -/
def outR (s : Fin 22 → ℝ) (γ : Fin 3 → ℝ) (k : Fin 3) (i : Fin 4) : ℝ :=
  (rhs s γ k 0 * inv (nrm (mat s)) 0 i + rhs s γ k 1 * inv (nrm (mat s)) 1 i + rhs s γ k 2 * inv (nrm (mat s)) 2 i
    + rhs s γ k 3 * inv (nrm (mat s)) 3 i) * sc (mat s)

/-- A cell's sums as matrices. -/
def sm (s : Fin 22 → ℝ) : Fin 4 → Fin 4 → ℝ :=
  ![![s 0, s 1, s 2, s 3], ![s 1, s 4, s 5, s 6], ![s 2, s 5, s 7, s 8], ![s 3, s 6, s 8, s 9]]
def tm (s : Fin 22 → ℝ) : Fin 3 → Fin 4 → ℝ :=
  ![![s 10, s 11, s 12, s 13], ![s 14, s 15, s 16, s 17], ![s 18, s 19, s 20, s 21]]

/-- The matrix beside its right-hand sides. -/
def aug (s : Fin 22 → ℝ) (γ : Fin 3 → ℝ) (r : Fin 4) (c : Fin 7) : ℝ :=
  if h : c.val < 4 then mat s ⟨c.val, h⟩ r else rhs s γ ⟨c.val - 4, by have := c.isLt; omega⟩ r

/-- A pivot's column. -/
def pc (p : Fin 4) : Fin 7 := ⟨p.val, by have := p.isLt; omega⟩

/-- One elimination step. -/
def step (p : Fin 4) (A : Fin 4 → Fin 7 → ℝ) (r : Fin 4) (c : Fin 7) : ℝ :=
  if r = p then A p c / A p (pc p) else A r c - A r (pc p) * (A p c / A p (pc p))

/-- The four elimination steps. -/
def gj1 (A : Fin 4 → Fin 7 → ℝ) := step 0 A
def gj2 (A : Fin 4 → Fin 7 → ℝ) := step 1 (gj1 A)
def gj3 (A : Fin 4 → Fin 7 → ℝ) := step 2 (gj2 A)
def gj4 (A : Fin 4 → Fin 7 → ℝ) := step 3 (gj3 A)

end Cert.BguAlg

end
-- ==== Proof.Algebra.lean ====
/- The two solutions of a cell's system are one: the system is positive definite, so the elimination's pivots and the
   determinant do not vanish, and the solution the elimination reaches is the one the cofactors give. -/
module

public import proofs.«01_k».proof.Proof.SolveDefs
public import Mathlib.Tactic.LinearCombination
public import Mathlib.Tactic.Linarith
public import Mathlib.Tactic.Positivity
public import Mathlib.Tactic.FieldSimp
public import Mathlib.Tactic.Ring
public import Mathlib.Tactic.FinCases

@[expose] public section

noncomputable section

namespace Cert.BguAlg

open Cert.BguHat (lam lam_pos)

/-! A form bounded below by a multiple of the squares has a positive first coefficient, and completing the square leaves a form
in one variable less under the same bound. -/

theorem pd4 {m a b c d e f g h i j : ℝ} (hm : 0 < m)
    (H : ∀ x y z w : ℝ, m * (x ^ 2 + y ^ 2 + z ^ 2 + w ^ 2) ≤ a * x ^ 2 + e * y ^ 2 + h * z ^ 2 + j * w ^ 2
      + 2 * (b * x * y + c * x * z + d * x * w + f * y * z + g * y * w + i * z * w)) :
    0 < a ∧ ∀ y z w : ℝ, m * (y ^ 2 + z ^ 2 + w ^ 2) ≤ (e - b * (b / a)) * y ^ 2 + (h - c * (c / a)) * z ^ 2
      + (j - d * (d / a)) * w ^ 2 + 2 * ((f - b * (c / a)) * y * z + (g - b * (d / a)) * y * w + (i - c * (d / a)) * z * w) := by
  have ha : 0 < a := by have := H 1 0 0 0; linarith
  refine ⟨ha, fun y z w => ?_⟩
  have h0 := H (-((b * y + c * z + d * w) / a)) y z w
  have h1 : 0 ≤ m * (-((b * y + c * z + d * w) / a)) ^ 2 := by positivity
  have e1 : a * (-((b * y + c * z + d * w) / a)) ^ 2 + 2 * (b * -((b * y + c * z + d * w) / a) * y
      + c * -((b * y + c * z + d * w) / a) * z + d * -((b * y + c * z + d * w) / a) * w)
      = - (b * (b / a) * y ^ 2 + c * (c / a) * z ^ 2 + d * (d / a) * w ^ 2
        + 2 * (b * (c / a) * y * z + b * (d / a) * y * w + c * (d / a) * z * w)) := by
    field_simp
    ring
  nlinarith [h0, h1, e1]

theorem pd3 {m a b c d e f : ℝ} (hm : 0 < m)
    (H : ∀ x y z : ℝ, m * (x ^ 2 + y ^ 2 + z ^ 2) ≤ a * x ^ 2 + d * y ^ 2 + f * z ^ 2
      + 2 * (b * x * y + c * x * z + e * y * z)) :
    0 < a ∧ ∀ y z : ℝ, m * (y ^ 2 + z ^ 2) ≤ (d - b * (b / a)) * y ^ 2 + (f - c * (c / a)) * z ^ 2
      + 2 * ((e - b * (c / a)) * y * z) := by
  have ha : 0 < a := by have := H 1 0 0; linarith
  refine ⟨ha, fun y z => ?_⟩
  have h0 := H (-((b * y + c * z) / a)) y z
  have h1 : 0 ≤ m * (-((b * y + c * z) / a)) ^ 2 := by positivity
  have e1 : a * (-((b * y + c * z) / a)) ^ 2 + 2 * (b * -((b * y + c * z) / a) * y + c * -((b * y + c * z) / a) * z)
      = - (b * (b / a) * y ^ 2 + c * (c / a) * z ^ 2 + 2 * (b * (c / a) * y * z)) := by
    field_simp
    ring
  nlinarith [h0, h1, e1]

theorem pd2 {m a b c : ℝ} (hm : 0 < m) (H : ∀ x y : ℝ, m * (x ^ 2 + y ^ 2) ≤ a * x ^ 2 + c * y ^ 2 + 2 * (b * x * y)) :
    0 < a ∧ 0 < c - b * (b / a) := by
  have ha : 0 < a := by have := H 1 0; linarith
  refine ⟨ha, ?_⟩
  have h0 := H (-(b / a)) 1
  have h1 : 0 ≤ m * (-(b / a)) ^ 2 := by positivity
  have e1 : a * (-(b / a)) ^ 2 + 2 * (b * -(b / a) * 1) = - (b * (b / a)) := by
    field_simp
    ring
  nlinarith [h0, h1, e1]

/-- The determinant of a bounded form in two variables is positive. -/
theorem dpos2 {m a b c : ℝ} (hm : 0 < m) (H : ∀ x y : ℝ, m * (x ^ 2 + y ^ 2) ≤ a * x ^ 2 + c * y ^ 2 + 2 * (b * x * y)) :
    0 < a * c - b * b := by
  obtain ⟨ha, h⟩ := pd2 hm H
  have e : a * c - b * b = a * (c - b * (b / a)) := by
    field_simp
  rw [e]
  exact mul_pos ha h

/-- and of one in three variables, -/
theorem dpos3 {m a b c d e f : ℝ} (hm : 0 < m)
    (H : ∀ x y z : ℝ, m * (x ^ 2 + y ^ 2 + z ^ 2) ≤ a * x ^ 2 + d * y ^ 2 + f * z ^ 2
      + 2 * (b * x * y + c * x * z + e * y * z)) :
    0 < a * (d * f - e * e) - b * (b * f - c * e) + c * (b * e - c * d) := by
  obtain ⟨ha, h⟩ := pd3 hm H
  have h2 := dpos2 hm h
  have e : a * (d * f - e * e) - b * (b * f - c * e) + c * (b * e - c * d)
      = a * ((d - b * (b / a)) * (f - c * (c / a)) - (e - b * (c / a)) * (e - b * (c / a))) := by
    field_simp
    ring
  rw [e]
  exact mul_pos ha h2

/-- What a cell's sums satisfy: nonnegative weights and channels, and a matrix that is a sum of squares. -/
structure Good (s : Fin 22 → ℝ) : Prop where
  h9 : 0 ≤ s 9
  hk : ∀ k, 0 ≤ s (gi k)
  psd : ∀ x y z w : ℝ, 0 ≤ s 0 * x ^ 2 + s 4 * y ^ 2 + s 7 * z ^ 2 + s 9 * w ^ 2
    + 2 * (s 1 * x * y + s 2 * x * z + s 3 * x * w + s 5 * y * z + s 6 * y * w + s 8 * z * w)

variable {s : Fin 22 → ℝ} (G : Good s)
include G

theorem Good.wl_pos : 0 < wl s := by
  have := G.h9
  have := lam_pos
  unfold wl
  positivity

theorem Good.hd (k : Fin 3) : s (gi k) + wl s ≠ 0 := by
  have := G.hk k
  have := G.wl_pos
  positivity

theorem Good.form (x y z w : ℝ) : wl s * (x ^ 2 + y ^ 2 + z ^ 2 + w ^ 2) ≤ (s 0 + wl s) * x ^ 2 + (s 4 + wl s) * y ^ 2
    + (s 7 + wl s) * z ^ 2 + (s 9 + wl s) * w ^ 2
    + 2 * (s 1 * x * y + s 2 * x * z + s 3 * x * w + s 5 * y * z + s 6 * y * w + s 8 * z * w) := by
  have := G.psd x y z w
  linarith

theorem Good.det_pos : 0 < det (mat s) := by
  obtain ⟨ha, h⟩ := pd4 G.wl_pos G.form
  have h3 := dpos3 G.wl_pos h
  refine lt_of_lt_of_eq (mul_pos ha h3) ?_
  have ha' : s 0 + wl s ≠ 0 := ne_of_gt ha
  simp only [det, dhalf, s0, s1, s2, s3, s4, s5, c0, c1, c2, c3, c4, c5, mat]
  simp only [Matrix.cons_val]
  generalize s 0 + wl s = a at ha' ⊢
  field_simp
  ring

theorem Good.amax_pos : 0 < amax (mat s) := by
  obtain ⟨ha, -⟩ := pd4 G.wl_pos G.form
  refine lt_of_lt_of_le (show (0 : ℝ) < mat s 0 0 from ha) ?_
  unfold amax
  simp only [le_max_iff, le_refl, true_or]

theorem Good.sc_pos : 0 < sc (mat s) := by
  have := G.amax_pos
  unfold sc
  positivity

theorem Good.det_nrm : det (nrm (mat s)) ≠ 0 := by
  have e : det (nrm (mat s)) = det (mat s) * sc (mat s) ^ 4 := by
    unfold nrm
    generalize sc (mat s) = t
    simp only [det, dhalf, s0, s1, s2, s3, s4, s5, c0, c1, c2, c3, c4, c5]
    ring
  rw [e]
  have := G.det_pos
  have := G.sc_pos
  positivity

/-! The entries the elimination leaves at and under its pivots, and the pivots' signs. -/
section

variable (γ : Fin 3 → ℝ)

theorem piv : 0 < aug s γ 0 (pc 0) ∧ 0 < gj1 (aug s γ) 1 (pc 1) ∧ 0 < gj2 (aug s γ) 2 (pc 2) ∧ 0 < gj3 (aug s γ) 3 (pc 3) := by
  have hm := G.wl_pos
  obtain ⟨p0, H3⟩ := pd4 (a := s 0 + wl s) (b := s 1) (c := s 2) (d := s 3) (e := s 4 + wl s) (f := s 5) (g := s 6)
    (h := s 7 + wl s) (i := s 8) (j := s 9 + wl s) hm (fun x y z w => by have := G.psd x y z w; linarith)
  obtain ⟨p1, H2⟩ := pd3 hm H3
  obtain ⟨p2, p3⟩ := pd2 hm H2
  have a00 : aug s γ 0 (pc 0) = s 0 + wl s := rfl
  have a01 : aug s γ 0 (pc 1) = s 1 := rfl
  have a02 : aug s γ 0 (pc 2) = s 2 := rfl
  have a03 : aug s γ 0 (pc 3) = s 3 := rfl
  have a10 : aug s γ 1 (pc 0) = s 1 := rfl
  have a11 : aug s γ 1 (pc 1) = s 4 + wl s := rfl
  have a12 : aug s γ 1 (pc 2) = s 5 := rfl
  have a13 : aug s γ 1 (pc 3) = s 6 := rfl
  have a20 : aug s γ 2 (pc 0) = s 2 := rfl
  have a21 : aug s γ 2 (pc 1) = s 5 := rfl
  have a22 : aug s γ 2 (pc 2) = s 7 + wl s := rfl
  have a23 : aug s γ 2 (pc 3) = s 8 := rfl
  have a30 : aug s γ 3 (pc 0) = s 3 := rfl
  have a31 : aug s γ 3 (pc 1) = s 6 := rfl
  have a32 : aug s γ 3 (pc 2) = s 8 := rfl
  have a33 : aug s γ 3 (pc 3) = s 9 + wl s := rfl
  have st : ∀ (p : Fin 4) (A : Fin 4 → Fin 7 → ℝ) (r : Fin 4) (c : Fin 7), r ≠ p →
      step p A r c = A r c - A r (pc p) * (A p c / A p (pc p)) := fun p A r c h => if_neg h
  refine ⟨by rw [a00]; exact p0, ?_, ?_, ?_⟩
  · unfold gj1
    rw [st 0 _ 1 _ (by decide), a00, a01, a10, a11]
    exact p1
  · unfold gj2 gj1
    rw [st 1 _ 2 _ (by decide)]
    rw [st 0 _ 2 _ (by decide), st 0 _ 2 _ (by decide), st 0 _ 1 _ (by decide), st 0 _ 1 _ (by decide),
      a00, a01, a02, a10, a11, a12, a20, a21, a22]
    refine lt_of_lt_of_eq p2 ?_
    ring
  · unfold gj3 gj2 gj1
    rw [st 2 _ 3 _ (by decide)]
    rw [st 1 _ 3 _ (by decide), st 1 _ 3 _ (by decide), st 1 _ 2 _ (by decide), st 1 _ 2 _ (by decide)]
    rw [st 0 _ 3 _ (by decide), st 0 _ 3 _ (by decide), st 0 _ 3 _ (by decide), st 0 _ 2 _ (by decide), st 0 _ 2 _ (by decide),
      st 0 _ 2 _ (by decide), st 0 _ 1 _ (by decide), st 0 _ 1 _ (by decide), st 0 _ 1 _ (by decide),
      a00, a01, a02, a03, a10, a11, a12, a13, a20, a21, a22, a23, a30, a31, a32, a33]
    refine lt_of_lt_of_eq p3 ?_
    ring

end

omit G in
/-- A vector the augmented system stands for. -/
def Sol (A : Fin 4 → Fin 7 → ℝ) (k : Fin 7) (x : Fin 4 → ℝ) : Prop :=
  ∀ r, A r 0 * x 0 + A r 1 * x 1 + A r 2 * x 2 + A r 3 * x 3 = A r k

omit G in
/-- A solution after a step is one before it. -/
theorem sol_step (p : Fin 4) (A : Fin 4 → Fin 7 → ℝ) (hp : A p (pc p) ≠ 0) (k : Fin 7) (x : Fin 4 → ℝ)
    (h : Sol (step p A) k x) : Sol A k x := by
  have hpp := h p
  simp only [step, if_true] at hpp
  have e0 : A p 0 * x 0 + A p 1 * x 1 + A p 2 * x 2 + A p 3 * x 3 = A p k := by
    field_simp at hpp
    linarith
  intro r
  by_cases hr : r = p
  · rw [hr]
    exact e0
  · have h1 := h r
    simp only [step, if_neg hr] at h1
    linear_combination h1 + A r (pc p) * hpp

omit G in
theorem step_self (p : Fin 4) (A : Fin 4 → Fin 7 → ℝ) (hp : A p (pc p) ≠ 0) (r : Fin 4) :
    step p A r (pc p) = if r = p then 1 else 0 := by
  unfold step
  rw [div_self hp]
  by_cases hr : r = p
  · rw [if_pos hr, if_pos hr]
  · rw [if_neg hr, if_neg hr, mul_one, sub_self]

omit G in
/-- A column that is already a unit vector at another place stays. -/
theorem step_keep (p q : Fin 4) (hpq : p ≠ q) (A : Fin 4 → Fin 7 → ℝ)
    (h : ∀ r, A r (pc q) = if r = q then 1 else 0) (r : Fin 4) : step p A r (pc q) = if r = q then 1 else 0 := by
  unfold step
  rw [h p, if_neg hpq, zero_div, mul_zero, sub_zero, h r]
  by_cases hr : r = p
  · rw [if_pos hr, if_neg (by rw [hr]; exact hpq)]
  · rw [if_neg hr]

omit G in
/-- The four steps' last columns solve the system. -/
theorem sol_gj (A : Fin 4 → Fin 7 → ℝ) (p0 : A 0 (pc 0) ≠ 0) (p1 : gj1 A 1 (pc 1) ≠ 0) (p2 : gj2 A 2 (pc 2) ≠ 0)
    (p3 : gj3 A 3 (pc 3) ≠ 0) (k : Fin 7) : Sol A k (fun i => gj4 A i k) := by
  have u0 : ∀ r, gj4 A r (pc 0) = if r = 0 then 1 else 0 :=
    step_keep 3 0 (by decide) _ (step_keep 2 0 (by decide) _ (step_keep 1 0 (by decide) _ (step_self 0 A p0)))
  have u1 : ∀ r, gj4 A r (pc 1) = if r = 1 then 1 else 0 :=
    step_keep 3 1 (by decide) _ (step_keep 2 1 (by decide) _ (step_self 1 _ p1))
  have u2 : ∀ r, gj4 A r (pc 2) = if r = 2 then 1 else 0 := step_keep 3 2 (by decide) _ (step_self 2 _ p2)
  have u3 : ∀ r, gj4 A r (pc 3) = if r = 3 then 1 else 0 := step_self 3 _ p3
  have h4 : Sol (gj4 A) k (fun i => gj4 A i k) := by
    intro r
    have e0 := u0 r
    have e1 := u1 r
    have e2 := u2 r
    have e3 := u3 r
    change gj4 A r 0 = _ at e0
    change gj4 A r 1 = _ at e1
    change gj4 A r 2 = _ at e2
    change gj4 A r 3 = _ at e3
    rw [e0, e1, e2, e3]
    fin_cases r <;> simp
  exact sol_step 0 A p0 k _ (sol_step 1 _ p1 k _ (sol_step 2 _ p2 k _ (sol_step 3 _ p3 k _ h4)))

omit G in
/-- The cofactors over the determinant invert a matrix from the right. -/
theorem inv_right (m : Fin 4 → Fin 4 → ℝ) (hd : det m ≠ 0) (a i : Fin 4) :
    m a 0 * inv m 0 i + m a 1 * inv m 1 i + m a 2 * inv m 2 i + m a 3 * inv m 3 i = if a = i then 1 else 0 := by
  have hr : det m * rdet m = 1 := by unfold rdet; field_simp
  have key : m a 0 * inv m 0 i + m a 1 * inv m 1 i + m a 2 * inv m 2 i + m a 3 * inv m 3 i
      = (if a = i then det m * rdet m else 0) := by
    unfold inv
    generalize rdet m = t
    fin_cases a <;> fin_cases i <;>
      simp [det, dhalf, s0, s1, s2, s3, s4, s5, c0, c1, c2, c3, c4, c5] <;> ring
  rw [key, hr]

/-- The elimination's solution is the cofactors'. -/
theorem gj_eq (γ : Fin 3 → ℝ) (k : Fin 3) (i : Fin 4) :
    gj4 (aug s γ) i ⟨4 + k.val, by have := k.isLt; omega⟩ = outR s γ k i := by
  obtain ⟨q0, q1, q2, q3⟩ := piv G γ
  have hs := sol_gj (aug s γ) (ne_of_gt q0) (ne_of_gt q1) (ne_of_gt q2) (ne_of_gt q3) ⟨4 + k.val, by have := k.isLt; omega⟩
  generalize hx : (fun i => gj4 (aug s γ) i ⟨4 + k.val, by have := k.isLt; omega⟩) = x at hs
  have hxi : gj4 (aug s γ) i ⟨4 + k.val, by have := k.isLt; omega⟩ = x i := congrFun hx i
  rw [hxi]
  have hr : ∀ r, mat s 0 r * x 0 + mat s 1 r * x 1 + mat s 2 r * x 2 + mat s 3 r * x 3 = rhs s γ k r := by
    intro r
    have h := hs r
    have e : aug s γ r ⟨4 + k.val, by have := k.isLt; omega⟩ = rhs s γ k r := by
      unfold aug
      rw [dif_neg (by simp)]
      congr 1
      apply Fin.ext
      simp
    rw [e] at h
    exact h
  have hi := fun a => inv_right (nrm (mat s)) G.det_nrm a i
  unfold outR
  rw [← hr 0, ← hr 1, ← hr 2, ← hr 3]
  unfold nrm at hi ⊢
  have h0 := hi 0
  have h1 := hi 1
  have h2 := hi 2
  have h3 := hi 3
  have ex : x i = x 0 * (if (0 : Fin 4) = i then 1 else 0) + x 1 * (if (1 : Fin 4) = i then 1 else 0)
      + x 2 * (if (2 : Fin 4) = i then 1 else 0) + x 3 * (if (3 : Fin 4) = i then 1 else 0) := by
    fin_cases i <;> simp
  rw [ex, ← h0, ← h1, ← h2, ← h3]
  ring

end Cert.BguAlg

end
-- ==== Proof.Splat.lean ====
/- The splat kernel's block, entry by entry: one trip of its loop writes the 22 slabs of one guide level, each slab the
   two table products of one pixel product. -/
module

public import proofs.«01_k».proof.Proof.Gen.KernelIdeal.Frame
public import Idealize.ShloMosaic.Lib.Pipeline.Value
public import Idealize.ShloMosaic.Lib.Pipeline.ReadBack
public import Idealize.ShloMosaic.Lib.Claim
public import Idealize.ShloMosaic.Lib.Pipeline.ValueKit
public import Idealize.ShloMosaic.Lib.Pointwise
public import Idealize.ShloMosaic.Lib.WholeRead

@[expose] public section

set_option maxRecDepth 16384

noncomputable section

namespace Cert.BguSplat

open Idealize.ShloMosaic Idealize.ShloMosaic.TcCoe
open Idealize.SL Idealize.SL.Sem
open Cert.KernelIdeal Cert.KernelIdeal.Gen

variable {F : FTy → Type} [FloatOps F] [Named F]

/-- One slab: the row table times a pixel plane, times the column table. -/
def slab (v43 : Vec F S24x384 .f32) (v45 : Vec F S384x24 .f32) (p : FVec F S384x384 .f32) : FVec F S1x1x24x24 .f32 :=
  shapeCast S1x1x24x24 (matmul dot_S24x384_S384x24_S24x24_1_0_0_1_n_n (some .fp32)
    (matmul dot_S24x384_S384x384_S24x384_1_0_0_1_n_n (some .fp32) (k0_pay10 v43) p (constant S24x384 .f32 0x00000000#32))
    (k0_pay11 v45) (constant S24x24 .f32 0x00000000#32)) shapeCasts_S24x24_S1x1x24x24

/-- The guide weight of trip `k` at every pixel. -/
def hatZ (v20 : FVec F S384x384 .f32) (v26 : IVec S384x384 32) (k : Fin k0_t1_loop.trips) : FVec F S384x384 .f32 :=
  k0_pay14 v26 (k0_pay1 v26) (k0_pay2 v20 v26) 0#32 1#32 k

/-- The pixel product of slab `j`. -/
def prodAt (v1 v3 v5 v6 v16 : FVec F S384x384 .f32) (v33 v35 v37 : Vec F S1x1x384x384 .f32) : Fin 22 → FVec F S384x384 .f32 :=
  ![mulf (k0_pay6 v1 v16) v1,
    mulf (k0_pay6 v1 v16) v3,
    mulf (k0_pay6 v1 v16) v5,
    mulf (k0_pay6 v1 v16) v6,
    mulf (k0_pay7 v3 v16) v3,
    mulf (k0_pay7 v3 v16) v5,
    mulf (k0_pay7 v3 v16) v6,
    mulf (k0_pay8 v5 v16) v5,
    mulf (k0_pay8 v5 v16) v6,
    mulf (k0_pay9 v6 v16) v6,
    mulf (k0_pay3 v33) (k0_pay6 v1 v16),
    mulf (k0_pay3 v33) (k0_pay7 v3 v16),
    mulf (k0_pay3 v33) (k0_pay8 v5 v16),
    mulf (k0_pay3 v33) (k0_pay9 v6 v16),
    mulf (k0_pay4 v35) (k0_pay6 v1 v16),
    mulf (k0_pay4 v35) (k0_pay7 v3 v16),
    mulf (k0_pay4 v35) (k0_pay8 v5 v16),
    mulf (k0_pay4 v35) (k0_pay9 v6 v16),
    mulf (k0_pay5 v37) (k0_pay6 v1 v16),
    mulf (k0_pay5 v37) (k0_pay7 v3 v16),
    mulf (k0_pay5 v37) (k0_pay8 v5 v16),
    mulf (k0_pay5 v37) (k0_pay9 v6 v16)]

/-- One trip's pieces, last written first. -/
theorem tripL_eq (𝒱 : Variants) (c : Dev nD) (bd : Option 𝒱.V) (arg0 : Memref sig .tc .vmem S1x3x384x384 .f32) (harg0 : arg0.IsWhole) (arg1 : Memref sig .tc .vmem S1x1x384x384 .f32) (harg1 : arg1.IsWhole) (arg2 : Memref sig .tc .vmem S1x3x384x384 .f32) (harg2 : arg2.IsWhole) (arg3 : Memref sig .tc .vmem S1x3x384x384 .f32) (harg3 : arg3.IsWhole) (arg4 : Memref sig .tc .vmem S24x384 .f32) (harg4 : arg4.IsWhole) (arg5 : Memref sig .tc .vmem S384x24 .f32) (harg5 : arg5.IsWhole) (arg6 : Memref sig .tc .vmem S16x22x24x24 .f32) (harg6 : arg6.IsWhole) (v1 : FVec F S384x384 .f32) (v3 : FVec F S384x384 .f32) (v5 : FVec F S384x384 .f32) (v6 : FVec F S384x384 .f32) (v16 : FVec F S384x384 .f32) (v20 : FVec F S384x384 .f32) (v26 : IVec S384x384 32) (v33 : Vec F S1x1x384x384 .f32) (v35 : Vec F S1x1x384x384 .f32) (v37 : Vec F S1x1x384x384 .f32) (v43 : Vec F S24x384 .f32) (v45 : Vec F S384x24 .f32) (k : Fin k0_t1_loop.trips) :
    tripL_k0_t1 (F := F) 𝒱 c bd arg0 harg0 arg1 harg1 arg2 harg2 arg3 harg3 arg4 harg4 arg5 harg5 arg6 harg6 v1 v3 v5 v6 v16 v20 v26 v33 v35 v37 v43 v45 k = [
    ⟨Rect.unit (s := S16x22x24x24) (k0_off22 k) S1x1x24x24.size (k0_off22_inb k), slab v43 v45 (mulf (prodAt v1 v3 v5 v6 v16 v33 v35 v37 21) (hatZ v20 v26 k))⟩,
    ⟨Rect.unit (s := S16x22x24x24) (k0_off21 k) S1x1x24x24.size (k0_off21_inb k), slab v43 v45 (mulf (prodAt v1 v3 v5 v6 v16 v33 v35 v37 20) (hatZ v20 v26 k))⟩,
    ⟨Rect.unit (s := S16x22x24x24) (k0_off20 k) S1x1x24x24.size (k0_off20_inb k), slab v43 v45 (mulf (prodAt v1 v3 v5 v6 v16 v33 v35 v37 19) (hatZ v20 v26 k))⟩,
    ⟨Rect.unit (s := S16x22x24x24) (k0_off19 k) S1x1x24x24.size (k0_off19_inb k), slab v43 v45 (mulf (prodAt v1 v3 v5 v6 v16 v33 v35 v37 18) (hatZ v20 v26 k))⟩,
    ⟨Rect.unit (s := S16x22x24x24) (k0_off18 k) S1x1x24x24.size (k0_off18_inb k), slab v43 v45 (mulf (prodAt v1 v3 v5 v6 v16 v33 v35 v37 17) (hatZ v20 v26 k))⟩,
    ⟨Rect.unit (s := S16x22x24x24) (k0_off17 k) S1x1x24x24.size (k0_off17_inb k), slab v43 v45 (mulf (prodAt v1 v3 v5 v6 v16 v33 v35 v37 16) (hatZ v20 v26 k))⟩,
    ⟨Rect.unit (s := S16x22x24x24) (k0_off16 k) S1x1x24x24.size (k0_off16_inb k), slab v43 v45 (mulf (prodAt v1 v3 v5 v6 v16 v33 v35 v37 15) (hatZ v20 v26 k))⟩,
    ⟨Rect.unit (s := S16x22x24x24) (k0_off15 k) S1x1x24x24.size (k0_off15_inb k), slab v43 v45 (mulf (prodAt v1 v3 v5 v6 v16 v33 v35 v37 14) (hatZ v20 v26 k))⟩,
    ⟨Rect.unit (s := S16x22x24x24) (k0_off14 k) S1x1x24x24.size (k0_off14_inb k), slab v43 v45 (mulf (prodAt v1 v3 v5 v6 v16 v33 v35 v37 13) (hatZ v20 v26 k))⟩,
    ⟨Rect.unit (s := S16x22x24x24) (k0_off13 k) S1x1x24x24.size (k0_off13_inb k), slab v43 v45 (mulf (prodAt v1 v3 v5 v6 v16 v33 v35 v37 12) (hatZ v20 v26 k))⟩,
    ⟨Rect.unit (s := S16x22x24x24) (k0_off12 k) S1x1x24x24.size (k0_off12_inb k), slab v43 v45 (mulf (prodAt v1 v3 v5 v6 v16 v33 v35 v37 11) (hatZ v20 v26 k))⟩,
    ⟨Rect.unit (s := S16x22x24x24) (k0_off11 k) S1x1x24x24.size (k0_off11_inb k), slab v43 v45 (mulf (prodAt v1 v3 v5 v6 v16 v33 v35 v37 10) (hatZ v20 v26 k))⟩,
    ⟨Rect.unit (s := S16x22x24x24) (k0_off10 k) S1x1x24x24.size (k0_off10_inb k), slab v43 v45 (mulf (prodAt v1 v3 v5 v6 v16 v33 v35 v37 9) (hatZ v20 v26 k))⟩,
    ⟨Rect.unit (s := S16x22x24x24) (k0_off9 k) S1x1x24x24.size (k0_off9_inb k), slab v43 v45 (mulf (prodAt v1 v3 v5 v6 v16 v33 v35 v37 8) (hatZ v20 v26 k))⟩,
    ⟨Rect.unit (s := S16x22x24x24) (k0_off8 k) S1x1x24x24.size (k0_off8_inb k), slab v43 v45 (mulf (prodAt v1 v3 v5 v6 v16 v33 v35 v37 7) (hatZ v20 v26 k))⟩,
    ⟨Rect.unit (s := S16x22x24x24) (k0_off7 k) S1x1x24x24.size (k0_off7_inb k), slab v43 v45 (mulf (prodAt v1 v3 v5 v6 v16 v33 v35 v37 6) (hatZ v20 v26 k))⟩,
    ⟨Rect.unit (s := S16x22x24x24) (k0_off6 k) S1x1x24x24.size (k0_off6_inb k), slab v43 v45 (mulf (prodAt v1 v3 v5 v6 v16 v33 v35 v37 5) (hatZ v20 v26 k))⟩,
    ⟨Rect.unit (s := S16x22x24x24) (k0_off5 k) S1x1x24x24.size (k0_off5_inb k), slab v43 v45 (mulf (prodAt v1 v3 v5 v6 v16 v33 v35 v37 4) (hatZ v20 v26 k))⟩,
    ⟨Rect.unit (s := S16x22x24x24) (k0_off4 k) S1x1x24x24.size (k0_off4_inb k), slab v43 v45 (mulf (prodAt v1 v3 v5 v6 v16 v33 v35 v37 3) (hatZ v20 v26 k))⟩,
    ⟨Rect.unit (s := S16x22x24x24) (k0_off3 k) S1x1x24x24.size (k0_off3_inb k), slab v43 v45 (mulf (prodAt v1 v3 v5 v6 v16 v33 v35 v37 2) (hatZ v20 v26 k))⟩,
    ⟨Rect.unit (s := S16x22x24x24) (k0_off2 k) S1x1x24x24.size (k0_off2_inb k), slab v43 v45 (mulf (prodAt v1 v3 v5 v6 v16 v33 v35 v37 1) (hatZ v20 v26 k))⟩,
    ⟨Rect.unit (s := S16x22x24x24) (k0_off1 k) S1x1x24x24.size (k0_off1_inb k), slab v43 v45 (mulf (prodAt v1 v3 v5 v6 v16 v33 v35 v37 0) (hatZ v20 v26 k))⟩] := by
  unfold tripL_k0_t1
  unfold trip_k0_t1
  rfl

/-- The loop makes sixteen trips. -/
theorem trips_eq : k0_t1_loop.trips = 16 := by decide +kernel

/-- The guide level of a row of the block, as a trip. -/
def tripOf (z : Fin 16) : Fin k0_t1_loop.trips := Fin.cast trips_eq.symm z

/-- What the block holds at an index. -/
def blockAt (v1 v3 v5 v6 v16 : FVec F S384x384 .f32) (v33 v35 v37 : Vec F S1x1x384x384 .f32) (v20 : FVec F S384x384 .f32) (v26 : IVec S384x384 32) (v43 : Vec F S24x384 .f32) (v45 : Vec F S384x24 .f32)
    (y : S16x22x24x24.Idx) : F .f32 :=
  slab v43 v45 (mulf (prodAt v1 v3 v5 v6 v16 v33 v35 v37 (y 1)) (hatZ v20 v26 (tripOf (y 0)))) (ix4 0 0 (y 2) (y 3))

/-- One piece of a trip agrees with the block. -/
theorem piece_eq (v1 v3 v5 v6 v16 : FVec F S384x384 .f32) (v33 v35 v37 : Vec F S1x1x384x384 .f32) (v20 : FVec F S384x384 .f32) (v26 : IVec S384x384 32) (v43 : Vec F S24x384 .f32) (v45 : Vec F S384x24 .f32)
    (k : Fin k0_t1_loop.trips) (n : Fin 22) (off : Fin 4 → ℕ) (inb) (hoff : off = ![k.val, n.val, 0, 0])
    (x : (Rect.unit (s := S16x22x24x24) off S1x1x24x24.size inb).shape.Idx) :
    slab v43 v45 (mulf (prodAt v1 v3 v5 v6 v16 v33 v35 v37 n) (hatZ v20 v26 k)) x
      = blockAt v1 v3 v5 v6 v16 v33 v35 v37 v20 v26 v43 v45 ((Rect.unit (s := S16x22x24x24) off S1x1x24x24.size inb).emb x) := by
  subst hoff
  have h0 : ((Rect.unit (s := S16x22x24x24) ![k.val, n.val, 0, 0] S1x1x24x24.size inb).emb x) 0 = Fin.cast trips_eq k := by
    apply Fin.ext; rw [ValueKit.rect_emb_unit_val]
    have : (x 0).val = 0 := by exact Nat.lt_one_iff.mp (x 0).isLt
    simp [this]
  have h1 : ((Rect.unit (s := S16x22x24x24) ![k.val, n.val, 0, 0] S1x1x24x24.size inb).emb x) 1 = n := by
    apply Fin.ext; rw [ValueKit.rect_emb_unit_val]
    have : (x 1).val = 0 := by exact Nat.lt_one_iff.mp (x 1).isLt
    simp [this]
  have h2 : ((Rect.unit (s := S16x22x24x24) ![k.val, n.val, 0, 0] S1x1x24x24.size inb).emb x) 2 = x 2 := by
    apply Fin.ext; rw [ValueKit.rect_emb_unit_val]; simp
  have h3 : ((Rect.unit (s := S16x22x24x24) ![k.val, n.val, 0, 0] S1x1x24x24.size inb).emb x) 3 = x 3 := by
    apply Fin.ext; rw [ValueKit.rect_emb_unit_val]; simp
  unfold blockAt
  rw [h0, h1, h2, h3]
  have hk : tripOf (Fin.cast trips_eq k) = k := Fin.ext rfl
  rw [hk]
  congr 1
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- Every piece of one trip agrees with the block. -/
theorem trip_pieces (𝒱 : Variants) (c : Dev nD) (bd : Option 𝒱.V) (arg0 : Memref sig .tc .vmem S1x3x384x384 .f32) (harg0 : arg0.IsWhole) (arg1 : Memref sig .tc .vmem S1x1x384x384 .f32) (harg1 : arg1.IsWhole) (arg2 : Memref sig .tc .vmem S1x3x384x384 .f32) (harg2 : arg2.IsWhole) (arg3 : Memref sig .tc .vmem S1x3x384x384 .f32) (harg3 : arg3.IsWhole) (arg4 : Memref sig .tc .vmem S24x384 .f32) (harg4 : arg4.IsWhole) (arg5 : Memref sig .tc .vmem S384x24 .f32) (harg5 : arg5.IsWhole) (arg6 : Memref sig .tc .vmem S16x22x24x24 .f32) (harg6 : arg6.IsWhole) (v1 : FVec F S384x384 .f32) (v3 : FVec F S384x384 .f32) (v5 : FVec F S384x384 .f32) (v6 : FVec F S384x384 .f32) (v16 : FVec F S384x384 .f32) (v20 : FVec F S384x384 .f32) (v26 : IVec S384x384 32) (v33 : Vec F S1x1x384x384 .f32) (v35 : Vec F S1x1x384x384 .f32) (v37 : Vec F S1x1x384x384 .f32) (v43 : Vec F S24x384 .f32) (v45 : Vec F S384x24 .f32) (k : Fin k0_t1_loop.trips) :
    ∀ p ∈ tripL_k0_t1 (F := F) 𝒱 c bd arg0 harg0 arg1 harg1 arg2 harg2 arg3 harg3 arg4 harg4 arg5 harg5 arg6 harg6 v1 v3 v5 v6 v16 v20 v26 v33 v35 v37 v43 v45 k,
      ∀ x : p.1.shape.Idx, p.2 x = blockAt v1 v3 v5 v6 v16 v33 v35 v37 v20 v26 v43 v45 (p.1.emb x) := by
  rw [tripL_eq]
  have H := piece_eq v1 v3 v5 v6 v16 v33 v35 v37 v20 v26 v43 v45 k
  simp only [List.forall_mem_cons]
  exact ⟨H 21 (k0_off22 k) (k0_off22_inb k) (k0_off22_eq k), H 20 (k0_off21 k) (k0_off21_inb k) (k0_off21_eq k), H 19 (k0_off20 k) (k0_off20_inb k) (k0_off20_eq k), H 18 (k0_off19 k) (k0_off19_inb k) (k0_off19_eq k), H 17 (k0_off18 k) (k0_off18_inb k) (k0_off18_eq k), H 16 (k0_off17 k) (k0_off17_inb k) (k0_off17_eq k), H 15 (k0_off16 k) (k0_off16_inb k) (k0_off16_eq k), H 14 (k0_off15 k) (k0_off15_inb k) (k0_off15_eq k), H 13 (k0_off14 k) (k0_off14_inb k) (k0_off14_eq k), H 12 (k0_off13 k) (k0_off13_inb k) (k0_off13_eq k), H 11 (k0_off12 k) (k0_off12_inb k) (k0_off12_eq k), H 10 (k0_off11 k) (k0_off11_inb k) (k0_off11_eq k), H 9 (k0_off10 k) (k0_off10_inb k) (k0_off10_eq k), H 8 (k0_off9 k) (k0_off9_inb k) (k0_off9_eq k), H 7 (k0_off8 k) (k0_off8_inb k) (k0_off8_eq k), H 6 (k0_off7 k) (k0_off7_inb k) (k0_off7_eq k), H 5 (k0_off6 k) (k0_off6_inb k) (k0_off6_eq k), H 4 (k0_off5 k) (k0_off5_inb k) (k0_off5_eq k), H 3 (k0_off4 k) (k0_off4_inb k) (k0_off4_eq k), H 2 (k0_off3 k) (k0_off3_inb k) (k0_off3_eq k), H 1 (k0_off2 k) (k0_off2_inb k) (k0_off2_eq k), H 0 (k0_off1 k) (k0_off1_inb k) (k0_off1_eq k), fun p hp => absurd hp List.not_mem_nil⟩

/-- Every piece of the loop agrees with the block. -/
theorem loop_pieces (𝒱 : Variants) (c : Dev nD) (bd : Option 𝒱.V) (arg0 : Memref sig .tc .vmem S1x3x384x384 .f32) (harg0 : arg0.IsWhole) (arg1 : Memref sig .tc .vmem S1x1x384x384 .f32) (harg1 : arg1.IsWhole) (arg2 : Memref sig .tc .vmem S1x3x384x384 .f32) (harg2 : arg2.IsWhole) (arg3 : Memref sig .tc .vmem S1x3x384x384 .f32) (harg3 : arg3.IsWhole) (arg4 : Memref sig .tc .vmem S24x384 .f32) (harg4 : arg4.IsWhole) (arg5 : Memref sig .tc .vmem S384x24 .f32) (harg5 : arg5.IsWhole) (arg6 : Memref sig .tc .vmem S16x22x24x24 .f32) (harg6 : arg6.IsWhole) (v1 : FVec F S384x384 .f32) (v3 : FVec F S384x384 .f32) (v5 : FVec F S384x384 .f32) (v6 : FVec F S384x384 .f32) (v16 : FVec F S384x384 .f32) (v20 : FVec F S384x384 .f32) (v26 : IVec S384x384 32) (v33 : Vec F S1x1x384x384 .f32) (v35 : Vec F S1x1x384x384 .f32) (v37 : Vec F S1x1x384x384 .f32) (v43 : Vec F S24x384 .f32) (v45 : Vec F S384x24 .f32) (n : ℕ) (hn : n ≤ k0_t1_loop.trips) :
    ∀ p ∈ pb_k0_t1 (F := F) 𝒱 c bd arg0 harg0 arg1 harg1 arg2 harg2 arg3 harg3 arg4 harg4 arg5 harg5 arg6 harg6 v1 v3 v5 v6 v16 v20 v26 v33 v35 v37 v43 v45 n,
      ∀ x : p.1.shape.Idx, p.2 x = blockAt v1 v3 v5 v6 v16 v33 v35 v37 v20 v26 v43 v45 (p.1.emb x) := by
  induction n with
  | zero => intro p hp; exact absurd hp List.not_mem_nil
  | succ n ih =>
    intro p hp
    rw [pb_k0_t1_succ (F := F) 𝒱 c bd arg0 harg0 arg1 harg1 arg2 harg2 arg3 harg3 arg4 harg4 arg5 harg5 arg6 harg6 v1 v3 v5 v6 v16 v20 v26 v33 v35 v37 v43 v45 ⟨n, hn⟩] at hp
    rcases List.mem_append.mp hp with h | h
    · exact trip_pieces (F := F) 𝒱 c bd arg0 harg0 arg1 harg1 arg2 harg2 arg3 harg3 arg4 harg4 arg5 harg5 arg6 harg6 v1 v3 v5 v6 v16 v20 v26 v33 v35 v37 v43 v45 ⟨n, hn⟩ p h
    · exact ih (by omega) p h

/-- One channel plane of a four-axis image. -/
abbrev chan (x : Vec F S1x3x384x384 .f32) (k : Fin 3) : Vec F S1x1x384x384 .f32 :=
  fun i => x (ix4 (0 : Fin 1) k (i 2) (i 3))

/-- A channel's rectangle, index by index. -/
theorem chan_idx (k : Fin 3) (inb) (i : (Rect.unit (s := S1x3x384x384) ![0, k.val, 0, 0] ![1, 1, 384, 384] inb).toLoadRect.shape.Idx) :
    (Rect.unit (s := S1x3x384x384) ![0, k.val, 0, 0] ![1, 1, 384, 384] inb).toLoadRect.idx i = ix4 (0 : Fin 1) k (i 2) (i 3) := by
  have g0 := (i 0).isLt
  have g1 := (i 1).isLt
  simp [Rect.unit, Rect.toLoadRect] at g0 g1
  funext a
  apply Fin.ext
  refine (ValueKit.rect_emb_unit_val _ _ _ _ _).trans ?_
  match a with
  | ⟨0, _⟩ => simp [g0]
  | ⟨1, _⟩ => simp [g1]
  | ⟨2, _⟩ => simp
  | ⟨3, _⟩ => simp

/-- A whole rectangle, index by index. -/
theorem whole_idx4 (inb) (i : (Rect.unit (s := S1x1x384x384) ![0, 0, 0, 0] ![1, 1, 384, 384] inb).toLoadRect.shape.Idx) :
    (Rect.unit (s := S1x1x384x384) ![0, 0, 0, 0] ![1, 1, 384, 384] inb).toLoadRect.idx i = i := by
  funext a
  apply Fin.ext
  refine (ValueKit.rect_emb_unit_val _ _ _ _ _).trans ?_
  match a with
  | ⟨0, _⟩ => simp
  | ⟨1, _⟩ => simp
  | ⟨2, _⟩ => simp
  | ⟨3, _⟩ => simp

/-- The row table's rectangle, index by index. -/
theorem whole_idxA (inb) (i : (Rect.unit (s := S24x384) ![0, 0] ![24, 384] inb).toLoadRect.shape.Idx) :
    (Rect.unit (s := S24x384) ![0, 0] ![24, 384] inb).toLoadRect.idx i = i := by
  funext a
  apply Fin.ext
  refine (ValueKit.rect_emb_unit_val _ _ _ _ _).trans ?_
  match a with
  | ⟨0, _⟩ => simp
  | ⟨1, _⟩ => simp

/-- The column table's rectangle, index by index. -/
theorem whole_idxB (inb) (i : (Rect.unit (s := S384x24) ![0, 0] ![384, 24] inb).toLoadRect.shape.Idx) :
    (Rect.unit (s := S384x24) ![0, 0] ![384, 24] inb).toLoadRect.idx i = i := by
  funext a
  apply Fin.ext
  refine (ValueKit.rect_emb_unit_val _ _ _ _ _).trans ?_
  match a with
  | ⟨0, _⟩ => simp
  | ⟨1, _⟩ => simp

/-- The splat kernel's block as a function of what it reads. -/
theorem out_eq (c : Dev nD) (arg0 : Memref sig .tc .vmem S1x3x384x384 .f32) (harg0 : arg0.IsWhole) (arg1 : Memref sig .tc .vmem S1x1x384x384 .f32) (harg1 : arg1.IsWhole) (arg2 : Memref sig .tc .vmem S1x3x384x384 .f32) (harg2 : arg2.IsWhole) (arg3 : Memref sig .tc .vmem S1x3x384x384 .f32) (harg3 : arg3.IsWhole) (arg4 : Memref sig .tc .vmem S24x384 .f32) (harg4 : arg4.IsWhole) (arg5 : Memref sig .tc .vmem S384x24 .f32) (harg5 : arg5.IsWhole) (arg6 : Memref sig .tc .vmem S16x22x24x24 .f32) (harg6 : arg6.IsWhole)
    (x0 : Vec F S1x3x384x384 .f32) (x1 : Vec F S1x1x384x384 .f32) (x2 : Vec F S1x3x384x384 .f32) (x3 : Vec F S1x3x384x384 .f32) (x4 : Vec F S24x384 .f32) (x5 : Vec F S384x24 .f32) :
    out0_A_6 c arg0 harg0 arg1 harg1 arg2 harg2 arg3 harg3 arg4 harg4 arg5 harg5 arg6 harg6 x0 x1 x2 x3 x4 x5
      = blockAt (k0_pay40 (chan x0 0)) (k0_pay41 (chan x0 1)) (k0_pay42 (chan x0 2)) k0_pay43
          (k0_pay44 (chan x3 0) (chan x3 1) (chan x3 2)) (chan x2 0) (chan x2 1) (chan x2 2) (k0_pay45 x1) (k0_pay46 x1) x4 x5 := by
  have h00 : View.readAt (Elt F) arg0.view (Rect.unit ![0, 0, 0, 0] ![1, 1, 384, 384] inb_S1x3x384x384_S1x1x384x384_0_0_0_0).toLoadRect (harg0.unread x0) = chan x0 0 := by
    funext i; exact (harg0.readAt_unread _ _ _).trans (congrArg x0 (chan_idx 0 _ i))
  have h01 : View.readAt (Elt F) arg0.view (Rect.unit ![0, 1, 0, 0] ![1, 1, 384, 384] inb_S1x3x384x384_S1x1x384x384_0_1_0_0).toLoadRect (harg0.unread x0) = chan x0 1 := by
    funext i; exact (harg0.readAt_unread _ _ _).trans (congrArg x0 (chan_idx 1 _ i))
  have h02 : View.readAt (Elt F) arg0.view (Rect.unit ![0, 2, 0, 0] ![1, 1, 384, 384] inb_S1x3x384x384_S1x1x384x384_0_2_0_0).toLoadRect (harg0.unread x0) = chan x0 2 := by
    funext i; exact (harg0.readAt_unread _ _ _).trans (congrArg x0 (chan_idx 2 _ i))
  have h30 : View.readAt (Elt F) arg3.view (Rect.unit ![0, 0, 0, 0] ![1, 1, 384, 384] inb_S1x3x384x384_S1x1x384x384_0_0_0_0).toLoadRect (harg3.unread x3) = chan x3 0 := by
    funext i; exact (harg3.readAt_unread _ _ _).trans (congrArg x3 (chan_idx 0 _ i))
  have h31 : View.readAt (Elt F) arg3.view (Rect.unit ![0, 1, 0, 0] ![1, 1, 384, 384] inb_S1x3x384x384_S1x1x384x384_0_1_0_0).toLoadRect (harg3.unread x3) = chan x3 1 := by
    funext i; exact (harg3.readAt_unread _ _ _).trans (congrArg x3 (chan_idx 1 _ i))
  have h32 : View.readAt (Elt F) arg3.view (Rect.unit ![0, 2, 0, 0] ![1, 1, 384, 384] inb_S1x3x384x384_S1x1x384x384_0_2_0_0).toLoadRect (harg3.unread x3) = chan x3 2 := by
    funext i; exact (harg3.readAt_unread _ _ _).trans (congrArg x3 (chan_idx 2 _ i))
  have h20 : View.readAt (Elt F) arg2.view (Rect.unit ![0, 0, 0, 0] ![1, 1, 384, 384] inb_S1x3x384x384_S1x1x384x384_0_0_0_0).toLoadRect (harg2.unread x2) = chan x2 0 := by
    funext i; exact (harg2.readAt_unread _ _ _).trans (congrArg x2 (chan_idx 0 _ i))
  have h21 : View.readAt (Elt F) arg2.view (Rect.unit ![0, 1, 0, 0] ![1, 1, 384, 384] inb_S1x3x384x384_S1x1x384x384_0_1_0_0).toLoadRect (harg2.unread x2) = chan x2 1 := by
    funext i; exact (harg2.readAt_unread _ _ _).trans (congrArg x2 (chan_idx 1 _ i))
  have h22 : View.readAt (Elt F) arg2.view (Rect.unit ![0, 2, 0, 0] ![1, 1, 384, 384] inb_S1x3x384x384_S1x1x384x384_0_2_0_0).toLoadRect (harg2.unread x2) = chan x2 2 := by
    funext i; exact (harg2.readAt_unread _ _ _).trans (congrArg x2 (chan_idx 2 _ i))
  have h1 : View.readAt (Elt F) arg1.view (Rect.unit ![0, 0, 0, 0] ![1, 1, 384, 384] inb_S1x1x384x384_S1x1x384x384_0_0_0_0).toLoadRect (harg1.unread x1) = x1 := by
    funext i; exact (harg1.readAt_unread _ _ _).trans (congrArg x1 (whole_idx4 _ i))
  have h4 : View.readAt (Elt F) arg4.view (Rect.unit ![0, 0] ![24, 384] inb_S24x384_S24x384_0_0).toLoadRect (harg4.unread x4) = x4 := by
    funext i; exact (harg4.readAt_unread _ _ _).trans (congrArg x4 (whole_idxA _ i))
  have h5 : View.readAt (Elt F) arg5.view (Rect.unit ![0, 0] ![384, 24] inb_S384x24_S384x24_0_0).toLoadRect (harg5.unread x5) = x5 := by
    funext i; exact (harg5.readAt_unread _ _ _).trans (congrArg x5 (whole_idxB _ i))
  unfold out0_A_6
  rw [View.read_writes_junk_eq_canon]
  funext y
  refine View.canon_apply_of_pieces _ _ ?_ y (cover0_A_6 c arg0 harg0 arg1 harg1 arg2 harg2 arg3 harg3 arg4 harg4 arg5 harg5 arg6 harg6 x0 x1 x2 x3 x4 x5 y)
  unfold kernelRun0_A
  dsimp only
  delta kernelRun0_A.sl.r kernelRun0_A.sl.r_1 kernelRun0_A.sl.r_2 kernelRun0_A.sl.r_3 kernelRun0_A.sl.r_4 kernelRun0_A.sl.r_5 kernelRun0_A.sl.v33 kernelRun0_A.sl.v35 kernelRun0_A.sl.v37
  dsimp only
  rw [h00, h01, h02, h30, h31, h32, h20, h21, h22, h1, h4, h5]
  exact loop_pieces (F := F) Variants.none c none arg0 harg0 arg1 harg1 arg2 harg2 arg3 harg3 arg4 harg4 arg5 harg5 arg6 harg6 _ _ _ _ _ _ _ _ _ _ _ _ _ le_rfl

end Cert.BguSplat

end
-- ==== Proof.SplatReal.lean ====
/- The splat kernel's slabs over the reals. -/
module

public import proofs.«01_k».proof.Proof.Splat
public import proofs.«01_k».proof.Proof.Hat

@[expose] public section

set_option maxRecDepth 16384

noncomputable section

namespace Cert.BguSplat

open Idealize.ShloMosaic Idealize.ShloMosaic.TcCoe
open Idealize.SL Idealize.SL.Sem
open Cert.KernelIdeal Cert.KernelIdeal.Gen

/-- A finite sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A slab of real tables and a real pixel plane is the real double sum. -/
theorem slab_real (v43 : Vec Ideal S24x384 .f32) (v45 : Vec Ideal S384x24 .f32) (p : FVec Ideal S384x384 .f32)
    (A : Fin 24 → Fin 384 → ℝ) (B : Fin 384 → Fin 24 → ℝ) (P : Fin 384 → Fin 384 → ℝ)
    (hA : ∀ g y, v43 (ix2 g y) = ((A g y : ℝ) : EReal)) (hB : ∀ x h, v45 (ix2 x h) = ((B x h : ℝ) : EReal))
    (hP : ∀ y x, p (ix2 y x) = ((P y x : ℝ) : EReal)) (g h : Fin 24) :
    slab v43 v45 p (ix4 (0 : Fin 1) (0 : Fin 1) g h) = ((∑ x, (∑ y, A g y * P y x) * B x h : ℝ) : EReal) := by
  unfold slab k0_pay10 k0_pay11
  pointwise
  simp only [hA, hB, hP, ← EReal.coe_mul, ← coe_sum]

/-- The guide weight at a pixel. -/
theorem hatZ_apply (x1 : Vec Ideal S1x1x384x384 .f32) (z : Fin 16) (y x : Fin 384) (r : ℝ) (hr : 0 ≤ r)
    (hx : x1 (ix4 (0 : Fin 1) (0 : Fin 1) y x) = ((r : ℝ) : EReal)) :
    hatZ (k0_pay45 x1) (k0_pay46 x1) (tripOf z) (ix2 y x) = ((BguHat.hz z r : ℝ) : EReal) := by
  unfold hatZ k0_pay14 k0_pay1 k0_pay2 k0_pay46 k0_pay45
  pointwise
  have hw : IntOp.minsi (15#32) (IntOp.maxsi (0#32) (FloatOps.fptosi (F := Ideal) (φ := .f32) 32
      (Ideal.liftRound Int.floor (x1 (ix4 (0 : Fin 1) (0 : Fin 1) y x) * Ideal.ofBits FTy.f32 1097859072#32))))
        = BitVec.ofNat 32 (BguHat.zc r) := by
    rw [hx, BguHat.lit_fifteen, ← EReal.coe_mul]
    exact BguHat.clamp_floor (r * 15) (by positivity) 15 (by norm_num)
  have hz15 : BguHat.zc r ≤ 15 := Nat.min_le_left _ _
  have hiv : Scf.iv 0#32 1#32 ((tripOf z).val) = BitVec.ofNat 32 z.val := by
    unfold Scf.iv; simp [tripOf]
  have hs : FloatOps.sitofp (F := Ideal) FTy.f32 (BitVec.ofNat 32 (BguHat.zc r)) = (((BguHat.zc r : ℕ) : ℝ) : EReal) := by
    show (((BitVec.ofNat 32 (BguHat.zc r)).toInt : ℝ) : EReal) = _
    rw [BguHat.toInt_ofNat _ (by omega)]; norm_num
  have h1 : IntOp.minsi (IntOp.addi (BitVec.ofNat 32 (BguHat.zc r)) 1#32) 15#32 = BitVec.ofNat 32 (min (BguHat.zc r + 1) 15) := by
    rw [show (1#32) = BitVec.ofNat 32 1 from rfl, BguHat.addi_ofNat, BguHat.minsi_ofNat _ _ (by omega) (by omega)]
  have hzlt := z.isLt
  rw [hw, hiv]
  simp only [hs, h1, hx, BguHat.lit_fifteen]
  rw [BguHat.select_eq_ofNat _ _ (by omega) (by omega), BguHat.select_eq_ofNat _ _ (by omega) (by omega)]
  unfold BguHat.hz BguHat.wz
  rw [← EReal.coe_mul, ← EReal.coe_sub, ← EReal.coe_one, ← EReal.coe_sub, ← EReal.coe_zero, EReal.coe_add]
  congr 1 <;> split_ifs <;> rfl

/-- The mean of three equal weights is the weight. -/
theorem pay44_apply (a b c : Vec Ideal S1x1x384x384 .f32) (w : ℝ) (y x : Fin 384)
    (ha : a (ix4 (0 : Fin 1) (0 : Fin 1) y x) = ((w : ℝ) : EReal)) (hb : b (ix4 (0 : Fin 1) (0 : Fin 1) y x) = ((w : ℝ) : EReal))
    (hc : c (ix4 (0 : Fin 1) (0 : Fin 1) y x) = ((w : ℝ) : EReal)) :
    k0_pay44 a b c (ix2 y x) = ((w : ℝ) : EReal) := by
  unfold k0_pay44
  pointwise
  rw [ha, hb, hc]
  have hk : κ "third" = some ((1 / 3 : ℝ) : EReal) := by unfold κ; rfl
  have hn := IdealRules.named_const.ideal_named_scalar κ "third" (φ := .f32) 1051372203#32 ((1 / 3 : ℝ) : EReal) hk
  rw [hn]
  rw [← EReal.coe_add, ← EReal.coe_add, ← EReal.coe_mul]
  congr 1; ring

/-- The pair of input channels of slab `j`, of the first ten. -/
def pairS : Fin 10 → Fin 4 × Fin 4 :=
  ![(0, 0), (0, 1), (0, 2), (0, 3), (1, 1), (1, 2), (1, 3), (2, 2), (2, 3), (3, 3)]

/-- The pixel product of a first-ten slab. -/
theorem prodS_apply (a : Vec Ideal S1x3x384x384 .f32) (b : Vec Ideal S1x3x384x384 .f32) (w : FVec Ideal S384x384 .f32)
    (y x : Fin 384) (A : Fin 4 → ℝ) (W : ℝ)
    (hA : ∀ k : Fin 3, a (ix4 (0 : Fin 1) k y x) = ((A k.castSucc : ℝ) : EReal)) (hA3 : A 3 = 1) (hw : w (ix2 y x) = ((W : ℝ) : EReal))
    (j : Fin 10) :
    prodAt (k0_pay40 (chan a 0)) (k0_pay41 (chan a 1)) (k0_pay42 (chan a 2)) k0_pay43 w (chan b 0) (chan b 1) (chan b 2)
      (Fin.castLE (by norm_num) j) (ix2 y x) = ((A (pairS j).1 * W * A (pairS j).2 : ℝ) : EReal) := by
  have h0 := hA 0
  have h1 := hA 1
  have h2 := hA 2
  unfold prodAt k0_pay40 k0_pay41 k0_pay42 k0_pay43 k0_pay6 k0_pay7 k0_pay8 k0_pay9 chan
  fin_cases j <;>
  · dsimp only [Fin.castLE, Matrix.cons_val, pairS]
    pointwise
    simp only [h0, h1, h2, hw, hA3, EReal.coe_mul, EReal.coe_one, one_mul, mul_one] <;> rfl

/-- The output channel and input channel of slab `10 + j`. -/
def pairT : Fin 12 → Fin 3 × Fin 4 :=
  ![(0, 0), (0, 1), (0, 2), (0, 3), (1, 0), (1, 1), (1, 2), (1, 3), (2, 0), (2, 1), (2, 2), (2, 3)]

/-- The pixel product of a last-twelve slab. -/
theorem prodT_apply (a : Vec Ideal S1x3x384x384 .f32) (b : Vec Ideal S1x3x384x384 .f32) (w : FVec Ideal S384x384 .f32)
    (y x : Fin 384) (A : Fin 4 → ℝ) (O : Fin 3 → ℝ) (W : ℝ)
    (hA : ∀ k : Fin 3, a (ix4 (0 : Fin 1) k y x) = ((A k.castSucc : ℝ) : EReal)) (hA3 : A 3 = 1)
    (hO : ∀ k : Fin 3, b (ix4 (0 : Fin 1) k y x) = ((O k : ℝ) : EReal)) (hw : w (ix2 y x) = ((W : ℝ) : EReal))
    (j : Fin 12) :
    prodAt (k0_pay40 (chan a 0)) (k0_pay41 (chan a 1)) (k0_pay42 (chan a 2)) k0_pay43 w (chan b 0) (chan b 1) (chan b 2)
      (Fin.natAdd 10 j) (ix2 y x) = ((O (pairT j).1 * (A (pairT j).2 * W) : ℝ) : EReal) := by
  have h0 := hA 0
  have h1 := hA 1
  have h2 := hA 2
  have g0 := hO 0
  have g1 := hO 1
  have g2 := hO 2
  unfold prodAt k0_pay40 k0_pay41 k0_pay42 k0_pay43 k0_pay3 k0_pay4 k0_pay5 k0_pay6 k0_pay7 k0_pay8 k0_pay9 chan
  fin_cases j <;>
  · dsimp only [Fin.natAdd, Matrix.cons_val, pairT]
    pointwise
    simp only [h0, h1, h2, g0, g1, g2, hw, hA3, EReal.coe_mul, EReal.coe_one, one_mul, mul_one] <;> rfl

/-- A cell's sum of weighted products of two input channels. -/
def gS (A : Fin 4 → Fin 384 → Fin 384 → ℝ) (Gd : Fin 384 → Fin 384 → ℝ) (w : ℝ) (i j : Fin 4) (z : Fin 16) (g h : Fin 24) : ℝ :=
  ∑ x, (∑ y, BguHat.hs g y * (A i y x * w * A j y x * BguHat.hz z (Gd y x))) * BguHat.hs h x

/-- A cell's sum of weighted products of an output channel and an input channel. -/
def gT (A : Fin 4 → Fin 384 → Fin 384 → ℝ) (O : Fin 3 → Fin 384 → Fin 384 → ℝ) (Gd : Fin 384 → Fin 384 → ℝ) (w : ℝ)
    (k : Fin 3) (i : Fin 4) (z : Fin 16) (g h : Fin 24) : ℝ :=
  ∑ x, (∑ y, BguHat.hs g y * (O k y x * (A i y x * w) * BguHat.hz z (Gd y x))) * BguHat.hs h x

variable (x0 : Vec Ideal S1x3x384x384 .f32) (x1 : Vec Ideal S1x1x384x384 .f32) (x2 x3 : Vec Ideal S1x3x384x384 .f32)
  (x4 : Vec Ideal S24x384 .f32) (x5 : Vec Ideal S384x24 .f32)
  (A : Fin 4 → Fin 384 → Fin 384 → ℝ) (O : Fin 3 → Fin 384 → Fin 384 → ℝ) (Gd : Fin 384 → Fin 384 → ℝ) (w : ℝ)

/-- The block's first ten slabs over the reals. -/
theorem blockS_real (hA : ∀ (k : Fin 3) y x, x0 (ix4 (0 : Fin 1) k y x) = ((A k.castSucc y x : ℝ) : EReal)) (hA3 : ∀ y x, A 3 y x = 1)
    (hG : ∀ y x, x1 (ix4 (0 : Fin 1) (0 : Fin 1) y x) = ((Gd y x : ℝ) : EReal)) (hG0 : ∀ y x, 0 ≤ Gd y x)
    (hw : ∀ (k : Fin 3) y x, x3 (ix4 (0 : Fin 1) k y x) = ((w : ℝ) : EReal))
    (h4 : ∀ g y, x4 (ix2 g y) = ((BguHat.hs g y : ℝ) : EReal)) (h5 : ∀ x h, x5 (ix2 x h) = ((BguHat.hs h x : ℝ) : EReal))
    (z : Fin 16) (j : Fin 10) (g h : Fin 24) :
    blockAt (k0_pay40 (chan x0 0)) (k0_pay41 (chan x0 1)) (k0_pay42 (chan x0 2)) k0_pay43
      (k0_pay44 (chan x3 0) (chan x3 1) (chan x3 2)) (chan x2 0) (chan x2 1) (chan x2 2) (k0_pay45 x1) (k0_pay46 x1) x4 x5
      (ix4 z (Fin.castLE (by norm_num) j : Fin 22) g h) = ((gS A Gd w (pairS j).1 (pairS j).2 z g h : ℝ) : EReal) := by
  unfold blockAt gS
  refine slab_real x4 x5 _ BguHat.hs (fun x h => BguHat.hs h x) _ h4 h5 (fun y x => ?_) g h
  have hW := pay44_apply (chan x3 0) (chan x3 1) (chan x3 2) w y x (hw 0 y x) (hw 1 y x) (hw 2 y x)
  have hP := prodS_apply x0 x2 _ y x (fun k => A k y x) w (fun k => hA k y x) (hA3 y x) hW j
  have hZ := hatZ_apply x1 z y x (Gd y x) (hG0 y x) (hG y x)
  rw [EReal.coe_mul, ← hP, ← hZ]
  rfl

/-- The block's last twelve slabs over the reals. -/
theorem blockT_real (hA : ∀ (k : Fin 3) y x, x0 (ix4 (0 : Fin 1) k y x) = ((A k.castSucc y x : ℝ) : EReal)) (hA3 : ∀ y x, A 3 y x = 1)
    (hG : ∀ y x, x1 (ix4 (0 : Fin 1) (0 : Fin 1) y x) = ((Gd y x : ℝ) : EReal)) (hG0 : ∀ y x, 0 ≤ Gd y x)
    (hO : ∀ (k : Fin 3) y x, x2 (ix4 (0 : Fin 1) k y x) = ((O k y x : ℝ) : EReal))
    (hw : ∀ (k : Fin 3) y x, x3 (ix4 (0 : Fin 1) k y x) = ((w : ℝ) : EReal))
    (h4 : ∀ g y, x4 (ix2 g y) = ((BguHat.hs g y : ℝ) : EReal)) (h5 : ∀ x h, x5 (ix2 x h) = ((BguHat.hs h x : ℝ) : EReal))
    (z : Fin 16) (j : Fin 12) (g h : Fin 24) :
    blockAt (k0_pay40 (chan x0 0)) (k0_pay41 (chan x0 1)) (k0_pay42 (chan x0 2)) k0_pay43
      (k0_pay44 (chan x3 0) (chan x3 1) (chan x3 2)) (chan x2 0) (chan x2 1) (chan x2 2) (k0_pay45 x1) (k0_pay46 x1) x4 x5
      (ix4 z (Fin.natAdd 10 j : Fin 22) g h) = ((gT A O Gd w (pairT j).1 (pairT j).2 z g h : ℝ) : EReal) := by
  unfold blockAt gT
  refine slab_real x4 x5 _ BguHat.hs (fun x h => BguHat.hs h x) _ h4 h5 (fun y x => ?_) g h
  have hW := pay44_apply (chan x3 0) (chan x3 1) (chan x3 2) w y x (hw 0 y x) (hw 1 y x) (hw 2 y x)
  have hP := prodT_apply x0 x2 _ y x (fun k => A k y x) (fun k => O k y x) w (fun k => hA k y x) (hA3 y x) (fun k => hO k y x) hW j
  have hZ := hatZ_apply x1 z y x (Gd y x) (hG0 y x) (hG y x)
  rw [EReal.coe_mul, ← hP, ← hZ]
  rfl

end Cert.BguSplat

end
-- ==== Proof.SolveReal.lean ====
/- The solve kernel's payloads over the reals: each value of the solve, at a cell, is the real value that the cell's 22
   sums give it. -/
module

public import proofs.«01_k».proof.Proof.SolveDefs
public import proofs.«01_k».proof.Proof.SplatReal
public import Idealize.ShloMosaic.Lib.Pipeline.ValueKit

@[expose] public section

set_option maxRecDepth 16384

noncomputable section

namespace Cert.BguSolve

open Idealize.ShloMosaic Idealize.ShloMosaic.TcCoe Idealize.ShloMosaic.Tactic
open Cert.KernelIdeal Cert.KernelIdeal.Gen
open Cert.BguHat (lam lit_lam div_real)
open Cert.BguAlg

/-- The 22 sums of one cell. -/
def pt (X : Fin 22 → Fin 16 → Fin 24 → Fin 24 → ℝ) (z : Fin 16) (g h : Fin 24) : Fin 22 → ℝ := fun j => X j z g h

/-- The total over the grid. -/
def tot (f : Fin 16 → Fin 24 → Fin 24 → ℝ) : ℝ := ∑ z, ∑ g, ∑ h, f z g h

/-- The denominator of the global gain. -/
def gden (X : Fin 22 → Fin 16 → Fin 24 → Fin 24 → ℝ) (k : Fin 3) : ℝ := tot (X (gi k)) + lam * (tot (X 9) + 1)

/-- The global gains. -/
def gam (X : Fin 22 → Fin 16 → Fin 24 → Fin 24 → ℝ) (k : Fin 3) : ℝ := tot (X (ti k)) / gden X k

/-- The block holds real sums whose denominators do not vanish. -/
structure Ok (x0 : Vec Ideal S16x22x24x24 .f32) (X : Fin 22 → Fin 16 → Fin 24 → Fin 24 → ℝ) : Prop where
  hx : ∀ j z g h, x0 (ix4 z j g h) = ((X j z g h : ℝ) : EReal)
  hd : ∀ k z g h, pt X z g h (gi k) + wl (pt X z g h) ≠ 0
  hg : ∀ k, gden X k ≠ 0
  ha : ∀ z g h, amax (mat (pt X z g h)) ≠ 0
  hdet : ∀ z g h, det (nrm (mat (pt X z g h))) ≠ 0

theorem zsub (x : ℝ) : (0 : EReal) - (x : EReal) = ((0 - x : ℝ) : EReal) := by rw [EReal.coe_sub, EReal.coe_zero]
theorem addone (x : ℝ) : (x : EReal) + 1 = ((x + 1 : ℝ) : EReal) := by rw [EReal.coe_add, EReal.coe_one]
theorem onediv (x : ℝ) (h : x ≠ 0) : Ideal.div 1 (x : EReal) = ((1 / x : ℝ) : EReal) := by
  rw [← div_real 1 x h, EReal.coe_one]
theorem coemax (x y : ℝ) : max (x : EReal) (y : EReal) = ((max x y : ℝ) : EReal) :=
  (Monotone.map_max (fun _ _ h => EReal.coe_le_coe_iff.mpr h)).symm
theorem coeabs (x : ℝ) : max (x : EReal) (-(x : EReal)) = ((av x : ℝ) : EReal) := by
  unfold av; rw [← EReal.coe_neg, coemax]
theorem iteq (x a b : ℝ) : (if (x : EReal) = 0 then (a : EReal) else (b : EReal)) = ((if x = 0 then a else b : ℝ) : EReal) := by
  by_cases h : x = 0
  · rw [if_pos h, if_pos (by rw [h]; rfl)]
  · rw [if_neg h, if_neg (fun e => h (EReal.coe_eq_zero.mp e))]

/-- The grid's sum of a plane stack that is real. -/
theorem totV (v : FVec Ideal S16x24x24 .f32) (f : Fin 16 → Fin 24 → Fin 24 → ℝ)
    (hv : ∀ z g h, v (ix3 z g h) = ((f z g h : ℝ) : EReal)) :
    Ideal.reduceAdd reduces_S1x16x24x24_S1 (shapeCast S1x16x24x24 v shapeCasts_S16x24x24_S1x16x24x24) (ix1 0)
      = ((tot f : ℝ) : EReal) := by
  rw [Ideal.reduceAdd_total _ (by decide), sum_idx4, Fin.sum_univ_one]
  unfold tot
  rw [BguSplat.coe_sum]
  refine Finset.sum_congr rfl fun z _ => ?_
  rw [BguSplat.coe_sum]
  refine Finset.sum_congr rfl fun g _ => ?_
  rw [BguSplat.coe_sum]
  refine Finset.sum_congr rfl fun h _ => ?_
  rw [← hv z g h]
  pointwise

variable (x0 : Vec Ideal S16x22x24x24 .f32) (X : Fin 22 → Fin 16 → Fin 24 → Fin 24 → ℝ) (H : Ok x0 X)
include H

theorem q101 (z : Fin 16) (g h : Fin 24) : k1_pay3 (View.ld x0 r1_0) (ix3 z g h) = (((pt X z g h) 0 : ℝ) : EReal) := by
  unfold k1_pay3
  pointwise
  exact H.hx 0 z g h

theorem p101 (z : Fin 16) (g h : Fin 24) : k1_pay101 x0 (ix3 z g h) = (((pt X z g h) 0 : ℝ) : EReal) := q101 x0 X H z g h

theorem q102 (z : Fin 16) (g h : Fin 24) : k1_pay4 (View.ld x0 r1_1) (ix3 z g h) = (((pt X z g h) 1 : ℝ) : EReal) := by
  unfold k1_pay4
  pointwise
  exact H.hx 1 z g h

theorem p102 (z : Fin 16) (g h : Fin 24) : k1_pay102 x0 (ix3 z g h) = (((pt X z g h) 1 : ℝ) : EReal) := q102 x0 X H z g h

theorem q103 (z : Fin 16) (g h : Fin 24) : k1_pay5 (View.ld x0 r1_2) (ix3 z g h) = (((pt X z g h) 2 : ℝ) : EReal) := by
  unfold k1_pay5
  pointwise
  exact H.hx 2 z g h

theorem p103 (z : Fin 16) (g h : Fin 24) : k1_pay103 x0 (ix3 z g h) = (((pt X z g h) 2 : ℝ) : EReal) := q103 x0 X H z g h

theorem q104 (z : Fin 16) (g h : Fin 24) : k1_pay6 (View.ld x0 r1_3) (ix3 z g h) = (((pt X z g h) 3 : ℝ) : EReal) := by
  unfold k1_pay6
  pointwise
  exact H.hx 3 z g h

theorem p104 (z : Fin 16) (g h : Fin 24) : k1_pay104 x0 (ix3 z g h) = (((pt X z g h) 3 : ℝ) : EReal) := q104 x0 X H z g h

theorem q105 (z : Fin 16) (g h : Fin 24) : k1_pay7 (View.ld x0 r1_4) (ix3 z g h) = (((pt X z g h) 4 : ℝ) : EReal) := by
  unfold k1_pay7
  pointwise
  exact H.hx 4 z g h

theorem p105 (z : Fin 16) (g h : Fin 24) : k1_pay105 x0 (ix3 z g h) = (((pt X z g h) 4 : ℝ) : EReal) := q105 x0 X H z g h

theorem q106 (z : Fin 16) (g h : Fin 24) : k1_pay8 (View.ld x0 r1_5) (ix3 z g h) = (((pt X z g h) 5 : ℝ) : EReal) := by
  unfold k1_pay8
  pointwise
  exact H.hx 5 z g h

theorem p106 (z : Fin 16) (g h : Fin 24) : k1_pay106 x0 (ix3 z g h) = (((pt X z g h) 5 : ℝ) : EReal) := q106 x0 X H z g h

theorem q107 (z : Fin 16) (g h : Fin 24) : k1_pay9 (View.ld x0 r1_6) (ix3 z g h) = (((pt X z g h) 6 : ℝ) : EReal) := by
  unfold k1_pay9
  pointwise
  exact H.hx 6 z g h

theorem p107 (z : Fin 16) (g h : Fin 24) : k1_pay107 x0 (ix3 z g h) = (((pt X z g h) 6 : ℝ) : EReal) := q107 x0 X H z g h

theorem q108 (z : Fin 16) (g h : Fin 24) : k1_pay10 (View.ld x0 r1_7) (ix3 z g h) = (((pt X z g h) 7 : ℝ) : EReal) := by
  unfold k1_pay10
  pointwise
  exact H.hx 7 z g h

theorem p108 (z : Fin 16) (g h : Fin 24) : k1_pay108 x0 (ix3 z g h) = (((pt X z g h) 7 : ℝ) : EReal) := q108 x0 X H z g h

theorem q109 (z : Fin 16) (g h : Fin 24) : k1_pay11 (View.ld x0 r1_8) (ix3 z g h) = (((pt X z g h) 8 : ℝ) : EReal) := by
  unfold k1_pay11
  pointwise
  exact H.hx 8 z g h

theorem p109 (z : Fin 16) (g h : Fin 24) : k1_pay109 x0 (ix3 z g h) = (((pt X z g h) 8 : ℝ) : EReal) := q109 x0 X H z g h

theorem q110 (z : Fin 16) (g h : Fin 24) : k1_pay12 (View.ld x0 r1_9) (ix3 z g h) = (((pt X z g h) 9 : ℝ) : EReal) := by
  unfold k1_pay12
  pointwise
  exact H.hx 9 z g h

theorem p110 (z : Fin 16) (g h : Fin 24) : k1_pay110 x0 (ix3 z g h) = (((pt X z g h) 9 : ℝ) : EReal) := q110 x0 X H z g h

theorem q111 (z : Fin 16) (g h : Fin 24) : k1_pay14 (View.ld x0 r1_11) (ix3 z g h) = (((pt X z g h) 11 : ℝ) : EReal) := by
  unfold k1_pay14
  pointwise
  exact H.hx 11 z g h

theorem p111 (z : Fin 16) (g h : Fin 24) : k1_pay111 x0 (ix3 z g h) = (((pt X z g h) 11 : ℝ) : EReal) := q111 x0 X H z g h

theorem q112 (z : Fin 16) (g h : Fin 24) : k1_pay15 (View.ld x0 r1_12) (ix3 z g h) = (((pt X z g h) 12 : ℝ) : EReal) := by
  unfold k1_pay15
  pointwise
  exact H.hx 12 z g h

theorem p112 (z : Fin 16) (g h : Fin 24) : k1_pay112 x0 (ix3 z g h) = (((pt X z g h) 12 : ℝ) : EReal) := q112 x0 X H z g h

theorem q113 (z : Fin 16) (g h : Fin 24) : k1_pay16 (View.ld x0 r1_13) (ix3 z g h) = (((pt X z g h) 13 : ℝ) : EReal) := by
  unfold k1_pay16
  pointwise
  exact H.hx 13 z g h

theorem p113 (z : Fin 16) (g h : Fin 24) : k1_pay113 x0 (ix3 z g h) = (((pt X z g h) 13 : ℝ) : EReal) := q113 x0 X H z g h

theorem q114 (z : Fin 16) (g h : Fin 24) : k1_pay17 (View.ld x0 r1_14) (ix3 z g h) = (((pt X z g h) 14 : ℝ) : EReal) := by
  unfold k1_pay17
  pointwise
  exact H.hx 14 z g h

theorem p114 (z : Fin 16) (g h : Fin 24) : k1_pay114 x0 (ix3 z g h) = (((pt X z g h) 14 : ℝ) : EReal) := q114 x0 X H z g h

theorem q115 (z : Fin 16) (g h : Fin 24) : k1_pay19 (View.ld x0 r1_16) (ix3 z g h) = (((pt X z g h) 16 : ℝ) : EReal) := by
  unfold k1_pay19
  pointwise
  exact H.hx 16 z g h

theorem p115 (z : Fin 16) (g h : Fin 24) : k1_pay115 x0 (ix3 z g h) = (((pt X z g h) 16 : ℝ) : EReal) := q115 x0 X H z g h

theorem q116 (z : Fin 16) (g h : Fin 24) : k1_pay20 (View.ld x0 r1_17) (ix3 z g h) = (((pt X z g h) 17 : ℝ) : EReal) := by
  unfold k1_pay20
  pointwise
  exact H.hx 17 z g h

theorem p116 (z : Fin 16) (g h : Fin 24) : k1_pay116 x0 (ix3 z g h) = (((pt X z g h) 17 : ℝ) : EReal) := q116 x0 X H z g h

theorem q117 (z : Fin 16) (g h : Fin 24) : k1_pay21 (View.ld x0 r1_18) (ix3 z g h) = (((pt X z g h) 18 : ℝ) : EReal) := by
  unfold k1_pay21
  pointwise
  exact H.hx 18 z g h

theorem p117 (z : Fin 16) (g h : Fin 24) : k1_pay117 x0 (ix3 z g h) = (((pt X z g h) 18 : ℝ) : EReal) := q117 x0 X H z g h

theorem q118 (z : Fin 16) (g h : Fin 24) : k1_pay22 (View.ld x0 r1_19) (ix3 z g h) = (((pt X z g h) 19 : ℝ) : EReal) := by
  unfold k1_pay22
  pointwise
  exact H.hx 19 z g h

theorem p118 (z : Fin 16) (g h : Fin 24) : k1_pay118 x0 (ix3 z g h) = (((pt X z g h) 19 : ℝ) : EReal) := q118 x0 X H z g h

theorem q119 (z : Fin 16) (g h : Fin 24) : k1_pay24 (View.ld x0 r1_21) (ix3 z g h) = (((pt X z g h) 21 : ℝ) : EReal) := by
  unfold k1_pay24
  pointwise
  exact H.hx 21 z g h

theorem p119 (z : Fin 16) (g h : Fin 24) : k1_pay119 x0 (ix3 z g h) = (((pt X z g h) 21 : ℝ) : EReal) := q119 x0 X H z g h

theorem q120 (z : Fin 16) (g h : Fin 24) : k1_pay25 (k1_pay110 x0) (ix3 z g h) = ((wl (pt X z g h) : ℝ) : EReal) := by
  unfold k1_pay25
  pointwise
  simp only [p110 x0 X H, ← EReal.coe_mul, ← EReal.coe_add, ← EReal.coe_sub, zsub, addone, coeabs, coemax, lit_lam]
  try rfl

theorem p120 (z : Fin 16) (g h : Fin 24) : k1_pay120 x0 (ix3 z g h) = ((wl (pt X z g h) : ℝ) : EReal) := q120 x0 X H z g h

theorem q121 (z : Fin 16) (g h : Fin 24) : k1_pay32 (k1_pay101 x0) (k1_pay120 x0) (ix3 z g h) = (((mat (pt X z g h)) 0 0 : ℝ) : EReal) := by
  unfold k1_pay32
  pointwise
  simp only [p101 x0 X H, p120 x0 X H, ← EReal.coe_mul, ← EReal.coe_add, ← EReal.coe_sub, zsub, addone, coeabs, coemax, lit_lam]
  try rfl

theorem p121 (z : Fin 16) (g h : Fin 24) : k1_pay121 x0 (ix3 z g h) = (((mat (pt X z g h)) 0 0 : ℝ) : EReal) := q121 x0 X H z g h

theorem q122 (z : Fin 16) (g h : Fin 24) : k1_pay33 (k1_pay105 x0) (k1_pay120 x0) (ix3 z g h) = (((mat (pt X z g h)) 1 1 : ℝ) : EReal) := by
  unfold k1_pay33
  pointwise
  simp only [p105 x0 X H, p120 x0 X H, ← EReal.coe_mul, ← EReal.coe_add, ← EReal.coe_sub, zsub, addone, coeabs, coemax, lit_lam]
  try rfl

theorem p122 (z : Fin 16) (g h : Fin 24) : k1_pay122 x0 (ix3 z g h) = (((mat (pt X z g h)) 1 1 : ℝ) : EReal) := q122 x0 X H z g h

theorem q123 (z : Fin 16) (g h : Fin 24) : k1_pay34 (k1_pay108 x0) (k1_pay120 x0) (ix3 z g h) = (((mat (pt X z g h)) 2 2 : ℝ) : EReal) := by
  unfold k1_pay34
  pointwise
  simp only [p108 x0 X H, p120 x0 X H, ← EReal.coe_mul, ← EReal.coe_add, ← EReal.coe_sub, zsub, addone, coeabs, coemax, lit_lam]
  try rfl

theorem p123 (z : Fin 16) (g h : Fin 24) : k1_pay123 x0 (ix3 z g h) = (((mat (pt X z g h)) 2 2 : ℝ) : EReal) := q123 x0 X H z g h

theorem q124 (z : Fin 16) (g h : Fin 24) : k1_pay35 (k1_pay110 x0) (k1_pay120 x0) (ix3 z g h) = (((mat (pt X z g h)) 3 3 : ℝ) : EReal) := by
  unfold k1_pay35
  pointwise
  simp only [p110 x0 X H, p120 x0 X H, ← EReal.coe_mul, ← EReal.coe_add, ← EReal.coe_sub, zsub, addone, coeabs, coemax, lit_lam]
  try rfl

theorem p124 (z : Fin 16) (g h : Fin 24) : k1_pay124 x0 (ix3 z g h) = (((mat (pt X z g h)) 3 3 : ℝ) : EReal) := q124 x0 X H z g h

theorem lam110 : k1_pay26 (k1_pay110 x0) = ((lam * (tot (X 9) + 1) : ℝ) : EReal) := by
  unfold k1_pay26
  pointwise
  rw [totV (k1_pay110 x0) (X 9) (p110 x0 X H)]
  simp only [← EReal.coe_mul, ← EReal.coe_add, ← EReal.coe_sub, zsub, addone, coeabs, coemax, lit_lam]

theorem gain0 : k1_pay27 (k1_pay104 x0) (k1_pay110 x0) (k1_pay113 x0) = ((gam X 0 : ℝ) : EReal) := by
  unfold k1_pay27
  pointwise
  rw [lam110 x0 X H, totV (k1_pay104 x0) (X (gi 0)) (p104 x0 X H), totV (k1_pay113 x0) (X (ti 0)) (p113 x0 X H), ← EReal.coe_add]
  exact div_real _ _ (H.hg 0)

theorem gain1 : k1_pay28 (k1_pay107 x0) (k1_pay110 x0) (k1_pay116 x0) = ((gam X 1 : ℝ) : EReal) := by
  unfold k1_pay28
  pointwise
  rw [lam110 x0 X H, totV (k1_pay107 x0) (X (gi 1)) (p107 x0 X H), totV (k1_pay116 x0) (X (ti 1)) (p116 x0 X H), ← EReal.coe_add]
  exact div_real _ _ (H.hg 1)

theorem l125 (z : Fin 16) (g h : Fin 24) : k1_pay13 (View.ld x0 r1_10) (ix3 z g h) = ((pt X z g h 10 : ℝ) : EReal) := by
  unfold k1_pay13
  pointwise
  exact H.hx 10 z g h

theorem q125 (z : Fin 16) (g h : Fin 24) : k1_pay36 (k1_pay104 x0) (k1_pay110 x0) (k1_pay13 (View.ld x0 r1_10)) (k1_pay113 x0) (k1_pay120 x0) (k1_pay27 (k1_pay104 x0) (k1_pay110 x0) (k1_pay113 x0)) (ix3 z g h) = ((rhs (pt X z g h) (gam X) 0 0 : ℝ) : EReal) := by
  unfold k1_pay36 k1_pay31
  pointwise
  simp only [l125 x0 X H, p104 x0 X H, p110 x0 X H, p120 x0 X H, p113 x0 X H, gain0 x0 X H, ← EReal.coe_add]
  have hd : pt X z g h 3 + wl (pt X z g h) ≠ 0 := H.hd 0 z g h
  rw [div_real _ _ hd, iteq, ← EReal.coe_mul, ← EReal.coe_add]
  rfl

theorem p125 (z : Fin 16) (g h : Fin 24) : k1_pay125 x0 (ix3 z g h) = ((rhs (pt X z g h) (gam X) 0 0 : ℝ) : EReal) := q125 x0 X H z g h

theorem l126 (z : Fin 16) (g h : Fin 24) : k1_pay18 (View.ld x0 r1_15) (ix3 z g h) = ((pt X z g h 15 : ℝ) : EReal) := by
  unfold k1_pay18
  pointwise
  exact H.hx 15 z g h

theorem q126 (z : Fin 16) (g h : Fin 24) : k1_pay37 (k1_pay107 x0) (k1_pay110 x0) (k1_pay18 (View.ld x0 r1_15)) (k1_pay116 x0) (k1_pay120 x0) (k1_pay28 (k1_pay107 x0) (k1_pay110 x0) (k1_pay116 x0)) (ix3 z g h) = ((rhs (pt X z g h) (gam X) 1 1 : ℝ) : EReal) := by
  unfold k1_pay37 k1_pay31
  pointwise
  simp only [l126 x0 X H, p107 x0 X H, p110 x0 X H, p120 x0 X H, p116 x0 X H, gain1 x0 X H, ← EReal.coe_add]
  have hd : pt X z g h 6 + wl (pt X z g h) ≠ 0 := H.hd 1 z g h
  rw [div_real _ _ hd, iteq, ← EReal.coe_mul, ← EReal.coe_add]
  rfl

theorem p126 (z : Fin 16) (g h : Fin 24) : k1_pay126 x0 (ix3 z g h) = ((rhs (pt X z g h) (gam X) 1 1 : ℝ) : EReal) := q126 x0 X H z g h

theorem l127 (z : Fin 16) (g h : Fin 24) : k1_pay23 (View.ld x0 r1_20) (ix3 z g h) = ((pt X z g h 20 : ℝ) : EReal) := by
  unfold k1_pay23
  pointwise
  exact H.hx 20 z g h

theorem gain2 : Ideal.div (k1_pay29 (View.ld x0 r1_21)) (extractAt ![0, 0, 0, 0] (k1_pay30 (k1_pay109 x0)) inpos_S1x1x1x1_p0_0_0_0 + k1_pay26 (k1_pay110 x0)) = ((gam X 2 : ℝ) : EReal) := by
  unfold k1_pay29 k1_pay30
  pointwise
  rw [lam110 x0 X H, totV (k1_pay109 x0) (X (gi 2)) (p109 x0 X H), totV (k1_pay24 (View.ld x0 r1_21)) (X (ti 2)) (q119 x0 X H), ← EReal.coe_add]
  exact div_real _ _ (H.hg 2)

theorem q127 (z : Fin 16) (g h : Fin 24) : k1_pay38 (k1_pay109 x0) (k1_pay110 x0) (k1_pay23 (View.ld x0 r1_20)) (k1_pay119 x0) (k1_pay120 x0) (k1_pay26 (k1_pay110 x0)) (k1_pay29 (View.ld x0 r1_21)) (k1_pay30 (k1_pay109 x0)) (ix3 z g h) = ((rhs (pt X z g h) (gam X) 2 2 : ℝ) : EReal) := by
  have hgain := gain2 x0 X H
  unfold k1_pay38 k1_pay31
  pointwise at hgain ⊢
  simp only [l127 x0 X H, p109 x0 X H, p110 x0 X H, p120 x0 X H, p119 x0 X H, hgain, ← EReal.coe_add]
  have hd : pt X z g h 8 + wl (pt X z g h) ≠ 0 := H.hd 2 z g h
  rw [div_real _ _ hd, iteq, ← EReal.coe_mul, ← EReal.coe_add]
  rfl

theorem p127 (z : Fin 16) (g h : Fin 24) : k1_pay127 x0 (ix3 z g h) = ((rhs (pt X z g h) (gam X) 2 2 : ℝ) : EReal) := q127 x0 X H z g h

theorem q128 (z : Fin 16) (g h : Fin 24) : k1_pay39 (k1_pay101 x0) (k1_pay102 x0) (k1_pay103 x0) (k1_pay104 x0) (k1_pay105 x0) (k1_pay106 x0) (k1_pay107 x0) (k1_pay108 x0) (k1_pay109 x0) (k1_pay110 x0) (k1_pay120 x0) (ix3 z g h) = ((amax (mat (pt X z g h)) : ℝ) : EReal) := by
  unfold k1_pay39
  pointwise
  simp only [p101 x0 X H, p102 x0 X H, p103 x0 X H, p104 x0 X H, p105 x0 X H, p106 x0 X H, p107 x0 X H, p108 x0 X H, p109 x0 X H, p110 x0 X H, p120 x0 X H, q121 x0 X H, q122 x0 X H, q123 x0 X H, q124 x0 X H, ← EReal.coe_mul, ← EReal.coe_add, ← EReal.coe_sub, zsub, addone, coeabs, coemax, lit_lam]
  try rfl

theorem p128 (z : Fin 16) (g h : Fin 24) : k1_pay128 x0 (ix3 z g h) = ((amax (mat (pt X z g h)) : ℝ) : EReal) := q128 x0 X H z g h

theorem q129 (z : Fin 16) (g h : Fin 24) : k1_pay40 (k1_pay128 x0) (ix3 z g h) = ((sc (mat (pt X z g h)) : ℝ) : EReal) := by
  unfold k1_pay40
  pointwise
  rw [p128 x0 X H, onediv _ (H.ha z g h)]
  rfl

theorem p129 (z : Fin 16) (g h : Fin 24) : k1_pay129 x0 (ix3 z g h) = ((sc (mat (pt X z g h)) : ℝ) : EReal) := q129 x0 X H z g h

theorem q130 (z : Fin 16) (g h : Fin 24) : k1_pay41 (k1_pay121 x0) (k1_pay128 x0) (ix3 z g h) = (((nrm (mat (pt X z g h))) 0 0 : ℝ) : EReal) := by
  unfold k1_pay41
  pointwise
  simp only [p121 x0 X H, p128 x0 X H, q129 x0 X H, ← EReal.coe_mul, ← EReal.coe_add, ← EReal.coe_sub, zsub, addone, coeabs, coemax, lit_lam]
  try rfl

theorem p130 (z : Fin 16) (g h : Fin 24) : k1_pay130 x0 (ix3 z g h) = (((nrm (mat (pt X z g h))) 0 0 : ℝ) : EReal) := q130 x0 X H z g h

theorem q131 (z : Fin 16) (g h : Fin 24) : k1_pay42 (k1_pay102 x0) (k1_pay128 x0) (ix3 z g h) = (((nrm (mat (pt X z g h))) 0 1 : ℝ) : EReal) := by
  unfold k1_pay42
  pointwise
  simp only [p102 x0 X H, p128 x0 X H, q129 x0 X H, ← EReal.coe_mul, ← EReal.coe_add, ← EReal.coe_sub, zsub, addone, coeabs, coemax, lit_lam]
  try rfl

theorem p131 (z : Fin 16) (g h : Fin 24) : k1_pay131 x0 (ix3 z g h) = (((nrm (mat (pt X z g h))) 0 1 : ℝ) : EReal) := q131 x0 X H z g h

theorem q132 (z : Fin 16) (g h : Fin 24) : k1_pay43 (k1_pay103 x0) (k1_pay128 x0) (ix3 z g h) = (((nrm (mat (pt X z g h))) 0 2 : ℝ) : EReal) := by
  unfold k1_pay43
  pointwise
  simp only [p103 x0 X H, p128 x0 X H, q129 x0 X H, ← EReal.coe_mul, ← EReal.coe_add, ← EReal.coe_sub, zsub, addone, coeabs, coemax, lit_lam]
  try rfl

theorem p132 (z : Fin 16) (g h : Fin 24) : k1_pay132 x0 (ix3 z g h) = (((nrm (mat (pt X z g h))) 0 2 : ℝ) : EReal) := q132 x0 X H z g h

theorem q133 (z : Fin 16) (g h : Fin 24) : k1_pay44 (k1_pay104 x0) (k1_pay128 x0) (ix3 z g h) = (((nrm (mat (pt X z g h))) 0 3 : ℝ) : EReal) := by
  unfold k1_pay44
  pointwise
  simp only [p104 x0 X H, p128 x0 X H, q129 x0 X H, ← EReal.coe_mul, ← EReal.coe_add, ← EReal.coe_sub, zsub, addone, coeabs, coemax, lit_lam]
  try rfl

theorem p133 (z : Fin 16) (g h : Fin 24) : k1_pay133 x0 (ix3 z g h) = (((nrm (mat (pt X z g h))) 0 3 : ℝ) : EReal) := q133 x0 X H z g h

theorem q134 (z : Fin 16) (g h : Fin 24) : k1_pay45 (k1_pay102 x0) (k1_pay128 x0) (ix3 z g h) = (((nrm (mat (pt X z g h))) 1 0 : ℝ) : EReal) := by
  unfold k1_pay45
  pointwise
  simp only [p102 x0 X H, p128 x0 X H, q129 x0 X H, ← EReal.coe_mul, ← EReal.coe_add, ← EReal.coe_sub, zsub, addone, coeabs, coemax, lit_lam]
  try rfl

theorem p134 (z : Fin 16) (g h : Fin 24) : k1_pay134 x0 (ix3 z g h) = (((nrm (mat (pt X z g h))) 1 0 : ℝ) : EReal) := q134 x0 X H z g h

theorem q135 (z : Fin 16) (g h : Fin 24) : k1_pay46 (k1_pay122 x0) (k1_pay128 x0) (ix3 z g h) = (((nrm (mat (pt X z g h))) 1 1 : ℝ) : EReal) := by
  unfold k1_pay46
  pointwise
  simp only [p122 x0 X H, p128 x0 X H, q129 x0 X H, ← EReal.coe_mul, ← EReal.coe_add, ← EReal.coe_sub, zsub, addone, coeabs, coemax, lit_lam]
  try rfl

theorem p135 (z : Fin 16) (g h : Fin 24) : k1_pay135 x0 (ix3 z g h) = (((nrm (mat (pt X z g h))) 1 1 : ℝ) : EReal) := q135 x0 X H z g h

theorem q136 (z : Fin 16) (g h : Fin 24) : k1_pay47 (k1_pay106 x0) (k1_pay128 x0) (ix3 z g h) = (((nrm (mat (pt X z g h))) 1 2 : ℝ) : EReal) := by
  unfold k1_pay47
  pointwise
  simp only [p106 x0 X H, p128 x0 X H, q129 x0 X H, ← EReal.coe_mul, ← EReal.coe_add, ← EReal.coe_sub, zsub, addone, coeabs, coemax, lit_lam]
  try rfl

theorem p136 (z : Fin 16) (g h : Fin 24) : k1_pay136 x0 (ix3 z g h) = (((nrm (mat (pt X z g h))) 1 2 : ℝ) : EReal) := q136 x0 X H z g h

theorem q137 (z : Fin 16) (g h : Fin 24) : k1_pay48 (k1_pay107 x0) (k1_pay128 x0) (ix3 z g h) = (((nrm (mat (pt X z g h))) 1 3 : ℝ) : EReal) := by
  unfold k1_pay48
  pointwise
  simp only [p107 x0 X H, p128 x0 X H, q129 x0 X H, ← EReal.coe_mul, ← EReal.coe_add, ← EReal.coe_sub, zsub, addone, coeabs, coemax, lit_lam]
  try rfl

theorem p137 (z : Fin 16) (g h : Fin 24) : k1_pay137 x0 (ix3 z g h) = (((nrm (mat (pt X z g h))) 1 3 : ℝ) : EReal) := q137 x0 X H z g h

theorem q138 (z : Fin 16) (g h : Fin 24) : k1_pay49 (k1_pay103 x0) (k1_pay128 x0) (ix3 z g h) = (((nrm (mat (pt X z g h))) 2 0 : ℝ) : EReal) := by
  unfold k1_pay49
  pointwise
  simp only [p103 x0 X H, p128 x0 X H, q129 x0 X H, ← EReal.coe_mul, ← EReal.coe_add, ← EReal.coe_sub, zsub, addone, coeabs, coemax, lit_lam]
  try rfl

theorem p138 (z : Fin 16) (g h : Fin 24) : k1_pay138 x0 (ix3 z g h) = (((nrm (mat (pt X z g h))) 2 0 : ℝ) : EReal) := q138 x0 X H z g h

theorem q139 (z : Fin 16) (g h : Fin 24) : k1_pay50 (k1_pay106 x0) (k1_pay128 x0) (ix3 z g h) = (((nrm (mat (pt X z g h))) 2 1 : ℝ) : EReal) := by
  unfold k1_pay50
  pointwise
  simp only [p106 x0 X H, p128 x0 X H, q129 x0 X H, ← EReal.coe_mul, ← EReal.coe_add, ← EReal.coe_sub, zsub, addone, coeabs, coemax, lit_lam]
  try rfl

theorem p139 (z : Fin 16) (g h : Fin 24) : k1_pay139 x0 (ix3 z g h) = (((nrm (mat (pt X z g h))) 2 1 : ℝ) : EReal) := q139 x0 X H z g h

theorem q140 (z : Fin 16) (g h : Fin 24) : k1_pay51 (k1_pay123 x0) (k1_pay128 x0) (ix3 z g h) = (((nrm (mat (pt X z g h))) 2 2 : ℝ) : EReal) := by
  unfold k1_pay51
  pointwise
  simp only [p123 x0 X H, p128 x0 X H, q129 x0 X H, ← EReal.coe_mul, ← EReal.coe_add, ← EReal.coe_sub, zsub, addone, coeabs, coemax, lit_lam]
  try rfl

theorem p140 (z : Fin 16) (g h : Fin 24) : k1_pay140 x0 (ix3 z g h) = (((nrm (mat (pt X z g h))) 2 2 : ℝ) : EReal) := q140 x0 X H z g h

theorem q141 (z : Fin 16) (g h : Fin 24) : k1_pay52 (k1_pay109 x0) (k1_pay128 x0) (ix3 z g h) = (((nrm (mat (pt X z g h))) 2 3 : ℝ) : EReal) := by
  unfold k1_pay52
  pointwise
  simp only [p109 x0 X H, p128 x0 X H, q129 x0 X H, ← EReal.coe_mul, ← EReal.coe_add, ← EReal.coe_sub, zsub, addone, coeabs, coemax, lit_lam]
  try rfl

theorem p141 (z : Fin 16) (g h : Fin 24) : k1_pay141 x0 (ix3 z g h) = (((nrm (mat (pt X z g h))) 2 3 : ℝ) : EReal) := q141 x0 X H z g h

theorem q142 (z : Fin 16) (g h : Fin 24) : k1_pay53 (k1_pay104 x0) (k1_pay128 x0) (ix3 z g h) = (((nrm (mat (pt X z g h))) 3 0 : ℝ) : EReal) := by
  unfold k1_pay53
  pointwise
  simp only [p104 x0 X H, p128 x0 X H, q129 x0 X H, ← EReal.coe_mul, ← EReal.coe_add, ← EReal.coe_sub, zsub, addone, coeabs, coemax, lit_lam]
  try rfl

theorem p142 (z : Fin 16) (g h : Fin 24) : k1_pay142 x0 (ix3 z g h) = (((nrm (mat (pt X z g h))) 3 0 : ℝ) : EReal) := q142 x0 X H z g h

theorem q143 (z : Fin 16) (g h : Fin 24) : k1_pay54 (k1_pay107 x0) (k1_pay128 x0) (ix3 z g h) = (((nrm (mat (pt X z g h))) 3 1 : ℝ) : EReal) := by
  unfold k1_pay54
  pointwise
  simp only [p107 x0 X H, p128 x0 X H, q129 x0 X H, ← EReal.coe_mul, ← EReal.coe_add, ← EReal.coe_sub, zsub, addone, coeabs, coemax, lit_lam]
  try rfl

theorem p143 (z : Fin 16) (g h : Fin 24) : k1_pay143 x0 (ix3 z g h) = (((nrm (mat (pt X z g h))) 3 1 : ℝ) : EReal) := q143 x0 X H z g h

theorem q144 (z : Fin 16) (g h : Fin 24) : k1_pay55 (k1_pay109 x0) (k1_pay128 x0) (ix3 z g h) = (((nrm (mat (pt X z g h))) 3 2 : ℝ) : EReal) := by
  unfold k1_pay55
  pointwise
  simp only [p109 x0 X H, p128 x0 X H, q129 x0 X H, ← EReal.coe_mul, ← EReal.coe_add, ← EReal.coe_sub, zsub, addone, coeabs, coemax, lit_lam]
  try rfl

theorem p144 (z : Fin 16) (g h : Fin 24) : k1_pay144 x0 (ix3 z g h) = (((nrm (mat (pt X z g h))) 3 2 : ℝ) : EReal) := q144 x0 X H z g h

theorem q145 (z : Fin 16) (g h : Fin 24) : k1_pay56 (k1_pay124 x0) (k1_pay128 x0) (ix3 z g h) = (((nrm (mat (pt X z g h))) 3 3 : ℝ) : EReal) := by
  unfold k1_pay56
  pointwise
  simp only [p124 x0 X H, p128 x0 X H, q129 x0 X H, ← EReal.coe_mul, ← EReal.coe_add, ← EReal.coe_sub, zsub, addone, coeabs, coemax, lit_lam]
  try rfl

theorem p145 (z : Fin 16) (g h : Fin 24) : k1_pay145 x0 (ix3 z g h) = (((nrm (mat (pt X z g h))) 3 3 : ℝ) : EReal) := q145 x0 X H z g h

theorem q146 (z : Fin 16) (g h : Fin 24) : k1_pay57 (k1_pay102 x0) (k1_pay121 x0) (k1_pay122 x0) (k1_pay128 x0) (ix3 z g h) = ((s0 (nrm (mat (pt X z g h))) : ℝ) : EReal) := by
  unfold k1_pay57
  pointwise
  simp only [q130 x0 X H, q131 x0 X H, q132 x0 X H, q133 x0 X H, q134 x0 X H, q135 x0 X H, q136 x0 X H, q137 x0 X H, q138 x0 X H, q139 x0 X H, q140 x0 X H, q141 x0 X H, q142 x0 X H, q143 x0 X H, q144 x0 X H, q145 x0 X H, ← EReal.coe_mul, ← EReal.coe_add, ← EReal.coe_sub, zsub, addone, coeabs, coemax, lit_lam]
  try rfl

theorem p146 (z : Fin 16) (g h : Fin 24) : k1_pay146 x0 (ix3 z g h) = ((s0 (nrm (mat (pt X z g h))) : ℝ) : EReal) := q146 x0 X H z g h

theorem q147 (z : Fin 16) (g h : Fin 24) : k1_pay58 (k1_pay102 x0) (k1_pay103 x0) (k1_pay106 x0) (k1_pay121 x0) (k1_pay128 x0) (ix3 z g h) = ((s1 (nrm (mat (pt X z g h))) : ℝ) : EReal) := by
  unfold k1_pay58
  pointwise
  simp only [q130 x0 X H, q131 x0 X H, q132 x0 X H, q133 x0 X H, q134 x0 X H, q135 x0 X H, q136 x0 X H, q137 x0 X H, q138 x0 X H, q139 x0 X H, q140 x0 X H, q141 x0 X H, q142 x0 X H, q143 x0 X H, q144 x0 X H, q145 x0 X H, ← EReal.coe_mul, ← EReal.coe_add, ← EReal.coe_sub, zsub, addone, coeabs, coemax, lit_lam]
  try rfl

theorem p147 (z : Fin 16) (g h : Fin 24) : k1_pay147 x0 (ix3 z g h) = ((s1 (nrm (mat (pt X z g h))) : ℝ) : EReal) := q147 x0 X H z g h

theorem q148 (z : Fin 16) (g h : Fin 24) : k1_pay59 (k1_pay102 x0) (k1_pay104 x0) (k1_pay107 x0) (k1_pay121 x0) (k1_pay128 x0) (ix3 z g h) = ((s2 (nrm (mat (pt X z g h))) : ℝ) : EReal) := by
  unfold k1_pay59
  pointwise
  simp only [q130 x0 X H, q131 x0 X H, q132 x0 X H, q133 x0 X H, q134 x0 X H, q135 x0 X H, q136 x0 X H, q137 x0 X H, q138 x0 X H, q139 x0 X H, q140 x0 X H, q141 x0 X H, q142 x0 X H, q143 x0 X H, q144 x0 X H, q145 x0 X H, ← EReal.coe_mul, ← EReal.coe_add, ← EReal.coe_sub, zsub, addone, coeabs, coemax, lit_lam]
  try rfl

theorem p148 (z : Fin 16) (g h : Fin 24) : k1_pay148 x0 (ix3 z g h) = ((s2 (nrm (mat (pt X z g h))) : ℝ) : EReal) := q148 x0 X H z g h

theorem q149 (z : Fin 16) (g h : Fin 24) : k1_pay60 (k1_pay102 x0) (k1_pay103 x0) (k1_pay106 x0) (k1_pay122 x0) (k1_pay128 x0) (ix3 z g h) = ((s3 (nrm (mat (pt X z g h))) : ℝ) : EReal) := by
  unfold k1_pay60
  pointwise
  simp only [q130 x0 X H, q131 x0 X H, q132 x0 X H, q133 x0 X H, q134 x0 X H, q135 x0 X H, q136 x0 X H, q137 x0 X H, q138 x0 X H, q139 x0 X H, q140 x0 X H, q141 x0 X H, q142 x0 X H, q143 x0 X H, q144 x0 X H, q145 x0 X H, ← EReal.coe_mul, ← EReal.coe_add, ← EReal.coe_sub, zsub, addone, coeabs, coemax, lit_lam]
  try rfl

theorem p149 (z : Fin 16) (g h : Fin 24) : k1_pay149 x0 (ix3 z g h) = ((s3 (nrm (mat (pt X z g h))) : ℝ) : EReal) := q149 x0 X H z g h

theorem q150 (z : Fin 16) (g h : Fin 24) : k1_pay61 (k1_pay102 x0) (k1_pay104 x0) (k1_pay107 x0) (k1_pay122 x0) (k1_pay128 x0) (ix3 z g h) = ((s4 (nrm (mat (pt X z g h))) : ℝ) : EReal) := by
  unfold k1_pay61
  pointwise
  simp only [q130 x0 X H, q131 x0 X H, q132 x0 X H, q133 x0 X H, q134 x0 X H, q135 x0 X H, q136 x0 X H, q137 x0 X H, q138 x0 X H, q139 x0 X H, q140 x0 X H, q141 x0 X H, q142 x0 X H, q143 x0 X H, q144 x0 X H, q145 x0 X H, ← EReal.coe_mul, ← EReal.coe_add, ← EReal.coe_sub, zsub, addone, coeabs, coemax, lit_lam]
  try rfl

theorem p150 (z : Fin 16) (g h : Fin 24) : k1_pay150 x0 (ix3 z g h) = ((s4 (nrm (mat (pt X z g h))) : ℝ) : EReal) := q150 x0 X H z g h

theorem q151 (z : Fin 16) (g h : Fin 24) : k1_pay62 (k1_pay103 x0) (k1_pay104 x0) (k1_pay106 x0) (k1_pay107 x0) (k1_pay128 x0) (ix3 z g h) = ((s5 (nrm (mat (pt X z g h))) : ℝ) : EReal) := by
  unfold k1_pay62
  pointwise
  simp only [q130 x0 X H, q131 x0 X H, q132 x0 X H, q133 x0 X H, q134 x0 X H, q135 x0 X H, q136 x0 X H, q137 x0 X H, q138 x0 X H, q139 x0 X H, q140 x0 X H, q141 x0 X H, q142 x0 X H, q143 x0 X H, q144 x0 X H, q145 x0 X H, ← EReal.coe_mul, ← EReal.coe_add, ← EReal.coe_sub, zsub, addone, coeabs, coemax, lit_lam]
  try rfl

theorem p151 (z : Fin 16) (g h : Fin 24) : k1_pay151 x0 (ix3 z g h) = ((s5 (nrm (mat (pt X z g h))) : ℝ) : EReal) := q151 x0 X H z g h

theorem q152 (z : Fin 16) (g h : Fin 24) : k1_pay63 (k1_pay109 x0) (k1_pay123 x0) (k1_pay124 x0) (k1_pay128 x0) (ix3 z g h) = ((c5 (nrm (mat (pt X z g h))) : ℝ) : EReal) := by
  unfold k1_pay63
  pointwise
  simp only [q130 x0 X H, q131 x0 X H, q132 x0 X H, q133 x0 X H, q134 x0 X H, q135 x0 X H, q136 x0 X H, q137 x0 X H, q138 x0 X H, q139 x0 X H, q140 x0 X H, q141 x0 X H, q142 x0 X H, q143 x0 X H, q144 x0 X H, q145 x0 X H, ← EReal.coe_mul, ← EReal.coe_add, ← EReal.coe_sub, zsub, addone, coeabs, coemax, lit_lam]
  try rfl

theorem p152 (z : Fin 16) (g h : Fin 24) : k1_pay152 x0 (ix3 z g h) = ((c5 (nrm (mat (pt X z g h))) : ℝ) : EReal) := q152 x0 X H z g h

theorem q153 (z : Fin 16) (g h : Fin 24) : k1_pay64 (k1_pay106 x0) (k1_pay107 x0) (k1_pay109 x0) (k1_pay124 x0) (k1_pay128 x0) (ix3 z g h) = ((c4 (nrm (mat (pt X z g h))) : ℝ) : EReal) := by
  unfold k1_pay64
  pointwise
  simp only [q130 x0 X H, q131 x0 X H, q132 x0 X H, q133 x0 X H, q134 x0 X H, q135 x0 X H, q136 x0 X H, q137 x0 X H, q138 x0 X H, q139 x0 X H, q140 x0 X H, q141 x0 X H, q142 x0 X H, q143 x0 X H, q144 x0 X H, q145 x0 X H, ← EReal.coe_mul, ← EReal.coe_add, ← EReal.coe_sub, zsub, addone, coeabs, coemax, lit_lam]
  try rfl

theorem p153 (z : Fin 16) (g h : Fin 24) : k1_pay153 x0 (ix3 z g h) = ((c4 (nrm (mat (pt X z g h))) : ℝ) : EReal) := q153 x0 X H z g h

theorem q154 (z : Fin 16) (g h : Fin 24) : k1_pay65 (k1_pay106 x0) (k1_pay107 x0) (k1_pay109 x0) (k1_pay123 x0) (k1_pay128 x0) (ix3 z g h) = ((c3 (nrm (mat (pt X z g h))) : ℝ) : EReal) := by
  unfold k1_pay65
  pointwise
  simp only [q130 x0 X H, q131 x0 X H, q132 x0 X H, q133 x0 X H, q134 x0 X H, q135 x0 X H, q136 x0 X H, q137 x0 X H, q138 x0 X H, q139 x0 X H, q140 x0 X H, q141 x0 X H, q142 x0 X H, q143 x0 X H, q144 x0 X H, q145 x0 X H, ← EReal.coe_mul, ← EReal.coe_add, ← EReal.coe_sub, zsub, addone, coeabs, coemax, lit_lam]
  try rfl

theorem p154 (z : Fin 16) (g h : Fin 24) : k1_pay154 x0 (ix3 z g h) = ((c3 (nrm (mat (pt X z g h))) : ℝ) : EReal) := q154 x0 X H z g h

theorem q155 (z : Fin 16) (g h : Fin 24) : k1_pay66 (k1_pay103 x0) (k1_pay104 x0) (k1_pay109 x0) (k1_pay124 x0) (k1_pay128 x0) (ix3 z g h) = ((c2 (nrm (mat (pt X z g h))) : ℝ) : EReal) := by
  unfold k1_pay66
  pointwise
  simp only [q130 x0 X H, q131 x0 X H, q132 x0 X H, q133 x0 X H, q134 x0 X H, q135 x0 X H, q136 x0 X H, q137 x0 X H, q138 x0 X H, q139 x0 X H, q140 x0 X H, q141 x0 X H, q142 x0 X H, q143 x0 X H, q144 x0 X H, q145 x0 X H, ← EReal.coe_mul, ← EReal.coe_add, ← EReal.coe_sub, zsub, addone, coeabs, coemax, lit_lam]
  try rfl

theorem p155 (z : Fin 16) (g h : Fin 24) : k1_pay155 x0 (ix3 z g h) = ((c2 (nrm (mat (pt X z g h))) : ℝ) : EReal) := q155 x0 X H z g h

theorem q156 (z : Fin 16) (g h : Fin 24) : k1_pay67 (k1_pay103 x0) (k1_pay104 x0) (k1_pay109 x0) (k1_pay123 x0) (k1_pay128 x0) (ix3 z g h) = ((c1 (nrm (mat (pt X z g h))) : ℝ) : EReal) := by
  unfold k1_pay67
  pointwise
  simp only [q130 x0 X H, q131 x0 X H, q132 x0 X H, q133 x0 X H, q134 x0 X H, q135 x0 X H, q136 x0 X H, q137 x0 X H, q138 x0 X H, q139 x0 X H, q140 x0 X H, q141 x0 X H, q142 x0 X H, q143 x0 X H, q144 x0 X H, q145 x0 X H, ← EReal.coe_mul, ← EReal.coe_add, ← EReal.coe_sub, zsub, addone, coeabs, coemax, lit_lam]
  try rfl

theorem p156 (z : Fin 16) (g h : Fin 24) : k1_pay156 x0 (ix3 z g h) = ((c1 (nrm (mat (pt X z g h))) : ℝ) : EReal) := q156 x0 X H z g h

theorem q157 (z : Fin 16) (g h : Fin 24) : k1_pay68 (k1_pay103 x0) (k1_pay104 x0) (k1_pay106 x0) (k1_pay107 x0) (k1_pay128 x0) (ix3 z g h) = ((c0 (nrm (mat (pt X z g h))) : ℝ) : EReal) := by
  unfold k1_pay68
  pointwise
  simp only [q130 x0 X H, q131 x0 X H, q132 x0 X H, q133 x0 X H, q134 x0 X H, q135 x0 X H, q136 x0 X H, q137 x0 X H, q138 x0 X H, q139 x0 X H, q140 x0 X H, q141 x0 X H, q142 x0 X H, q143 x0 X H, q144 x0 X H, q145 x0 X H, ← EReal.coe_mul, ← EReal.coe_add, ← EReal.coe_sub, zsub, addone, coeabs, coemax, lit_lam]
  try rfl

theorem p157 (z : Fin 16) (g h : Fin 24) : k1_pay157 x0 (ix3 z g h) = ((c0 (nrm (mat (pt X z g h))) : ℝ) : EReal) := q157 x0 X H z g h

theorem q158 (z : Fin 16) (g h : Fin 24) : k1_pay69 (k1_pay102 x0) (k1_pay103 x0) (k1_pay104 x0) (k1_pay106 x0) (k1_pay107 x0) (k1_pay109 x0) (k1_pay121 x0) (k1_pay122 x0) (k1_pay123 x0) (k1_pay124 x0) (k1_pay128 x0) (ix3 z g h) = ((dhalf (nrm (mat (pt X z g h))) : ℝ) : EReal) := by
  unfold k1_pay69
  pointwise
  simp only [q146 x0 X H, q147 x0 X H, q148 x0 X H, q149 x0 X H, q150 x0 X H, q151 x0 X H, q152 x0 X H, q153 x0 X H, q154 x0 X H, q155 x0 X H, q156 x0 X H, q157 x0 X H, ← EReal.coe_mul, ← EReal.coe_add, ← EReal.coe_sub, zsub, addone, coeabs, coemax, lit_lam]
  try rfl

theorem p158 (z : Fin 16) (g h : Fin 24) : k1_pay158 x0 (ix3 z g h) = ((dhalf (nrm (mat (pt X z g h))) : ℝ) : EReal) := q158 x0 X H z g h

theorem q159 (z : Fin 16) (g h : Fin 24) : k1_pay70 (k1_pay149 x0) (k1_pay150 x0) (k1_pay151 x0) (k1_pay155 x0) (k1_pay156 x0) (k1_pay157 x0) (k1_pay158 x0) (ix3 z g h) = ((rdet (nrm (mat (pt X z g h))) : ℝ) : EReal) := by
  unfold k1_pay70
  pointwise
  simp only [p149 x0 X H, p150 x0 X H, p151 x0 X H, p155 x0 X H, p156 x0 X H, p157 x0 X H, p158 x0 X H, ← EReal.coe_mul, ← EReal.coe_add, ← EReal.coe_sub, zsub, addone, coeabs, coemax, lit_lam]
  exact onediv _ (H.hdet z g h)

theorem p159 (z : Fin 16) (g h : Fin 24) : k1_pay159 x0 (ix3 z g h) = ((rdet (nrm (mat (pt X z g h))) : ℝ) : EReal) := q159 x0 X H z g h

theorem q160 (z : Fin 16) (g h : Fin 24) : k1_pay71 (k1_pay135 x0) (k1_pay136 x0) (k1_pay137 x0) (k1_pay149 x0) (k1_pay150 x0) (k1_pay151 x0) (k1_pay152 x0) (k1_pay153 x0) (k1_pay154 x0) (k1_pay155 x0) (k1_pay156 x0) (k1_pay157 x0) (k1_pay158 x0) (ix3 z g h) = ((inv (nrm (mat (pt X z g h))) 0 0 : ℝ) : EReal) := by
  unfold k1_pay71
  pointwise
  simp only [p135 x0 X H, p136 x0 X H, p137 x0 X H, p149 x0 X H, p150 x0 X H, p151 x0 X H, p152 x0 X H, p153 x0 X H, p154 x0 X H, p155 x0 X H, p156 x0 X H, p157 x0 X H, p158 x0 X H, q159 x0 X H, ← EReal.coe_mul, ← EReal.coe_add, ← EReal.coe_sub, zsub, addone, coeabs, coemax, lit_lam]
  try rfl

theorem p160 (z : Fin 16) (g h : Fin 24) : k1_pay160 x0 (ix3 z g h) = ((inv (nrm (mat (pt X z g h))) 0 0 : ℝ) : EReal) := q160 x0 X H z g h

theorem q161 (z : Fin 16) (g h : Fin 24) : k1_pay72 (k1_pay131 x0) (k1_pay132 x0) (k1_pay133 x0) (k1_pay149 x0) (k1_pay150 x0) (k1_pay151 x0) (k1_pay152 x0) (k1_pay153 x0) (k1_pay154 x0) (k1_pay155 x0) (k1_pay156 x0) (k1_pay157 x0) (k1_pay158 x0) (ix3 z g h) = ((inv (nrm (mat (pt X z g h))) 0 1 : ℝ) : EReal) := by
  unfold k1_pay72
  pointwise
  simp only [p131 x0 X H, p132 x0 X H, p133 x0 X H, p149 x0 X H, p150 x0 X H, p151 x0 X H, p152 x0 X H, p153 x0 X H, p154 x0 X H, p155 x0 X H, p156 x0 X H, p157 x0 X H, p158 x0 X H, q159 x0 X H, ← EReal.coe_mul, ← EReal.coe_add, ← EReal.coe_sub, zsub, addone, coeabs, coemax, lit_lam]
  try rfl

theorem p161 (z : Fin 16) (g h : Fin 24) : k1_pay161 x0 (ix3 z g h) = ((inv (nrm (mat (pt X z g h))) 0 1 : ℝ) : EReal) := q161 x0 X H z g h

theorem q162 (z : Fin 16) (g h : Fin 24) : k1_pay73 (k1_pay143 x0) (k1_pay144 x0) (k1_pay145 x0) (k1_pay149 x0) (k1_pay150 x0) (k1_pay151 x0) (k1_pay155 x0) (k1_pay156 x0) (k1_pay157 x0) (k1_pay158 x0) (ix3 z g h) = ((inv (nrm (mat (pt X z g h))) 0 2 : ℝ) : EReal) := by
  unfold k1_pay73
  pointwise
  simp only [p143 x0 X H, p144 x0 X H, p145 x0 X H, p149 x0 X H, p150 x0 X H, p151 x0 X H, p155 x0 X H, p156 x0 X H, p157 x0 X H, p158 x0 X H, q159 x0 X H, ← EReal.coe_mul, ← EReal.coe_add, ← EReal.coe_sub, zsub, addone, coeabs, coemax, lit_lam]
  try rfl

theorem p162 (z : Fin 16) (g h : Fin 24) : k1_pay162 x0 (ix3 z g h) = ((inv (nrm (mat (pt X z g h))) 0 2 : ℝ) : EReal) := q162 x0 X H z g h

theorem q163 (z : Fin 16) (g h : Fin 24) : k1_pay74 (k1_pay139 x0) (k1_pay140 x0) (k1_pay141 x0) (k1_pay149 x0) (k1_pay150 x0) (k1_pay151 x0) (k1_pay155 x0) (k1_pay156 x0) (k1_pay157 x0) (k1_pay158 x0) (ix3 z g h) = ((inv (nrm (mat (pt X z g h))) 0 3 : ℝ) : EReal) := by
  unfold k1_pay74
  pointwise
  simp only [p139 x0 X H, p140 x0 X H, p141 x0 X H, p149 x0 X H, p150 x0 X H, p151 x0 X H, p155 x0 X H, p156 x0 X H, p157 x0 X H, p158 x0 X H, q159 x0 X H, ← EReal.coe_mul, ← EReal.coe_add, ← EReal.coe_sub, zsub, addone, coeabs, coemax, lit_lam]
  try rfl

theorem p163 (z : Fin 16) (g h : Fin 24) : k1_pay163 x0 (ix3 z g h) = ((inv (nrm (mat (pt X z g h))) 0 3 : ℝ) : EReal) := q163 x0 X H z g h

theorem q164 (z : Fin 16) (g h : Fin 24) : k1_pay75 (k1_pay134 x0) (k1_pay136 x0) (k1_pay137 x0) (k1_pay149 x0) (k1_pay150 x0) (k1_pay151 x0) (k1_pay152 x0) (k1_pay155 x0) (k1_pay156 x0) (k1_pay157 x0) (k1_pay158 x0) (ix3 z g h) = ((inv (nrm (mat (pt X z g h))) 1 0 : ℝ) : EReal) := by
  unfold k1_pay75
  pointwise
  simp only [p134 x0 X H, p136 x0 X H, p137 x0 X H, p149 x0 X H, p150 x0 X H, p151 x0 X H, p152 x0 X H, p155 x0 X H, p156 x0 X H, p157 x0 X H, p158 x0 X H, q159 x0 X H, ← EReal.coe_mul, ← EReal.coe_add, ← EReal.coe_sub, zsub, addone, coeabs, coemax, lit_lam]
  try rfl

theorem p164 (z : Fin 16) (g h : Fin 24) : k1_pay164 x0 (ix3 z g h) = ((inv (nrm (mat (pt X z g h))) 1 0 : ℝ) : EReal) := q164 x0 X H z g h

theorem q165 (z : Fin 16) (g h : Fin 24) : k1_pay76 (k1_pay130 x0) (k1_pay132 x0) (k1_pay133 x0) (k1_pay149 x0) (k1_pay150 x0) (k1_pay151 x0) (k1_pay152 x0) (k1_pay155 x0) (k1_pay156 x0) (k1_pay157 x0) (k1_pay158 x0) (ix3 z g h) = ((inv (nrm (mat (pt X z g h))) 1 1 : ℝ) : EReal) := by
  unfold k1_pay76
  pointwise
  simp only [p130 x0 X H, p132 x0 X H, p133 x0 X H, p149 x0 X H, p150 x0 X H, p151 x0 X H, p152 x0 X H, p155 x0 X H, p156 x0 X H, p157 x0 X H, p158 x0 X H, q159 x0 X H, ← EReal.coe_mul, ← EReal.coe_add, ← EReal.coe_sub, zsub, addone, coeabs, coemax, lit_lam]
  try rfl

theorem p165 (z : Fin 16) (g h : Fin 24) : k1_pay165 x0 (ix3 z g h) = ((inv (nrm (mat (pt X z g h))) 1 1 : ℝ) : EReal) := q165 x0 X H z g h

theorem q166 (z : Fin 16) (g h : Fin 24) : k1_pay78 (k1_pay145 x0) (k1_pay147 x0) (k1_pay159 x0) (k1_pay77 (k1_pay142 x0) (k1_pay144 x0) (k1_pay148 x0) (k1_pay151 x0)) (ix3 z g h) = ((inv (nrm (mat (pt X z g h))) 1 2 : ℝ) : EReal) := by
  unfold k1_pay78 k1_pay77
  pointwise
  simp only [p145 x0 X H, p147 x0 X H, p159 x0 X H, p142 x0 X H, p144 x0 X H, p148 x0 X H, p151 x0 X H, q159 x0 X H, ← EReal.coe_mul, ← EReal.coe_add, ← EReal.coe_sub, zsub, addone, coeabs, coemax, lit_lam]
  try rfl

theorem p166 (z : Fin 16) (g h : Fin 24) : k1_pay166 x0 (ix3 z g h) = ((inv (nrm (mat (pt X z g h))) 1 2 : ℝ) : EReal) := q166 x0 X H z g h

theorem q167 (z : Fin 16) (g h : Fin 24) : k1_pay79 (k1_pay138 x0) (k1_pay140 x0) (k1_pay141 x0) (k1_pay147 x0) (k1_pay148 x0) (k1_pay151 x0) (k1_pay159 x0) (ix3 z g h) = ((inv (nrm (mat (pt X z g h))) 1 3 : ℝ) : EReal) := by
  unfold k1_pay79
  pointwise
  simp only [p138 x0 X H, p140 x0 X H, p141 x0 X H, p147 x0 X H, p148 x0 X H, p151 x0 X H, p159 x0 X H, q159 x0 X H, ← EReal.coe_mul, ← EReal.coe_add, ← EReal.coe_sub, zsub, addone, coeabs, coemax, lit_lam]
  try rfl

theorem p167 (z : Fin 16) (g h : Fin 24) : k1_pay167 x0 (ix3 z g h) = ((inv (nrm (mat (pt X z g h))) 1 3 : ℝ) : EReal) := q167 x0 X H z g h

theorem q168 (z : Fin 16) (g h : Fin 24) : k1_pay80 (k1_pay134 x0) (k1_pay135 x0) (k1_pay137 x0) (k1_pay153 x0) (k1_pay155 x0) (k1_pay157 x0) (k1_pay159 x0) (ix3 z g h) = ((inv (nrm (mat (pt X z g h))) 2 0 : ℝ) : EReal) := by
  unfold k1_pay80
  pointwise
  simp only [p134 x0 X H, p135 x0 X H, p137 x0 X H, p153 x0 X H, p155 x0 X H, p157 x0 X H, p159 x0 X H, q159 x0 X H, ← EReal.coe_mul, ← EReal.coe_add, ← EReal.coe_sub, zsub, addone, coeabs, coemax, lit_lam]
  try rfl

theorem p168 (z : Fin 16) (g h : Fin 24) : k1_pay168 x0 (ix3 z g h) = ((inv (nrm (mat (pt X z g h))) 2 0 : ℝ) : EReal) := q168 x0 X H z g h

theorem q169 (z : Fin 16) (g h : Fin 24) : k1_pay81 (k1_pay130 x0) (k1_pay131 x0) (k1_pay133 x0) (k1_pay153 x0) (k1_pay155 x0) (k1_pay157 x0) (k1_pay159 x0) (ix3 z g h) = ((inv (nrm (mat (pt X z g h))) 2 1 : ℝ) : EReal) := by
  unfold k1_pay81
  pointwise
  simp only [p130 x0 X H, p131 x0 X H, p133 x0 X H, p153 x0 X H, p155 x0 X H, p157 x0 X H, p159 x0 X H, q159 x0 X H, ← EReal.coe_mul, ← EReal.coe_add, ← EReal.coe_sub, zsub, addone, coeabs, coemax, lit_lam]
  try rfl

theorem p169 (z : Fin 16) (g h : Fin 24) : k1_pay169 x0 (ix3 z g h) = ((inv (nrm (mat (pt X z g h))) 2 1 : ℝ) : EReal) := q169 x0 X H z g h

-- k1_pay82 (k1_pay142 x0) (k1_pay143 x0) (k1_pay145 x0) (k1_pay146 x0) (k1_pay148 x0) (k1_pay150 x0) (k1_pay159 x0)
theorem q170 (z : Fin 16) (g h : Fin 24) : k1_pay82 (k1_pay142 x0) (k1_pay143 x0) (k1_pay145 x0) (k1_pay146 x0) (k1_pay148 x0) (k1_pay150 x0) (k1_pay159 x0) (ix3 z g h) = ((inv (nrm (mat (pt X z g h))) 2 2 : ℝ) : EReal) := by
  unfold k1_pay82
  pointwise
  simp only [p142 x0 X H, p143 x0 X H, p145 x0 X H, p146 x0 X H, p148 x0 X H, p150 x0 X H, p159 x0 X H, q159 x0 X H, ← EReal.coe_mul, ← EReal.coe_add, ← EReal.coe_sub, zsub, addone, coeabs, coemax, lit_lam]
  try rfl

theorem p170 (z : Fin 16) (g h : Fin 24) : k1_pay170 x0 (ix3 z g h) = ((inv (nrm (mat (pt X z g h))) 2 2 : ℝ) : EReal) := q170 x0 X H z g h

theorem q171 (z : Fin 16) (g h : Fin 24) : k1_pay83 (k1_pay138 x0) (k1_pay139 x0) (k1_pay141 x0) (k1_pay146 x0) (k1_pay148 x0) (k1_pay150 x0) (k1_pay159 x0) (ix3 z g h) = ((inv (nrm (mat (pt X z g h))) 2 3 : ℝ) : EReal) := by
  unfold k1_pay83
  pointwise
  simp only [p138 x0 X H, p139 x0 X H, p141 x0 X H, p146 x0 X H, p148 x0 X H, p150 x0 X H, p159 x0 X H, q159 x0 X H, ← EReal.coe_mul, ← EReal.coe_add, ← EReal.coe_sub, zsub, addone, coeabs, coemax, lit_lam]
  try rfl

theorem p171 (z : Fin 16) (g h : Fin 24) : k1_pay171 x0 (ix3 z g h) = ((inv (nrm (mat (pt X z g h))) 2 3 : ℝ) : EReal) := q171 x0 X H z g h

theorem q172 (z : Fin 16) (g h : Fin 24) : k1_pay84 (k1_pay134 x0) (k1_pay135 x0) (k1_pay136 x0) (k1_pay154 x0) (k1_pay156 x0) (k1_pay157 x0) (k1_pay159 x0) (ix3 z g h) = ((inv (nrm (mat (pt X z g h))) 3 0 : ℝ) : EReal) := by
  unfold k1_pay84
  pointwise
  simp only [p134 x0 X H, p135 x0 X H, p136 x0 X H, p154 x0 X H, p156 x0 X H, p157 x0 X H, p159 x0 X H, q159 x0 X H, ← EReal.coe_mul, ← EReal.coe_add, ← EReal.coe_sub, zsub, addone, coeabs, coemax, lit_lam]
  try rfl

theorem p172 (z : Fin 16) (g h : Fin 24) : k1_pay172 x0 (ix3 z g h) = ((inv (nrm (mat (pt X z g h))) 3 0 : ℝ) : EReal) := q172 x0 X H z g h

theorem q173 (z : Fin 16) (g h : Fin 24) : k1_pay85 (k1_pay130 x0) (k1_pay131 x0) (k1_pay132 x0) (k1_pay154 x0) (k1_pay156 x0) (k1_pay157 x0) (k1_pay159 x0) (ix3 z g h) = ((inv (nrm (mat (pt X z g h))) 3 1 : ℝ) : EReal) := by
  unfold k1_pay85
  pointwise
  simp only [p130 x0 X H, p131 x0 X H, p132 x0 X H, p154 x0 X H, p156 x0 X H, p157 x0 X H, p159 x0 X H, q159 x0 X H, ← EReal.coe_mul, ← EReal.coe_add, ← EReal.coe_sub, zsub, addone, coeabs, coemax, lit_lam]
  try rfl

theorem p173 (z : Fin 16) (g h : Fin 24) : k1_pay173 x0 (ix3 z g h) = ((inv (nrm (mat (pt X z g h))) 3 1 : ℝ) : EReal) := q173 x0 X H z g h

theorem q174 (z : Fin 16) (g h : Fin 24) : k1_pay86 (k1_pay142 x0) (k1_pay143 x0) (k1_pay147 x0) (k1_pay149 x0) (ix3 z g h) = (((0 - (nrm (mat (pt X z g h))) 3 0) * s3 (nrm (mat (pt X z g h))) + (nrm (mat (pt X z g h))) 3 1 * s1 (nrm (mat (pt X z g h))) : ℝ) : EReal) := by
  unfold k1_pay86
  pointwise
  simp only [p142 x0 X H, p143 x0 X H, p147 x0 X H, p149 x0 X H, q159 x0 X H, ← EReal.coe_mul, ← EReal.coe_add, ← EReal.coe_sub, zsub, addone, coeabs, coemax, lit_lam]
  try rfl

theorem p174 (z : Fin 16) (g h : Fin 24) : k1_pay174 x0 (ix3 z g h) = (((0 - (nrm (mat (pt X z g h))) 3 0) * s3 (nrm (mat (pt X z g h))) + (nrm (mat (pt X z g h))) 3 1 * s1 (nrm (mat (pt X z g h))) : ℝ) : EReal) := q174 x0 X H z g h

theorem q175 (z : Fin 16) (g h : Fin 24) : k1_pay87 (k1_pay144 x0) (k1_pay146 x0) (k1_pay159 x0) (k1_pay174 x0) (ix3 z g h) = ((inv (nrm (mat (pt X z g h))) 3 2 : ℝ) : EReal) := by
  unfold k1_pay87
  pointwise
  simp only [p144 x0 X H, p146 x0 X H, p159 x0 X H, p174 x0 X H, q159 x0 X H, q174 x0 X H, ← EReal.coe_mul, ← EReal.coe_add, ← EReal.coe_sub, zsub, addone, coeabs, coemax, lit_lam]
  try rfl

theorem p175 (z : Fin 16) (g h : Fin 24) : k1_pay175 x0 (ix3 z g h) = ((inv (nrm (mat (pt X z g h))) 3 2 : ℝ) : EReal) := q175 x0 X H z g h

theorem q176 (z : Fin 16) (g h : Fin 24) : k1_pay88 (k1_pay138 x0) (k1_pay139 x0) (k1_pay140 x0) (k1_pay146 x0) (k1_pay147 x0) (k1_pay149 x0) (k1_pay159 x0) (ix3 z g h) = ((inv (nrm (mat (pt X z g h))) 3 3 : ℝ) : EReal) := by
  unfold k1_pay88
  pointwise
  simp only [p138 x0 X H, p139 x0 X H, p140 x0 X H, p146 x0 X H, p147 x0 X H, p149 x0 X H, p159 x0 X H, q159 x0 X H, q174 x0 X H, ← EReal.coe_mul, ← EReal.coe_add, ← EReal.coe_sub, zsub, addone, coeabs, coemax, lit_lam]
  try rfl

theorem p176 (z : Fin 16) (g h : Fin 24) : k1_pay176 x0 (ix3 z g h) = ((inv (nrm (mat (pt X z g h))) 3 3 : ℝ) : EReal) := q176 x0 X H z g h

theorem o23 (z : Fin 16) (g h : Fin 24) : (k1_pay2 (k1_pay117 x0) (k1_pay118 x0) (k1_pay119 x0) (k1_pay127 x0) (k1_pay129 x0) (k1_pay163 x0) (k1_pay167 x0) (k1_pay171 x0) (k1_pay176 x0)) (ix5 0 0 z g h) = ((outR (pt X z g h) (gam X) 2 3 : ℝ) : EReal) := by
  unfold k1_pay2
  pointwise
  simp only [p117 x0 X H, p118 x0 X H, p119 x0 X H, p127 x0 X H, p129 x0 X H, p163 x0 X H, p167 x0 X H, p171 x0 X H, p176 x0 X H, q175 x0 X H, ← EReal.coe_mul, ← EReal.coe_add, ← EReal.coe_sub, zsub, addone, coeabs, coemax, lit_lam]
  rfl

theorem o22 (z : Fin 16) (g h : Fin 24) : (k1_pay1 (k1_pay118 x0) (k1_pay119 x0) (k1_pay127 x0) (k1_pay129 x0) (k1_pay166 x0) (k1_pay170 x0) (k1_pay175 x0) (k1_pay100 (k1_pay117 x0) (k1_pay162 x0))) (ix5 0 0 z g h) = ((outR (pt X z g h) (gam X) 2 2 : ℝ) : EReal) := by
  unfold k1_pay1 k1_pay100
  pointwise
  simp only [p117 x0 X H, p118 x0 X H, p119 x0 X H, p127 x0 X H, p129 x0 X H, p162 x0 X H, p166 x0 X H, p170 x0 X H, p175 x0 X H, q175 x0 X H, ← EReal.coe_mul, ← EReal.coe_add, ← EReal.coe_sub, zsub, addone, coeabs, coemax, lit_lam]
  rfl

theorem o21 (z : Fin 16) (g h : Fin 24) : (k1_pay99 (k1_pay117 x0) (k1_pay118 x0) (k1_pay119 x0) (k1_pay127 x0) (k1_pay129 x0) (k1_pay161 x0) (k1_pay165 x0) (k1_pay169 x0) (k1_pay173 x0)) (ix5 0 0 z g h) = ((outR (pt X z g h) (gam X) 2 1 : ℝ) : EReal) := by
  unfold k1_pay99
  pointwise
  simp only [p117 x0 X H, p118 x0 X H, p119 x0 X H, p127 x0 X H, p129 x0 X H, p161 x0 X H, p165 x0 X H, p169 x0 X H, p173 x0 X H, q175 x0 X H, ← EReal.coe_mul, ← EReal.coe_add, ← EReal.coe_sub, zsub, addone, coeabs, coemax, lit_lam]
  rfl

theorem o20 (z : Fin 16) (g h : Fin 24) : (k1_pay98 (k1_pay117 x0) (k1_pay118 x0) (k1_pay119 x0) (k1_pay127 x0) (k1_pay129 x0) (k1_pay160 x0) (k1_pay164 x0) (k1_pay168 x0) (k1_pay172 x0)) (ix5 0 0 z g h) = ((outR (pt X z g h) (gam X) 2 0 : ℝ) : EReal) := by
  unfold k1_pay98
  pointwise
  simp only [p117 x0 X H, p118 x0 X H, p119 x0 X H, p127 x0 X H, p129 x0 X H, p160 x0 X H, p164 x0 X H, p168 x0 X H, p172 x0 X H, q175 x0 X H, ← EReal.coe_mul, ← EReal.coe_add, ← EReal.coe_sub, zsub, addone, coeabs, coemax, lit_lam]
  rfl

theorem o13 (z : Fin 16) (g h : Fin 24) : (k1_pay97 (k1_pay114 x0) (k1_pay115 x0) (k1_pay116 x0) (k1_pay126 x0) (k1_pay129 x0) (k1_pay163 x0) (k1_pay167 x0) (k1_pay171 x0) (k1_pay176 x0)) (ix5 0 0 z g h) = ((outR (pt X z g h) (gam X) 1 3 : ℝ) : EReal) := by
  unfold k1_pay97
  pointwise
  simp only [p114 x0 X H, p115 x0 X H, p116 x0 X H, p126 x0 X H, p129 x0 X H, p163 x0 X H, p167 x0 X H, p171 x0 X H, p176 x0 X H, q175 x0 X H, ← EReal.coe_mul, ← EReal.coe_add, ← EReal.coe_sub, zsub, addone, coeabs, coemax, lit_lam]
  rfl

theorem o12 (z : Fin 16) (g h : Fin 24) : (k1_pay96 (k1_pay95 (k1_pay114 x0) (k1_pay115 x0) (k1_pay116 x0) (k1_pay126 x0) (k1_pay129 x0) (k1_pay162 x0) (k1_pay166 x0) (k1_pay170 x0) (k1_pay175 x0))) (ix5 0 0 z g h) = ((outR (pt X z g h) (gam X) 1 2 : ℝ) : EReal) := by
  unfold k1_pay96 k1_pay95
  pointwise
  simp only [p114 x0 X H, p115 x0 X H, p116 x0 X H, p126 x0 X H, p129 x0 X H, p162 x0 X H, p166 x0 X H, p170 x0 X H, p175 x0 X H, q175 x0 X H, ← EReal.coe_mul, ← EReal.coe_add, ← EReal.coe_sub, zsub, addone, coeabs, coemax, lit_lam]
  rfl

theorem o11 (z : Fin 16) (g h : Fin 24) : (k1_pay94 (k1_pay114 x0) (k1_pay115 x0) (k1_pay116 x0) (k1_pay126 x0) (k1_pay129 x0) (k1_pay161 x0) (k1_pay165 x0) (k1_pay169 x0) (k1_pay173 x0)) (ix5 0 0 z g h) = ((outR (pt X z g h) (gam X) 1 1 : ℝ) : EReal) := by
  unfold k1_pay94
  pointwise
  simp only [p114 x0 X H, p115 x0 X H, p116 x0 X H, p126 x0 X H, p129 x0 X H, p161 x0 X H, p165 x0 X H, p169 x0 X H, p173 x0 X H, q175 x0 X H, ← EReal.coe_mul, ← EReal.coe_add, ← EReal.coe_sub, zsub, addone, coeabs, coemax, lit_lam]
  rfl

theorem o10 (z : Fin 16) (g h : Fin 24) : (k1_pay93 (k1_pay114 x0) (k1_pay115 x0) (k1_pay116 x0) (k1_pay126 x0) (k1_pay129 x0) (k1_pay160 x0) (k1_pay164 x0) (k1_pay168 x0) (k1_pay172 x0)) (ix5 0 0 z g h) = ((outR (pt X z g h) (gam X) 1 0 : ℝ) : EReal) := by
  unfold k1_pay93
  pointwise
  simp only [p114 x0 X H, p115 x0 X H, p116 x0 X H, p126 x0 X H, p129 x0 X H, p160 x0 X H, p164 x0 X H, p168 x0 X H, p172 x0 X H, q175 x0 X H, ← EReal.coe_mul, ← EReal.coe_add, ← EReal.coe_sub, zsub, addone, coeabs, coemax, lit_lam]
  rfl

theorem o03 (z : Fin 16) (g h : Fin 24) : (k1_pay92 (k1_pay111 x0) (k1_pay112 x0) (k1_pay113 x0) (k1_pay125 x0) (k1_pay129 x0) (k1_pay163 x0) (k1_pay167 x0) (k1_pay171 x0) (k1_pay176 x0)) (ix5 0 0 z g h) = ((outR (pt X z g h) (gam X) 0 3 : ℝ) : EReal) := by
  unfold k1_pay92
  pointwise
  simp only [p111 x0 X H, p112 x0 X H, p113 x0 X H, p125 x0 X H, p129 x0 X H, p163 x0 X H, p167 x0 X H, p171 x0 X H, p176 x0 X H, q175 x0 X H, ← EReal.coe_mul, ← EReal.coe_add, ← EReal.coe_sub, zsub, addone, coeabs, coemax, lit_lam]
  rfl

theorem o02 (z : Fin 16) (g h : Fin 24) : (k1_pay91 (k1_pay111 x0) (k1_pay112 x0) (k1_pay113 x0) (k1_pay125 x0) (k1_pay129 x0) (k1_pay144 x0) (k1_pay146 x0) (k1_pay159 x0) (k1_pay162 x0) (k1_pay166 x0) (k1_pay170 x0) (k1_pay174 x0)) (ix5 0 0 z g h) = ((outR (pt X z g h) (gam X) 0 2 : ℝ) : EReal) := by
  unfold k1_pay91
  pointwise
  simp only [p111 x0 X H, p112 x0 X H, p113 x0 X H, p125 x0 X H, p129 x0 X H, p144 x0 X H, p146 x0 X H, p159 x0 X H, p162 x0 X H, p166 x0 X H, p170 x0 X H, p174 x0 X H, q175 x0 X H, ← EReal.coe_mul, ← EReal.coe_add, ← EReal.coe_sub, zsub, addone, coeabs, coemax, lit_lam]
  rfl

theorem o01 (z : Fin 16) (g h : Fin 24) : (k1_pay90 (k1_pay111 x0) (k1_pay112 x0) (k1_pay113 x0) (k1_pay125 x0) (k1_pay129 x0) (k1_pay161 x0) (k1_pay165 x0) (k1_pay169 x0) (k1_pay173 x0)) (ix5 0 0 z g h) = ((outR (pt X z g h) (gam X) 0 1 : ℝ) : EReal) := by
  unfold k1_pay90
  pointwise
  simp only [p111 x0 X H, p112 x0 X H, p113 x0 X H, p125 x0 X H, p129 x0 X H, p161 x0 X H, p165 x0 X H, p169 x0 X H, p173 x0 X H, q175 x0 X H, ← EReal.coe_mul, ← EReal.coe_add, ← EReal.coe_sub, zsub, addone, coeabs, coemax, lit_lam]
  rfl

theorem o00 (z : Fin 16) (g h : Fin 24) : (k1_pay89 (k1_pay111 x0) (k1_pay112 x0) (k1_pay113 x0) (k1_pay125 x0) (k1_pay129 x0) (k1_pay160 x0) (k1_pay164 x0) (k1_pay168 x0) (k1_pay172 x0)) (ix5 0 0 z g h) = ((outR (pt X z g h) (gam X) 0 0 : ℝ) : EReal) := by
  unfold k1_pay89
  pointwise
  simp only [p111 x0 X H, p112 x0 X H, p113 x0 X H, p125 x0 X H, p129 x0 X H, p160 x0 X H, p164 x0 X H, p168 x0 X H, p172 x0 X H, q175 x0 X H, ← EReal.coe_mul, ← EReal.coe_add, ← EReal.coe_sub, zsub, addone, coeabs, coemax, lit_lam]
  rfl

omit H in
/-- One stored piece agrees with the block it is a part of. -/
theorem piece_eq (W : Fin 3 → Fin 4 → Fin 16 → Fin 24 → Fin 24 → EReal) (k : Fin 3) (i : Fin 4)
    (inb : ∀ a, (![k.val, i.val, 0, 0, 0] : Fin 5 → ℕ) a + S1x1x16x24x24.size a ≤ S3x4x16x24x24.size a)
    (p : FVec Ideal S1x1x16x24x24 .f32) (hp : ∀ z g h, p (ix5 0 0 z g h) = W k i z g h)
    (x : (Rect.unit (s := S3x4x16x24x24) ![k.val, i.val, 0, 0, 0] S1x1x16x24x24.size inb).shape.Idx) :
    p x = (fun y : S3x4x16x24x24.Idx => W (y 0) (y 1) (y 2) (y 3) (y 4))
      ((Rect.unit (s := S3x4x16x24x24) ![k.val, i.val, 0, 0, 0] S1x1x16x24x24.size inb).emb x) := by
  have h0 : ((Rect.unit (s := S3x4x16x24x24) ![k.val, i.val, 0, 0, 0] S1x1x16x24x24.size inb).emb x) 0 = k := by
    apply Fin.ext; rw [ValueKit.rect_emb_unit_val]
    have : (x 0).val = 0 := by exact Nat.lt_one_iff.mp (x 0).isLt
    simp [this]
  have h1 : ((Rect.unit (s := S3x4x16x24x24) ![k.val, i.val, 0, 0, 0] S1x1x16x24x24.size inb).emb x) 1 = i := by
    apply Fin.ext; rw [ValueKit.rect_emb_unit_val]
    have : (x 1).val = 0 := by exact Nat.lt_one_iff.mp (x 1).isLt
    simp [this]
  have h2 : ((Rect.unit (s := S3x4x16x24x24) ![k.val, i.val, 0, 0, 0] S1x1x16x24x24.size inb).emb x) 2 = x 2 := by
    apply Fin.ext; rw [ValueKit.rect_emb_unit_val]; simp
  have h3 : ((Rect.unit (s := S3x4x16x24x24) ![k.val, i.val, 0, 0, 0] S1x1x16x24x24.size inb).emb x) 3 = x 3 := by
    apply Fin.ext; rw [ValueKit.rect_emb_unit_val]; simp
  have h4 : ((Rect.unit (s := S3x4x16x24x24) ![k.val, i.val, 0, 0, 0] S1x1x16x24x24.size inb).emb x) 4 = x 4 := by
    apply Fin.ext; rw [ValueKit.rect_emb_unit_val]; simp
  beta_reduce
  rw [h0, h1, h2, h3, h4]
  refine Eq.trans (congrArg p ?_) (hp (x 2) (x 3) (x 4))
  funext a
  match a with
  | ⟨0, _⟩ => exact Subsingleton.elim (α := Fin 1) _ _
  | ⟨1, _⟩ => exact Subsingleton.elim (α := Fin 1) _ _
  | ⟨2, _⟩ => rfl
  | ⟨3, _⟩ => rfl
  | ⟨4, _⟩ => rfl

/-- What the block holds. -/
def blockW (k : Fin 3) (i : Fin 4) (z : Fin 16) (g h : Fin 24) : EReal := ((outR (pt X z g h) (gam X) k i : ℝ) : EReal)

/-- The whole block the solve kernel writes. -/
theorem out_apply (k : Fin 3) (i : Fin 4) (z : Fin 16) (g h : Fin 24) :
    out1_1 x0 (ix5 k i z g h) = ((outR (pt X z g h) (gam X) k i : ℝ) : EReal) := by
  unfold out1_1
  refine View.canon_apply_of_pieces (Val := Elt Ideal) (e := .f32) (fun y : S3x4x16x24x24.Idx =>
      blockW X (y 0) (y 1) (y 2) (y 3) (y 4)) _ ?_ (ix5 k i z g h)
    (cover1_1 _ _ _ _ _ _ _ _ _ _ _ _ (ix5 k i z g h))
  simp only [List.forall_mem_cons]
  refine ⟨piece_eq (blockW X) 2 3 inb_S3x4x16x24x24_S1x1x16x24x24_2_3_0_0_0 _ (o23 x0 X H),
    piece_eq (blockW X) 2 2 inb_S3x4x16x24x24_S1x1x16x24x24_2_2_0_0_0 _ (o22 x0 X H),
    piece_eq (blockW X) 2 1 inb_S3x4x16x24x24_S1x1x16x24x24_2_1_0_0_0 _ (o21 x0 X H),
    piece_eq (blockW X) 2 0 inb_S3x4x16x24x24_S1x1x16x24x24_2_0_0_0_0 _ (o20 x0 X H),
    piece_eq (blockW X) 1 3 inb_S3x4x16x24x24_S1x1x16x24x24_1_3_0_0_0 _ (o13 x0 X H),
    piece_eq (blockW X) 1 2 inb_S3x4x16x24x24_S1x1x16x24x24_1_2_0_0_0 _ (o12 x0 X H),
    piece_eq (blockW X) 1 1 inb_S3x4x16x24x24_S1x1x16x24x24_1_1_0_0_0 _ (o11 x0 X H),
    piece_eq (blockW X) 1 0 inb_S3x4x16x24x24_S1x1x16x24x24_1_0_0_0_0 _ (o10 x0 X H),
    piece_eq (blockW X) 0 3 inb_S3x4x16x24x24_S1x1x16x24x24_0_3_0_0_0 _ (o03 x0 X H),
    piece_eq (blockW X) 0 2 inb_S3x4x16x24x24_S1x1x16x24x24_0_2_0_0_0 _ (o02 x0 X H),
    piece_eq (blockW X) 0 1 inb_S3x4x16x24x24_S1x1x16x24x24_0_1_0_0_0 _ (o01 x0 X H),
    piece_eq (blockW X) 0 0 inb_S3x4x16x24x24_S1x1x16x24x24_0_0_0_0_0 _ (o00 x0 X H),
     fun _ hh => absurd hh List.not_mem_nil⟩

end Cert.BguSolve

end
-- ==== Proof.RefGrid.lean ====
/- The reference's grid coordinates at a pixel: the cell and the weight along each axis. -/
module

public import proofs.«01_k».proof.Proof.Gen.ReferenceIdeal.Read
public import proofs.«01_k».proof.Proof.Hat
public import Idealize.ShloMosaic.Lib.Pointwise

@[expose] public section

set_option maxRecDepth 16384

noncomputable section

namespace Cert.BguRef

open Idealize.ShloMosaic Idealize.ShloMosaic.TcCoe Idealize.ShloMosaic.Tactic
open Cert.ReferenceIdeal Cert.ReferenceIdeal.Read
open Cert.BguHat

theorem sitofp_ofNat (n : ℕ) (hn : n < 2 ^ 31) :
    (FloatOps.sitofp FTy.f32 (BitVec.ofNat 32 n) : Ideal FTy.f32) = ((n : ℝ) : EReal) := by
  rw [show (FloatOps.sitofp FTy.f32 (BitVec.ofNat 32 n) : Ideal FTy.f32) = ((((BitVec.ofNat 32 n).toInt : ℤ) : ℝ) : EReal) from rfl,
    toInt_ofNat _ hn]
  push_cast
  rfl

/-- An equally spaced line from the first to the last pixel is the pixel's own number. -/
theorem line_real (n : ℕ) :
    ((0 : ℝ) : EReal) * ((1 : EReal) - ((n / 383 : ℝ) : EReal)) + ((383 : ℝ) : EReal) * ((n / 383 : ℝ) : EReal)
      = ((n : ℝ) : EReal) := by
  rw [← EReal.coe_one, ← EReal.coe_sub, ← EReal.coe_mul, ← EReal.coe_mul, ← EReal.coe_add]
  congr 1
  field_simp
  ring

theorem lit_383 : Ideal.ofBits .f32 0x43BF8000#32 = ((383 : ℝ) : EReal) := by
  simp [Ideal.ofBits, Ideal.ieee, -EReal.coe_mul]; norm_num

theorem lit_zero : Ideal.ofBits .f32 0#32 = ((0 : ℝ) : EReal) := by
  simp [Ideal.ofBits, Ideal.ieee, -EReal.coe_mul]

theorem line5_init (k : Fin 383) : val_main_call0_v15 (F := Ideal) (ix1 k) = ((k.val : ℝ) : EReal) := by
  unfold val_main_call0_v15 val_main_call0_v14 val_main_call0_v13 val_main_call0_v12 val_main_call0_v11 val_main_call0_v10 val_main_call0_v9 val_main_call0_v8 val_main_call0_v7 val_main_call0_v6 val_main_call0_v5 val_main_call0_v4 val_main_call0_v1 val_main_call0_v0 val_main_call0_cst_1 val_main_call0_cst_0 val_main_cst_0 val_main_c
  pointwise
  rw [sitofp_ofNat _ (by have := k.isLt; omega), lit_383, div_real _ _ (by norm_num)]
  refine (congrArg₂ (fun a b : EReal => a * (1 - _) + b * _) ?_ (sitofp_ofNat 383 (by norm_num))).trans (line_real k.val)
  exact lit_zero

theorem line5_last : val_main_call0_v16 (F := Ideal) (ix1 0) = ((383 : ℝ) : EReal) := by
  unfold val_main_call0_v16 val_main_call0_v1 val_main_c
  pointwise
  exact sitofp_ofNat 383 (by norm_num)

theorem line5 (k : Fin 384) : val_main_v5 (F := Ideal) (ix1 k) = ((k.val : ℝ) : EReal) := by
  unfold val_main_v5
  pointwise
  by_cases h : k.val < 383
  · rw [dif_pos h]
    exact line5_init _
  · rw [dif_neg h]
    have h2 : k.val = 383 := by have := k.isLt; omega
    refine Eq.trans (congrArg (val_main_call0_v16 (F := Ideal)) ?_) (line5_last.trans ?_)
    · funext a; fin_cases a; exact Fin.ext (by show k.val - 383 = 0; omega)
    · rw [h2]; norm_num

theorem line6_init (k : Fin 383) : val_main_call1_v15 (F := Ideal) (ix1 k) = ((k.val : ℝ) : EReal) := by
  unfold val_main_call1_v15 val_main_call1_v14 val_main_call1_v13 val_main_call1_v12 val_main_call1_v11 val_main_call1_v10 val_main_call1_v9 val_main_call1_v8 val_main_call1_v7 val_main_call1_v6 val_main_call1_v5 val_main_call1_v4 val_main_call1_v1 val_main_call1_v0 val_main_call1_cst_1 val_main_call1_cst_0 val_main_cst_1 val_main_c_2
  pointwise
  rw [sitofp_ofNat _ (by have := k.isLt; omega), lit_383, div_real _ _ (by norm_num)]
  refine (congrArg₂ (fun a b : EReal => a * (1 - _) + b * _) ?_ (sitofp_ofNat 383 (by norm_num))).trans (line_real k.val)
  exact lit_zero

theorem line6_last : val_main_call1_v16 (F := Ideal) (ix1 0) = ((383 : ℝ) : EReal) := by
  unfold val_main_call1_v16 val_main_call1_v1 val_main_c_2
  pointwise
  exact sitofp_ofNat 383 (by norm_num)

theorem line6 (k : Fin 384) : val_main_v6 (F := Ideal) (ix1 k) = ((k.val : ℝ) : EReal) := by
  unfold val_main_v6
  pointwise
  by_cases h : k.val < 383
  · rw [dif_pos h]
    exact line6_init _
  · rw [dif_neg h]
    have h2 : k.val = 383 := by have := k.isLt; omega
    refine Eq.trans (congrArg (val_main_call1_v16 (F := Ideal)) ?_) (line6_last.trans ?_)
    · funext a; fin_cases a; exact Fin.ext (by show k.val - 383 = 0; omega)
    · rw [h2]; norm_num

/-- The coordinate of a pixel on the grid. -/
theorem posX (y x : Fin 384) : val_main_v16 (F := Ideal) (ix3 0 y x) = ((((x.val : ℝ) + 1 / 2) * 23 / 384 : ℝ) : EReal) := by
  unfold val_main_v16 val_main_v15 val_main_v14 val_main_v13 val_main_v12 val_main_v11 val_main_v9 val_main_v8 val_main_cst_3 val_main_cst_4 val_main_cst_5
  pointwise
  rw [line6, lit_half, lit_23, lit_384,
    ← EReal.coe_add, ← EReal.coe_mul, div_real _ _ (by norm_num)]

theorem posY (y x : Fin 384) : val_main_v22 (F := Ideal) (ix3 0 y x) = ((((y.val : ℝ) + 1 / 2) * 23 / 384 : ℝ) : EReal) := by
  unfold val_main_v22 val_main_v21 val_main_v20 val_main_v19 val_main_v18 val_main_v17 val_main_v10 val_main_v7 val_main_cst_6 val_main_cst_7 val_main_cst_8
  pointwise
  rw [line5, lit_half, lit_23, lit_384,
    ← EReal.coe_add, ← EReal.coe_mul, div_real _ _ (by norm_num)]

theorem cell_floor (i : Fin 384) : min 23 ⌊((i.val : ℝ) + 1 / 2) * 23 / 384⌋₊ = qc i := by
  have h := floor_pos i
  have h2 : (⌊((i.val : ℝ) + 1 / 2) * 23 / 384⌋₊ : ℤ) = ⌊((i.val : ℝ) + 1 / 2) * 23 / 384⌋ := Int.natCast_floor_eq_floor (by positivity)
  have h3 := qc_le i
  omega

theorem cellX (y x : Fin 384) : val_main_v27 (F := Ideal) (ix3 0 y x) = BitVec.ofNat 32 (qc x) := by
  unfold val_main_v27 val_main_call2_v4 val_main_call2_v3 val_main_call2_v2 val_main_call2_v1 val_main_call2_v0 val_main_v26 val_main_v25 val_main_c_10 val_main_c_11
  pointwise
  rw [posX, Ideal.liftRound_coe]
  refine (clamp_floor _ (by positivity) 23 (by norm_num)).trans ?_
  rw [cell_floor]

theorem cellY (y x : Fin 384) : val_main_v30 (F := Ideal) (ix3 0 y x) = BitVec.ofNat 32 (qc y) := by
  unfold val_main_v30 val_main_call3_v4 val_main_call3_v3 val_main_call3_v2 val_main_call3_v1 val_main_call3_v0 val_main_v29 val_main_v28 val_main_c_12 val_main_c_13
  pointwise
  rw [posY, Ideal.liftRound_coe]
  refine (clamp_floor _ (by positivity) 23 (by norm_num)).trans ?_
  rw [cell_floor]

theorem nextX (y x : Fin 384) : val_main_v37 (F := Ideal) (ix3 0 y x) = BitVec.ofNat 32 (min (qc x + 1) 23) := by
  unfold val_main_v37 val_main_v36 val_main_v35 val_main_v34 val_main_c_16 val_main_c_17
  pointwise
  have := qc_le x
  rw [cellX]
  refine (congrArg (fun w => IntOp.minsi w (23#32)) (addi_ofNat _ 1)).trans ?_
  exact minsi_ofNat _ 23 (by omega) (by norm_num)

theorem nextY (y x : Fin 384) : val_main_v41 (F := Ideal) (ix3 0 y x) = BitVec.ofNat 32 (min (qc y + 1) 23) := by
  unfold val_main_v41 val_main_v40 val_main_v39 val_main_v38 val_main_c_18 val_main_c_19
  pointwise
  have := qc_le y
  rw [cellY]
  refine (congrArg (fun w => IntOp.minsi w (23#32)) (addi_ofNat _ 1)).trans ?_
  exact minsi_ofNat _ 23 (by omega) (by norm_num)

theorem wX (y x : Fin 384) : val_main_v47 (F := Ideal) (ix3 0 y x) = ((wq x : ℝ) : EReal) := by
  unfold val_main_v47 val_main_v46
  pointwise
  have := qc_le x
  rw [posX, cellX, sitofp_ofNat _ (by omega), ← EReal.coe_sub]
  rfl

theorem wY (y x : Fin 384) : val_main_v49 (F := Ideal) (ix3 0 y x) = ((wq y : ℝ) : EReal) := by
  unfold val_main_v49 val_main_v48
  pointwise
  have := qc_le y
  rw [posY, cellY, sitofp_ofNat _ (by omega), ← EReal.coe_sub]
  rfl

variable (x1 : Vec Ideal S1x1x384x384 .f32) (G : Fin 384 → Fin 384 → ℝ)
  (hG : ∀ y x, x1 (ix4 0 0 y x) = ((G y x : ℝ) : EReal)) (hG0 : ∀ y x, 0 ≤ G y x)
include hG

theorem posZ (y x : Fin 384) : val_main_v24 (F := Ideal) x1 (ix3 0 y x) = ((G y x * 15 : ℝ) : EReal) := by
  unfold val_main_v24 val_main_v23 val_main_v0 val_main_cst_9
  pointwise
  rw [hG, lit_fifteen, ← EReal.coe_mul]

include hG0

theorem cellZ (y x : Fin 384) : val_main_v33 (F := Ideal) x1 (ix3 0 y x) = BitVec.ofNat 32 (zc (G y x)) := by
  unfold val_main_v33 val_main_call4_v4 val_main_call4_v3 val_main_call4_v2 val_main_call4_v1 val_main_call4_v0 val_main_v32 val_main_v31 val_main_c_14 val_main_c_15
  pointwise
  rw [posZ x1 G hG, Ideal.liftRound_coe]
  exact clamp_floor _ (mul_nonneg (hG0 y x) (by norm_num)) 15 (by norm_num)

theorem nextZ (y x : Fin 384) : val_main_v45 (F := Ideal) x1 (ix3 0 y x) = BitVec.ofNat 32 (min (zc (G y x) + 1) 15) := by
  unfold val_main_v45 val_main_v44 val_main_v43 val_main_v42 val_main_c_20 val_main_c_21
  pointwise
  have : zc (G y x) ≤ 15 := Nat.min_le_left _ _
  rw [cellZ x1 G hG hG0]
  refine (congrArg (fun w => IntOp.minsi w (15#32)) (addi_ofNat _ 1)).trans ?_
  exact minsi_ofNat _ 15 (by omega) (by norm_num)

theorem wZ (y x : Fin 384) : val_main_v51 (F := Ideal) x1 (ix3 0 y x) = ((wz (G y x) : ℝ) : EReal) := by
  unfold val_main_v51 val_main_v50
  pointwise
  have : zc (G y x) ≤ 15 := Nat.min_le_left _ _
  rw [posZ x1 G hG, cellZ x1 G hG hG0, sitofp_ofNat _ (by omega), ← EReal.coe_sub]
  rfl

end Cert.BguRef

end
-- ==== Proof.RefFlat.lean ====
/- The reference's flattened scatter: for each pixel and each of its eight neighbouring grid cells, the cell's number, its
   weight and the products added to it. -/
module

public import proofs.«01_k».proof.Proof.RefGrid

@[expose] public section

set_option maxRecDepth 16384

noncomputable section

namespace Cert.BguRef

open Idealize.ShloMosaic Idealize.ShloMosaic.TcCoe Idealize.ShloMosaic.Tactic
open Cert.ReferenceIdeal Cert.ReferenceIdeal.Read
open Cert.BguHat

/-- The row and the column of a flattened pixel. -/
def ry (n : Fin 147456) : Fin 384 := ⟨n.val / 384, by have := n.isLt; omega⟩
def rx (n : Fin 147456) : Fin 384 := ⟨n.val % 384, by have := n.isLt; omega⟩

/-- The pixel and the corner of a flattened update. -/
def ru (e : Fin 1179648) : Fin 147456 := ⟨e.val / 8, by have := e.isLt; omega⟩
def rc (e : Fin 1179648) : Fin 8 := ⟨e.val % 8, by have := e.isLt; omega⟩

/-- Which neighbour a corner takes along each axis. -/
def bx (c : Fin 8) : Bool := 4 ≤ c.val
def by' (c : Fin 8) : Bool := 2 ≤ c.val % 4
def bz (c : Fin 8) : Bool := c.val % 2 = 1

/-- The neighbour along a spatial axis, and its weight. -/
def cn (b : Bool) (i : Fin 384) : ℕ := if b then min (qc i + 1) 23 else qc i
def cw (b : Bool) (i : Fin 384) : ℝ := if b then wq i else 1 - wq i
def zn (b : Bool) (r : ℝ) : ℕ := if b then min (zc r + 1) 15 else zc r
def zw (b : Bool) (r : ℝ) : ℝ := if b then wz r else 1 - wz r

/-- The number of a corner's cell. -/
def cellN (c : Fin 8) (y x : Fin 384) (r : ℝ) : ℕ := cn (by' c) y * 384 + cn (bx c) x * 16 + zn (bz c) r

/-- The weight of a corner. -/
def wN (c : Fin 8) (y x : Fin 384) (r : ℝ) : ℝ := cw (bx c) x * cw (by' c) y * zw (bz c) r

theorem muli_ofNat (m n : ℕ) : IntOp.muli (BitVec.ofNat 32 m) (BitVec.ofNat 32 n) = BitVec.ofNat 32 (m * n) := by
  unfold IntOp.muli; rw [BitVec.ofNat_mul]

theorem onesub (x : ℝ) : (1 : EReal) - (x : EReal) = ((1 - x : ℝ) : EReal) := by rw [EReal.coe_sub, EReal.coe_one]

theorem f61 (n : Fin 147456) : val_main_v52 (F := Ideal) (ix2 0 n) = BitVec.ofNat 32 (qc (rx n)) := by
  unfold val_main_v52
  pointwise
  exact cellX _ _

theorem f62 (n : Fin 147456) : val_main_v53 (F := Ideal) (ix2 0 n) = BitVec.ofNat 32 (min (qc (rx n) + 1) 23) := by
  unfold val_main_v53
  pointwise
  exact nextX _ _

theorem f63 (n : Fin 147456) : val_main_v54 (F := Ideal) (ix2 0 n) = BitVec.ofNat 32 (qc (ry n)) := by
  unfold val_main_v54
  pointwise
  exact cellY _ _

theorem f64 (n : Fin 147456) : val_main_v55 (F := Ideal) (ix2 0 n) = BitVec.ofNat 32 (min (qc (ry n) + 1) 23) := by
  unfold val_main_v55
  pointwise
  exact nextY _ _

theorem f67 (n : Fin 147456) : val_main_v58 (F := Ideal) (ix2 0 n) = ((wq (rx n) : ℝ) : EReal) := by
  unfold val_main_v58
  pointwise
  exact wX _ _

theorem f68 (n : Fin 147456) : val_main_v59 (F := Ideal) (ix2 0 n) = ((wq (ry n) : ℝ) : EReal) := by
  unfold val_main_v59
  pointwise
  exact wY _ _

theorem x0 (n : Fin 147456) : val_main_v69 (F := Ideal) (ix3 0 n 0) = BitVec.ofNat 32 (cn (bx 0) (rx n)) := by
  unfold val_main_v69
  pointwise
  unfold val_main_v61
  pointwise
  exact f61 n

theorem y0 (n : Fin 147456) : val_main_v78 (F := Ideal) (ix3 0 n 0) = BitVec.ofNat 32 (cn (by' 0) (ry n)) := by
  unfold val_main_v78
  pointwise
  unfold val_main_v70
  pointwise
  exact f63 n

theorem x1 (n : Fin 147456) : val_main_v69 (F := Ideal) (ix3 0 n 1) = BitVec.ofNat 32 (cn (bx 1) (rx n)) := by
  unfold val_main_v69
  pointwise
  unfold val_main_v62
  pointwise
  exact f61 n

theorem y1 (n : Fin 147456) : val_main_v78 (F := Ideal) (ix3 0 n 1) = BitVec.ofNat 32 (cn (by' 1) (ry n)) := by
  unfold val_main_v78
  pointwise
  unfold val_main_v71
  pointwise
  exact f63 n

theorem x2 (n : Fin 147456) : val_main_v69 (F := Ideal) (ix3 0 n 2) = BitVec.ofNat 32 (cn (bx 2) (rx n)) := by
  unfold val_main_v69
  pointwise
  unfold val_main_v63
  pointwise
  exact f61 n

theorem y2 (n : Fin 147456) : val_main_v78 (F := Ideal) (ix3 0 n 2) = BitVec.ofNat 32 (cn (by' 2) (ry n)) := by
  unfold val_main_v78
  pointwise
  unfold val_main_v72
  pointwise
  exact f64 n

theorem x3 (n : Fin 147456) : val_main_v69 (F := Ideal) (ix3 0 n 3) = BitVec.ofNat 32 (cn (bx 3) (rx n)) := by
  unfold val_main_v69
  pointwise
  unfold val_main_v64
  pointwise
  exact f61 n

theorem y3 (n : Fin 147456) : val_main_v78 (F := Ideal) (ix3 0 n 3) = BitVec.ofNat 32 (cn (by' 3) (ry n)) := by
  unfold val_main_v78
  pointwise
  unfold val_main_v73
  pointwise
  exact f64 n

theorem x4 (n : Fin 147456) : val_main_v69 (F := Ideal) (ix3 0 n 4) = BitVec.ofNat 32 (cn (bx 4) (rx n)) := by
  unfold val_main_v69
  pointwise
  unfold val_main_v65
  pointwise
  exact f62 n

theorem y4 (n : Fin 147456) : val_main_v78 (F := Ideal) (ix3 0 n 4) = BitVec.ofNat 32 (cn (by' 4) (ry n)) := by
  unfold val_main_v78
  pointwise
  unfold val_main_v74
  pointwise
  exact f63 n

theorem x5 (n : Fin 147456) : val_main_v69 (F := Ideal) (ix3 0 n 5) = BitVec.ofNat 32 (cn (bx 5) (rx n)) := by
  unfold val_main_v69
  pointwise
  unfold val_main_v66
  pointwise
  exact f62 n

theorem y5 (n : Fin 147456) : val_main_v78 (F := Ideal) (ix3 0 n 5) = BitVec.ofNat 32 (cn (by' 5) (ry n)) := by
  unfold val_main_v78
  pointwise
  unfold val_main_v75
  pointwise
  exact f63 n

theorem x6 (n : Fin 147456) : val_main_v69 (F := Ideal) (ix3 0 n 6) = BitVec.ofNat 32 (cn (bx 6) (rx n)) := by
  unfold val_main_v69
  pointwise
  unfold val_main_v67
  pointwise
  exact f62 n

theorem y6 (n : Fin 147456) : val_main_v78 (F := Ideal) (ix3 0 n 6) = BitVec.ofNat 32 (cn (by' 6) (ry n)) := by
  unfold val_main_v78
  pointwise
  unfold val_main_v76
  pointwise
  exact f64 n

theorem x7 (n : Fin 147456) : val_main_v69 (F := Ideal) (ix3 0 n 7) = BitVec.ofNat 32 (cn (bx 7) (rx n)) := by
  unfold val_main_v69
  pointwise
  unfold val_main_v68
  pointwise
  exact f62 n

theorem y7 (n : Fin 147456) : val_main_v78 (F := Ideal) (ix3 0 n 7) = BitVec.ofNat 32 (cn (by' 7) (ry n)) := by
  unfold val_main_v78
  pointwise
  unfold val_main_v77
  pointwise
  exact f64 n

variable (x1 : Vec Ideal S1x1x384x384 .f32) (G : Fin 384 → Fin 384 → ℝ)
  (hG : ∀ y x, x1 (ix4 0 0 y x) = ((G y x : ℝ) : EReal)) (hG0 : ∀ y x, 0 ≤ G y x)
include hG hG0

/-- The guide at a flattened pixel. -/
def gn (n : Fin 147456) : ℝ := G (ry n) (rx n)

theorem f65 (n : Fin 147456) : val_main_v56 (F := Ideal) x1 (ix2 0 n) = BitVec.ofNat 32 (zc (gn G n)) := by
  unfold val_main_v56
  pointwise
  exact cellZ x1 G hG hG0 _ _

theorem f66 (n : Fin 147456) : val_main_v57 (F := Ideal) x1 (ix2 0 n) = BitVec.ofNat 32 (min (zc (gn G n) + 1) 15) := by
  unfold val_main_v57
  pointwise
  exact nextZ x1 G hG hG0 _ _

theorem f69 (n : Fin 147456) : val_main_v60 (F := Ideal) x1 (ix2 0 n) = ((wz (gn G n) : ℝ) : EReal) := by
  unfold val_main_v60
  pointwise
  exact wZ x1 G hG hG0 _ _

theorem z0 (n : Fin 147456) : val_main_v87 (F := Ideal) x1 (ix3 0 n 0) = BitVec.ofNat 32 (zn (bz 0) (gn G n)) := by
  unfold val_main_v87
  pointwise
  unfold val_main_v79
  pointwise
  exact f65 x1 G hG hG0 n

theorem w0 (n : Fin 147456) : val_main_v136 (F := Ideal) x1 (ix3 0 n 0) = ((wN 0 (ry n) (rx n) (gn G n) : ℝ) : EReal) := by
  unfold val_main_v136
  pointwise
  unfold val_main_v128
  pointwise
  unfold val_main_v95 val_main_v92 val_main_v89 val_main_v88 val_main_cst_22 val_main_v91 val_main_v90 val_main_cst_23 val_main_v94 val_main_v93 val_main_cst_24
  pointwise
  simp only [f67, f68, f69 x1 G hG hG0, onesub, ← EReal.coe_mul]
  rfl

theorem z1 (n : Fin 147456) : val_main_v87 (F := Ideal) x1 (ix3 0 n 1) = BitVec.ofNat 32 (zn (bz 1) (gn G n)) := by
  unfold val_main_v87
  pointwise
  unfold val_main_v80
  pointwise
  exact f66 x1 G hG hG0 n

theorem w1 (n : Fin 147456) : val_main_v136 (F := Ideal) x1 (ix3 0 n 1) = ((wN 1 (ry n) (rx n) (gn G n) : ℝ) : EReal) := by
  unfold val_main_v136
  pointwise
  unfold val_main_v129
  pointwise
  unfold val_main_v101 val_main_v100 val_main_v97 val_main_v96 val_main_cst_25 val_main_v99 val_main_v98 val_main_cst_26
  pointwise
  simp only [f67, f68, f69 x1 G hG hG0, onesub, ← EReal.coe_mul]
  rfl

theorem z2 (n : Fin 147456) : val_main_v87 (F := Ideal) x1 (ix3 0 n 2) = BitVec.ofNat 32 (zn (bz 2) (gn G n)) := by
  unfold val_main_v87
  pointwise
  unfold val_main_v81
  pointwise
  exact f65 x1 G hG hG0 n

theorem w2 (n : Fin 147456) : val_main_v136 (F := Ideal) x1 (ix3 0 n 2) = ((wN 2 (ry n) (rx n) (gn G n) : ℝ) : EReal) := by
  unfold val_main_v136
  pointwise
  unfold val_main_v130
  pointwise
  unfold val_main_v107 val_main_v104 val_main_v103 val_main_v102 val_main_cst_27 val_main_v106 val_main_v105 val_main_cst_28
  pointwise
  simp only [f67, f68, f69 x1 G hG hG0, onesub, ← EReal.coe_mul]
  rfl

theorem z3 (n : Fin 147456) : val_main_v87 (F := Ideal) x1 (ix3 0 n 3) = BitVec.ofNat 32 (zn (bz 3) (gn G n)) := by
  unfold val_main_v87
  pointwise
  unfold val_main_v82
  pointwise
  exact f66 x1 G hG hG0 n

theorem w3 (n : Fin 147456) : val_main_v136 (F := Ideal) x1 (ix3 0 n 3) = ((wN 3 (ry n) (rx n) (gn G n) : ℝ) : EReal) := by
  unfold val_main_v136
  pointwise
  unfold val_main_v131
  pointwise
  unfold val_main_v111 val_main_v110 val_main_v109 val_main_v108 val_main_cst_29
  pointwise
  simp only [f67, f68, f69 x1 G hG hG0, onesub, ← EReal.coe_mul]
  rfl

theorem z4 (n : Fin 147456) : val_main_v87 (F := Ideal) x1 (ix3 0 n 4) = BitVec.ofNat 32 (zn (bz 4) (gn G n)) := by
  unfold val_main_v87
  pointwise
  unfold val_main_v83
  pointwise
  exact f65 x1 G hG hG0 n

theorem w4 (n : Fin 147456) : val_main_v136 (F := Ideal) x1 (ix3 0 n 4) = ((wN 4 (ry n) (rx n) (gn G n) : ℝ) : EReal) := by
  unfold val_main_v136
  pointwise
  unfold val_main_v132
  pointwise
  unfold val_main_v117 val_main_v114 val_main_v113 val_main_v112 val_main_cst_30 val_main_v116 val_main_v115 val_main_cst_31
  pointwise
  simp only [f67, f68, f69 x1 G hG hG0, onesub, ← EReal.coe_mul]
  rfl

theorem z5 (n : Fin 147456) : val_main_v87 (F := Ideal) x1 (ix3 0 n 5) = BitVec.ofNat 32 (zn (bz 5) (gn G n)) := by
  unfold val_main_v87
  pointwise
  unfold val_main_v84
  pointwise
  exact f66 x1 G hG hG0 n

theorem w5 (n : Fin 147456) : val_main_v136 (F := Ideal) x1 (ix3 0 n 5) = ((wN 5 (ry n) (rx n) (gn G n) : ℝ) : EReal) := by
  unfold val_main_v136
  pointwise
  unfold val_main_v133
  pointwise
  unfold val_main_v121 val_main_v120 val_main_v119 val_main_v118 val_main_cst_32
  pointwise
  simp only [f67, f68, f69 x1 G hG hG0, onesub, ← EReal.coe_mul]
  rfl

theorem z6 (n : Fin 147456) : val_main_v87 (F := Ideal) x1 (ix3 0 n 6) = BitVec.ofNat 32 (zn (bz 6) (gn G n)) := by
  unfold val_main_v87
  pointwise
  unfold val_main_v85
  pointwise
  exact f65 x1 G hG hG0 n

theorem w6 (n : Fin 147456) : val_main_v136 (F := Ideal) x1 (ix3 0 n 6) = ((wN 6 (ry n) (rx n) (gn G n) : ℝ) : EReal) := by
  unfold val_main_v136
  pointwise
  unfold val_main_v134
  pointwise
  unfold val_main_v125 val_main_v122 val_main_v124 val_main_v123 val_main_cst_33
  pointwise
  simp only [f67, f68, f69 x1 G hG hG0, onesub, ← EReal.coe_mul]
  rfl

theorem z7 (n : Fin 147456) : val_main_v87 (F := Ideal) x1 (ix3 0 n 7) = BitVec.ofNat 32 (zn (bz 7) (gn G n)) := by
  unfold val_main_v87
  pointwise
  unfold val_main_v86
  pointwise
  exact f66 x1 G hG hG0 n

theorem w7 (n : Fin 147456) : val_main_v136 (F := Ideal) x1 (ix3 0 n 7) = ((wN 7 (ry n) (rx n) (gn G n) : ℝ) : EReal) := by
  unfold val_main_v136
  pointwise
  unfold val_main_v135
  pointwise
  unfold val_main_v127 val_main_v126
  pointwise
  simp only [f67, f68, f69 x1 G hG hG0, onesub, ← EReal.coe_mul]
  rfl

omit hG hG0 in
theorem xc (n : Fin 147456) (c : Fin 8) : val_main_v69 (F := Ideal) (ix3 0 n c) = BitVec.ofNat 32 (cn (bx c) (rx n)) := by
  match c with
  | ⟨0, _⟩ => exact x0 n
  | ⟨1, _⟩ => exact x1 n
  | ⟨2, _⟩ => exact x2 n
  | ⟨3, _⟩ => exact x3 n
  | ⟨4, _⟩ => exact x4 n
  | ⟨5, _⟩ => exact x5 n
  | ⟨6, _⟩ => exact x6 n
  | ⟨7, _⟩ => exact x7 n

omit hG hG0 in
theorem yc (n : Fin 147456) (c : Fin 8) : val_main_v78 (F := Ideal) (ix3 0 n c) = BitVec.ofNat 32 (cn (by' c) (ry n)) := by
  match c with
  | ⟨0, _⟩ => exact y0 n
  | ⟨1, _⟩ => exact y1 n
  | ⟨2, _⟩ => exact y2 n
  | ⟨3, _⟩ => exact y3 n
  | ⟨4, _⟩ => exact y4 n
  | ⟨5, _⟩ => exact y5 n
  | ⟨6, _⟩ => exact y6 n
  | ⟨7, _⟩ => exact y7 n

theorem zc' (n : Fin 147456) (c : Fin 8) : val_main_v87 (F := Ideal) x1 (ix3 0 n c) = BitVec.ofNat 32 (zn (bz c) (gn G n)) := by
  match c with
  | ⟨0, _⟩ => exact z0 x1 G hG hG0 n
  | ⟨1, _⟩ => exact z1 x1 G hG hG0 n
  | ⟨2, _⟩ => exact z2 x1 G hG hG0 n
  | ⟨3, _⟩ => exact z3 x1 G hG hG0 n
  | ⟨4, _⟩ => exact z4 x1 G hG hG0 n
  | ⟨5, _⟩ => exact z5 x1 G hG hG0 n
  | ⟨6, _⟩ => exact z6 x1 G hG hG0 n
  | ⟨7, _⟩ => exact z7 x1 G hG hG0 n

/-- The weight of a corner, as the reference stacks them. -/
theorem wc (n : Fin 147456) (c : Fin 8) : val_main_v136 (F := Ideal) x1 (ix3 0 n c) = ((wN c (ry n) (rx n) (gn G n) : ℝ) : EReal) := by
  match c with
  | ⟨0, _⟩ => exact w0 x1 G hG hG0 n
  | ⟨1, _⟩ => exact w1 x1 G hG hG0 n
  | ⟨2, _⟩ => exact w2 x1 G hG hG0 n
  | ⟨3, _⟩ => exact w3 x1 G hG hG0 n
  | ⟨4, _⟩ => exact w4 x1 G hG hG0 n
  | ⟨5, _⟩ => exact w5 x1 G hG hG0 n
  | ⟨6, _⟩ => exact w6 x1 G hG hG0 n
  | ⟨7, _⟩ => exact w7 x1 G hG hG0 n

/-- The cell of a corner. -/
theorem f151 (n : Fin 147456) (c : Fin 8) :
    val_main_v142 (F := Ideal) x1 (ix3 0 n c) = BitVec.ofNat 32 (cellN c (ry n) (rx n) (gn G n)) := by
  unfold val_main_v142 val_main_v141 val_main_v140 val_main_v139 val_main_v138 val_main_v137 val_main_c_34 val_main_c_35
  pointwise
  rw [xc, yc, zc' x1 G hG hG0]
  refine (congrArg₂ (fun a b => IntOp.addi (IntOp.addi a b) _) (muli_ofNat _ 384) (muli_ofNat _ 16)).trans ?_
  beta_reduce
  rw [addi_ofNat, addi_ofNat]
  rfl

omit hG hG0 in
theorem cn_lt (b : Bool) (i : Fin 384) : cn b i < 24 := by
  have := qc_le i
  unfold cn; split <;> omega

omit hG hG0 in
theorem zn_lt (b : Bool) (r : ℝ) : zn b r < 16 := by
  have : zc r ≤ 15 := Nat.min_le_left _ _
  unfold zn; split <;> omega

omit hG hG0 in
theorem cellN_lt (c : Fin 8) (y x : Fin 384) (r : ℝ) : cellN c y x r < 9216 := by
  have h1 := cn_lt (by' c) y
  have h2 := cn_lt (bx c) x
  have h3 := zn_lt (bz c) r
  unfold cellN; omega

/-- The flattened cell of an update. -/
theorem f188 (e : Fin 1179648) :
    val_main_v181 (F := Ideal) x1 (ix1 e) = BitVec.ofNat 32 (cellN (rc e) (ry (ru e)) (rx (ru e)) (gn G (ru e))) := by
  unfold val_main_v181
  pointwise
  unfold val_main_v180 val_main_v179 val_main_v178 val_main_v177 val_main_v176 val_main_v175 val_main_v174 val_main_c_38
  pointwise
  refine (congrArg₂ (fun a b => IntOp.addi a b) (f151 x1 G hG hG0 (ru e) (rc e)) (muli_ofNat 0 9216)).trans ?_
  beta_reduce
  rw [addi_ofNat]
  rfl

variable (x0 x2 x3 : Vec Ideal S1x3x384x384 .f32) (A : Fin 4 → Fin 384 → Fin 384 → ℝ) (O : Fin 3 → Fin 384 → Fin 384 → ℝ) (w : ℝ)
  (hA : ∀ (k : Fin 3) y x, x0 (ix4 0 k y x) = ((A k.castSucc y x : ℝ) : EReal)) (hA3 : ∀ y x, A 3 y x = 1)
  (hO : ∀ (k : Fin 3) y x, x2 (ix4 0 k y x) = ((O k y x : ℝ) : EReal)) (hW : ∀ p, x3 p = ((w : ℝ) : EReal))

omit hG hG0
include hA hA3 in
theorem f4 (y x : Fin 384) (i : Fin 4) : val_main_v4 (F := Ideal) x0 (ix4 0 y x i) = ((A i y x : ℝ) : EReal) := by
  match i with
  | ⟨0, _⟩ =>
    show val_main_v4 (F := Ideal) x0 (ix4 0 y x 0) = _
    unfold val_main_v4 val_main_v1
    pointwise
    exact hA 0 y x
  | ⟨1, _⟩ =>
    show val_main_v4 (F := Ideal) x0 (ix4 0 y x 1) = _
    unfold val_main_v4 val_main_v1
    pointwise
    exact hA 1 y x
  | ⟨2, _⟩ =>
    show val_main_v4 (F := Ideal) x0 (ix4 0 y x 2) = _
    unfold val_main_v4 val_main_v1
    pointwise
    exact hA 2 y x
  | ⟨3, _⟩ =>
    show val_main_v4 (F := Ideal) x0 (ix4 0 y x 3) = _
    unfold val_main_v4 val_main_v3 val_main_cst
    pointwise
    rw [hA3, EReal.coe_one]

include hA hA3 in
theorem f152 (n : Fin 147456) (i : Fin 4) : val_main_v143 (F := Ideal) x0 (ix3 0 n i) = ((A i (ry n) (rx n) : ℝ) : EReal) := by
  unfold val_main_v143
  pointwise
  exact f4 x0 A hA hA3 _ _ i

include hO in
theorem f153 (n : Fin 147456) (k : Fin 3) : val_main_v144 (F := Ideal) x2 (ix3 0 n k) = ((O k (ry n) (rx n) : ℝ) : EReal) := by
  unfold val_main_v144 val_main_v2
  pointwise
  exact hO k _ _

include hW in
theorem f157 (n : Fin 147456) : val_main_v148 (F := Ideal) x3 (ix2 0 n) = ((w : ℝ) : EReal) := by
  unfold val_main_v148 val_main_v147 val_main_cst_37
  pointwise
  rw [val_main_v146_apply, lit_3]
  simp only [val_main_v145_apply, hW, Fin.sum_univ_three]
  unfold val_main_cst_36
  pointwise
  rw [← EReal.coe_add, ← EReal.coe_add, div_real _ _ (by norm_num)]
  congr 1
  ring

include hG hG0 hW in
theorem f170 (n : Fin 147456) (c : Fin 8) :
    val_main_v161 (F := Ideal) x1 x3 (ix3 0 n c) = ((wN c (ry n) (rx n) (gn G n) * w : ℝ) : EReal) := by
  unfold val_main_v161 val_main_v160 val_main_v159
  pointwise
  rw [wc x1 G hG hG0, f157 x3 w hW, ← EReal.coe_mul]

include hG hG0 hW hA hA3 in
/-- The update of the 4 × 4 sums. -/
theorem f189 (e : Fin 1179648) (i j : Fin 4) :
    val_main_v182 (F := Ideal) x0 x1 x3 (ix3 e i j)
      = ((A i (ry (ru e)) (rx (ru e)) * A j (ry (ru e)) (rx (ru e)) * (wN (rc e) (ry (ru e)) (rx (ru e)) (gn G (ru e)) * w) : ℝ) : EReal) := by
  unfold val_main_v182
  pointwise
  unfold val_main_v172
  pointwise
  unfold val_main_v166 val_main_v165 val_main_v164 val_main_v163 val_main_v162 val_main_v153 val_main_v152 val_main_v151 val_main_v150 val_main_v149
  pointwise
  refine (congrArg₂ (fun a b : EReal => a * b) (congrArg₂ (fun a b : EReal => a * b) (f152 x0 A hA hA3 (ru e) i) (f152 x0 A hA hA3 (ru e) j))
    (f170 x1 G hG hG0 x3 w hW (ru e) (rc e))).trans ?_
  beta_reduce
  rw [← EReal.coe_mul, ← EReal.coe_mul]

include hG hG0 hW hA hA3 hO in
/-- The update of the 3 × 4 sums. -/
theorem f190 (e : Fin 1179648) (k : Fin 3) (j : Fin 4) :
    val_main_v183 (F := Ideal) x0 x1 x2 x3 (ix3 e k j)
      = ((O k (ry (ru e)) (rx (ru e)) * A j (ry (ru e)) (rx (ru e)) * (wN (rc e) (ry (ru e)) (rx (ru e)) (gn G (ru e)) * w) : ℝ) : EReal) := by
  unfold val_main_v183
  pointwise
  unfold val_main_v173
  pointwise
  unfold val_main_v171 val_main_v170 val_main_v169 val_main_v168 val_main_v167 val_main_v158 val_main_v157 val_main_v156 val_main_v155 val_main_v154
  pointwise
  refine (congrArg₂ (fun a b : EReal => a * b) (congrArg₂ (fun a b : EReal => a * b) (f153 x2 O hO (ru e) k) (f152 x0 A hA hA3 (ru e) j))
    (f170 x1 G hG hG0 x3 w hW (ru e) (rc e))).trans ?_
  beta_reduce
  rw [← EReal.coe_mul, ← EReal.coe_mul]

end Cert.BguRef

end
-- ==== Proof.RefSplat.lean ====
/- The reference's scatters: each grid cell's sums are the same double sums of hat weights that the kernel's matrix products
   give. -/
module

public import proofs.«01_k».proof.Proof.RefFlat
public import proofs.«01_k».proof.Proof.SplatReal
public import Idealize.ShloMosaic.Lib.Routing.OpsPair

@[expose] public section

set_option maxRecDepth 16384

noncomputable section

namespace Cert.BguRef

open Idealize.ShloMosaic Idealize.ShloMosaic.TcCoe Idealize.ShloMosaic.Tactic Idealize.ShloMosaic.Routing
open Cert.ReferenceIdeal Cert.ReferenceIdeal.Read
open Cert.BguHat
open Cert.BguSplat (coe_sum gS gT)

/-! ## Sums over flattened indices -/

/-- An update is a pixel and a corner. -/
def eqU : Fin 1179648 ≃ Fin 147456 × Fin 8 where
  toFun e := (ru e, rc e)
  invFun p := ⟨p.1.val * 8 + p.2.val, by have := p.1.isLt; have := p.2.isLt; omega⟩
  left_inv e := by apply Fin.ext; show e.val / 8 * 8 + e.val % 8 = e.val; omega
  right_inv p := by
    have := p.2.isLt
    apply Prod.ext
    · apply Fin.ext; show (p.1.val * 8 + p.2.val) / 8 = p.1.val; omega
    · apply Fin.ext; show (p.1.val * 8 + p.2.val) % 8 = p.2.val; omega

/-- A pixel is a row and a column. -/
def eqN : Fin 147456 ≃ Fin 384 × Fin 384 where
  toFun n := (ry n, rx n)
  invFun p := ⟨p.1.val * 384 + p.2.val, by have := p.1.isLt; have := p.2.isLt; omega⟩
  left_inv e := by apply Fin.ext; show e.val / 384 * 384 + e.val % 384 = e.val; omega
  right_inv p := by
    have := p.2.isLt
    apply Prod.ext
    · apply Fin.ext; show (p.1.val * 384 + p.2.val) / 384 = p.1.val; omega
    · apply Fin.ext; show (p.1.val * 384 + p.2.val) % 384 = p.2.val; omega

theorem sum_upd (F : Fin 384 → Fin 384 → Fin 8 → ℝ) :
    ∑ e : Fin 1179648, F (ry (ru e)) (rx (ru e)) (rc e) = ∑ y, ∑ x, ∑ c, F y x c := by
  rw [Fintype.sum_equiv eqU (fun e : Fin 1179648 => F (ry (ru e)) (rx (ru e)) (rc e)) (fun p => F (ry p.1) (rx p.1) p.2) (fun e => rfl),
    Fintype.sum_prod_type,
    Fintype.sum_equiv eqN (fun n : Fin 147456 => ∑ c, F (ry n) (rx n) c) (fun p => ∑ c, F p.1 p.2 c) (fun n => rfl),
    Fintype.sum_prod_type]

/-- The number of a cell. -/
def cellOf (z : Fin 16) (g h : Fin 24) : Fin 9216 :=
  ⟨(g.val * 24 + h.val) * 16 + z.val, by have := g.isLt; have := h.isLt; have := z.isLt; omega⟩

theorem cellN_eq (c : Fin 8) (y x : Fin 384) (r : ℝ) (z : Fin 16) (g h : Fin 24) :
    cellN c y x r = (cellOf z g h).val ↔ cn (by' c) y = g.val ∧ cn (bx c) x = h.val ∧ zn (bz c) r = z.val := by
  have h1 := cn_lt (by' c) y
  have h2 := cn_lt (bx c) x
  have h3 := zn_lt (bz c) r
  have := g.isLt; have := h.isLt; have := z.isLt
  show cn (by' c) y * 384 + cn (bx c) x * 16 + zn (bz c) r = (g.val * 24 + h.val) * 16 + z.val ↔ _
  omega

/-- One corner's part of a cell. -/
theorem corner (c : Fin 8) (y x : Fin 384) (r a w : ℝ) (z : Fin 16) (g h : Fin 24) :
    (if cellN c y x r = (cellOf z g h).val then a * (wN c y x r * w) else 0)
      = a * w * ((if cn (by' c) y = g.val then cw (by' c) y else 0) * (if cn (bx c) x = h.val then cw (bx c) x else 0)
          * (if zn (bz c) r = z.val then zw (bz c) r else 0)) := by
  rw [if_congr (cellN_eq c y x r z g h) rfl rfl]
  unfold wN
  by_cases h1 : cn (by' c) y = g.val <;> by_cases h2 : cn (bx c) x = h.val <;> by_cases h3 : zn (bz c) r = z.val <;>
    simp only [h1, h2, h3, and_self, and_true, true_and, and_false, false_and, if_true, if_false, mul_zero, zero_mul] <;> ring

theorem eight (Y X Z : Bool → ℝ) :
    (∑ c : Fin 8, Y (by' c) * X (bx c) * Z (bz c)) = (Y false + Y true) * (X false + X true) * (Z false + Z true) := by
  have b0 : by' 0 = false ∧ bx 0 = false ∧ bz 0 = false := by decide
  have b1 : by' 1 = false ∧ bx 1 = false ∧ bz 1 = true := by decide
  have b2 : by' 2 = true ∧ bx 2 = false ∧ bz 2 = false := by decide
  have b3 : by' 3 = true ∧ bx 3 = false ∧ bz 3 = true := by decide
  have b4 : by' 4 = false ∧ bx 4 = true ∧ bz 4 = false := by decide
  have b5 : by' 5 = false ∧ bx 5 = true ∧ bz 5 = true := by decide
  have b6 : by' 6 = true ∧ bx 6 = true ∧ bz 6 = false := by decide
  have b7 : by' 7 = true ∧ bx 7 = true ∧ bz 7 = true := by decide
  rw [Fin.sum_univ_eight, b0.1, b0.2.1, b0.2.2, b1.1, b1.2.1, b1.2.2, b2.1, b2.2.1, b2.2.2, b3.1, b3.2.1, b3.2.2, b4.1, b4.2.1, b4.2.2, b5.1, b5.2.1, b5.2.2, b6.1, b6.2.1, b6.2.2, b7.1, b7.2.1, b7.2.2]
  ring

/-- The eight corners together give the product of the three hats. -/
theorem corners (y x : Fin 384) (r a w : ℝ) (z : Fin 16) (g h : Fin 24) :
    (∑ c : Fin 8, if cellN c y x r = (cellOf z g h).val then a * (wN c y x r * w) else 0)
      = a * w * (hs g y * hs h x * hz z r) := by
  simp only [corner]
  rw [← Finset.mul_sum]
  exact congrArg (fun t => a * w * t) (eight (fun b => if cn b y = g.val then cw b y else 0) (fun b => if cn b x = h.val then cw b x else 0)
    (fun b => if zn b r = z.val then zw b r else 0))

/-! ## The scatters -/

theorem startS (idx : IVec S1179648x1 32) (e : Fin 1179648) (i : Fin 4) (j : Fin 4) :
    scatter_S9216x4x4_S1179648x1_S1179648x4x4_12_0_0_1.start (ix3 e i j) idx 0 = (idx (ix2 e 0)).toInt := by
  unfold ScatterDims.start
  rw [dif_pos (by decide)]
  congr 2
  funext b
  fin_cases b <;> rfl

theorem startS1 (idx : IVec S1179648x1 32) (e : Fin 1179648) (i : Fin 4) (j : Fin 4) :
    scatter_S9216x4x4_S1179648x1_S1179648x4x4_12_0_0_1.start (ix3 e i j) idx 1 = 0 := by
  unfold ScatterDims.start
  exact dif_neg (by decide)

theorem startS2 (idx : IVec S1179648x1 32) (e : Fin 1179648) (i : Fin 4) (j : Fin 4) :
    scatter_S9216x4x4_S1179648x1_S1179648x4x4_12_0_0_1.start (ix3 e i j) idx 2 = 0 := by
  unfold ScatterDims.start
  exact dif_neg (by decide)

theorem windowS (e : Fin 1179648) (i : Fin 4) (j : Fin 4) :
    scatter_S9216x4x4_S1179648x1_S1179648x4x4_12_0_0_1.window (ix3 e i j) 0 = 0 := by
  unfold ScatterDims.window
  exact dif_neg (by decide)

theorem windowS1 (e : Fin 1179648) (i : Fin 4) (j : Fin 4) :
    scatter_S9216x4x4_S1179648x1_S1179648x4x4_12_0_0_1.window (ix3 e i j) 1 = i.val := by
  unfold ScatterDims.window
  exact dif_pos (by decide)

theorem windowS2 (e : Fin 1179648) (i : Fin 4) (j : Fin 4) :
    scatter_S9216x4x4_S1179648x1_S1179648x4x4_12_0_0_1.window (ix3 e i j) 2 = j.val := by
  unfold ScatterDims.window
  exact dif_pos (by decide)

/-- Where an update goes. -/
theorem goesS (idx : IVec S1179648x1 32) (N : Fin 1179648 → ℕ) (hN : ∀ e, N e < 9216)
    (hi : ∀ e, idx (ix2 e 0) = BitVec.ofNat 32 (N e)) (e : Fin 1179648) (i : Fin 4) (j : Fin 4) (q : Fin 9216) (i' : Fin 4) (j' : Fin 4) :
    scatter_S9216x4x4_S1179648x1_S1179648x4x4_12_0_0_1.resultIdx? (ix3 e i j) idx = some (ix3 q i' j') ↔ (N e = q.val ∧ i = i') ∧ j = j' := by
  have h1 := hN e
  have e0 : scatter_S9216x4x4_S1179648x1_S1179648x4x4_12_0_0_1.start (ix3 e i j) idx 0 + (scatter_S9216x4x4_S1179648x1_S1179648x4x4_12_0_0_1.window (ix3 e i j) 0 : ℤ) = N e := by
    rw [startS, windowS, hi, toInt_ofNat _ (by omega)]; omega
  have e1 : scatter_S9216x4x4_S1179648x1_S1179648x4x4_12_0_0_1.start (ix3 e i j) idx 1 + (scatter_S9216x4x4_S1179648x1_S1179648x4x4_12_0_0_1.window (ix3 e i j) 1 : ℤ) = i.val := by
    rw [startS1, windowS1]; omega
  have e2 : scatter_S9216x4x4_S1179648x1_S1179648x4x4_12_0_0_1.start (ix3 e i j) idx 2 + (scatter_S9216x4x4_S1179648x1_S1179648x4x4_12_0_0_1.window (ix3 e i j) 2 : ℤ) = j.val := by
    rw [startS2, windowS2]; omega
  rw [resultIdx?_eq_some]
  constructor
  · intro h
    have h0 := (e0.symm.trans (h 0) : (N e : ℤ) = (q.val : ℤ))
    have h1 := (e1.symm.trans (h 1) : (i.val : ℤ) = (i'.val : ℤ))
    have h2 := (e2.symm.trans (h 2) : (j.val : ℤ) = (j'.val : ℤ))
    exact ⟨⟨by omega, Fin.ext (by omega)⟩, Fin.ext (by omega)⟩
  · rintro ⟨⟨h, rfl⟩, rfl⟩ a
    match a with
    | ⟨0, _⟩ => exact e0.trans (by rw [h]; rfl)
    | ⟨1, _⟩ => exact e1
    | ⟨2, _⟩ => exact e2

/-- A scatter onto zeros, over the reals. -/
theorem sumS (x : FVec Ideal S9216x4x4 .f32) (idx : IVec S1179648x1 32) (u : FVec Ideal S1179648x4x4 .f32)
    (N : Fin 1179648 → ℕ) (hN : ∀ e, N e < 9216) (hi : ∀ e, idx (ix2 e 0) = BitVec.ofNat 32 (N e))
    (U : Fin 1179648 → ℝ) (q : Fin 9216) (i : Fin 4) (j : Fin 4) (hx : x (ix3 q i j) = 0)
    (hU : ∀ e, u (ix3 e i j) = ((U e : ℝ) : EReal)) :
    Host.scatterAdd (F := Ideal) scatter_S9216x4x4_S1179648x1_S1179648x4x4_12_0_0_1 x idx u (ix3 q i j)
      = ((∑ e, (if N e = q.val then U e else 0) : ℝ) : EReal) := by
  show x (ix3 q i j) + ∑ k ∈ Finset.univ.filter (fun k => scatter_S9216x4x4_S1179648x1_S1179648x4x4_12_0_0_1.resultIdx? k idx = some (ix3 q i j)), u k = _
  rw [hx, zero_add, Finset.sum_filter, sum_idx3, coe_sum]
  refine Finset.sum_congr rfl fun e _ => ?_
  rw [Finset.sum_eq_single i, Finset.sum_eq_single j]
  · by_cases h : N e = q.val
    · rw [if_pos h, if_pos ((goesS idx N hN hi e i j q i j).mpr ⟨⟨h, rfl⟩, rfl⟩), hU]
    · rw [if_neg h, if_neg (fun hh => h ((goesS idx N hN hi e i j q i j).mp hh).1.1)]; rfl
  · intro j' _ hj
    exact if_neg (fun hh => hj ((goesS idx N hN hi e i j' q i j).mp hh).2)
  · intro h; exact absurd (Finset.mem_univ _) h
  · intro i' _ hi'
    refine Finset.sum_eq_zero fun j' _ => ?_
    exact if_neg (fun hh => hi' ((goesS idx N hN hi e i' j' q i j).mp hh).1.2)
  · intro h; exact absurd (Finset.mem_univ _) h

theorem startT (idx : IVec S1179648x1 32) (e : Fin 1179648) (i : Fin 3) (j : Fin 4) :
    scatter_S9216x3x4_S1179648x1_S1179648x3x4_12_0_0_1.start (ix3 e i j) idx 0 = (idx (ix2 e 0)).toInt := by
  unfold ScatterDims.start
  rw [dif_pos (by decide)]
  congr 2
  funext b
  fin_cases b <;> rfl

theorem startT1 (idx : IVec S1179648x1 32) (e : Fin 1179648) (i : Fin 3) (j : Fin 4) :
    scatter_S9216x3x4_S1179648x1_S1179648x3x4_12_0_0_1.start (ix3 e i j) idx 1 = 0 := by
  unfold ScatterDims.start
  exact dif_neg (by decide)

theorem startT2 (idx : IVec S1179648x1 32) (e : Fin 1179648) (i : Fin 3) (j : Fin 4) :
    scatter_S9216x3x4_S1179648x1_S1179648x3x4_12_0_0_1.start (ix3 e i j) idx 2 = 0 := by
  unfold ScatterDims.start
  exact dif_neg (by decide)

theorem windowT (e : Fin 1179648) (i : Fin 3) (j : Fin 4) :
    scatter_S9216x3x4_S1179648x1_S1179648x3x4_12_0_0_1.window (ix3 e i j) 0 = 0 := by
  unfold ScatterDims.window
  exact dif_neg (by decide)

theorem windowT1 (e : Fin 1179648) (i : Fin 3) (j : Fin 4) :
    scatter_S9216x3x4_S1179648x1_S1179648x3x4_12_0_0_1.window (ix3 e i j) 1 = i.val := by
  unfold ScatterDims.window
  exact dif_pos (by decide)

theorem windowT2 (e : Fin 1179648) (i : Fin 3) (j : Fin 4) :
    scatter_S9216x3x4_S1179648x1_S1179648x3x4_12_0_0_1.window (ix3 e i j) 2 = j.val := by
  unfold ScatterDims.window
  exact dif_pos (by decide)

/-- Where an update goes. -/
theorem goesT (idx : IVec S1179648x1 32) (N : Fin 1179648 → ℕ) (hN : ∀ e, N e < 9216)
    (hi : ∀ e, idx (ix2 e 0) = BitVec.ofNat 32 (N e)) (e : Fin 1179648) (i : Fin 3) (j : Fin 4) (q : Fin 9216) (i' : Fin 3) (j' : Fin 4) :
    scatter_S9216x3x4_S1179648x1_S1179648x3x4_12_0_0_1.resultIdx? (ix3 e i j) idx = some (ix3 q i' j') ↔ (N e = q.val ∧ i = i') ∧ j = j' := by
  have h1 := hN e
  have e0 : scatter_S9216x3x4_S1179648x1_S1179648x3x4_12_0_0_1.start (ix3 e i j) idx 0 + (scatter_S9216x3x4_S1179648x1_S1179648x3x4_12_0_0_1.window (ix3 e i j) 0 : ℤ) = N e := by
    rw [startT, windowT, hi, toInt_ofNat _ (by omega)]; omega
  have e1 : scatter_S9216x3x4_S1179648x1_S1179648x3x4_12_0_0_1.start (ix3 e i j) idx 1 + (scatter_S9216x3x4_S1179648x1_S1179648x3x4_12_0_0_1.window (ix3 e i j) 1 : ℤ) = i.val := by
    rw [startT1, windowT1]; omega
  have e2 : scatter_S9216x3x4_S1179648x1_S1179648x3x4_12_0_0_1.start (ix3 e i j) idx 2 + (scatter_S9216x3x4_S1179648x1_S1179648x3x4_12_0_0_1.window (ix3 e i j) 2 : ℤ) = j.val := by
    rw [startT2, windowT2]; omega
  rw [resultIdx?_eq_some]
  constructor
  · intro h
    have h0 := (e0.symm.trans (h 0) : (N e : ℤ) = (q.val : ℤ))
    have h1 := (e1.symm.trans (h 1) : (i.val : ℤ) = (i'.val : ℤ))
    have h2 := (e2.symm.trans (h 2) : (j.val : ℤ) = (j'.val : ℤ))
    exact ⟨⟨by omega, Fin.ext (by omega)⟩, Fin.ext (by omega)⟩
  · rintro ⟨⟨h, rfl⟩, rfl⟩ a
    match a with
    | ⟨0, _⟩ => exact e0.trans (by rw [h]; rfl)
    | ⟨1, _⟩ => exact e1
    | ⟨2, _⟩ => exact e2

/-- A scatter onto zeros, over the reals. -/
theorem sumT (x : FVec Ideal S9216x3x4 .f32) (idx : IVec S1179648x1 32) (u : FVec Ideal S1179648x3x4 .f32)
    (N : Fin 1179648 → ℕ) (hN : ∀ e, N e < 9216) (hi : ∀ e, idx (ix2 e 0) = BitVec.ofNat 32 (N e))
    (U : Fin 1179648 → ℝ) (q : Fin 9216) (i : Fin 3) (j : Fin 4) (hx : x (ix3 q i j) = 0)
    (hU : ∀ e, u (ix3 e i j) = ((U e : ℝ) : EReal)) :
    Host.scatterAdd (F := Ideal) scatter_S9216x3x4_S1179648x1_S1179648x3x4_12_0_0_1 x idx u (ix3 q i j)
      = ((∑ e, (if N e = q.val then U e else 0) : ℝ) : EReal) := by
  show x (ix3 q i j) + ∑ k ∈ Finset.univ.filter (fun k => scatter_S9216x3x4_S1179648x1_S1179648x3x4_12_0_0_1.resultIdx? k idx = some (ix3 q i j)), u k = _
  rw [hx, zero_add, Finset.sum_filter, sum_idx3, coe_sum]
  refine Finset.sum_congr rfl fun e _ => ?_
  rw [Finset.sum_eq_single i, Finset.sum_eq_single j]
  · by_cases h : N e = q.val
    · rw [if_pos h, if_pos ((goesT idx N hN hi e i j q i j).mpr ⟨⟨h, rfl⟩, rfl⟩), hU]
    · rw [if_neg h, if_neg (fun hh => h ((goesT idx N hN hi e i j q i j).mp hh).1.1)]; rfl
  · intro j' _ hj
    exact if_neg (fun hh => hj ((goesT idx N hN hi e i j' q i j).mp hh).2)
  · intro h; exact absurd (Finset.mem_univ _) h
  · intro i' _ hi'
    refine Finset.sum_eq_zero fun j' _ => ?_
    exact if_neg (fun hh => hi' ((goesT idx N hN hi e i' j' q i j).mp hh).1.2)
  · intro h; exact absurd (Finset.mem_univ _) h

/-! ## The sums of a cell -/

variable (x1 : Vec Ideal S1x1x384x384 .f32) (G : Fin 384 → Fin 384 → ℝ)
  (hG : ∀ y x, x1 (ix4 0 0 y x) = ((G y x : ℝ) : EReal)) (hG0 : ∀ y x, 0 ≤ G y x)
  (x0 x2 x3 : Vec Ideal S1x3x384x384 .f32) (A : Fin 4 → Fin 384 → Fin 384 → ℝ) (O : Fin 3 → Fin 384 → Fin 384 → ℝ) (w : ℝ)
  (hA : ∀ (k : Fin 3) y x, x0 (ix4 0 k y x) = ((A k.castSucc y x : ℝ) : EReal)) (hA3 : ∀ y x, A 3 y x = 1)
  (hO : ∀ (k : Fin 3) y x, x2 (ix4 0 k y x) = ((O k y x : ℝ) : EReal)) (hW : ∀ p, x3 p = ((w : ℝ) : EReal))

include hG hG0

theorem f197 (e : Fin 1179648) :
    val_main_v190 (F := Ideal) x1 (ix2 e 0) = BitVec.ofNat 32 (cellN (rc e) (ry (ru e)) (rx (ru e)) (gn G (ru e))) := by
  unfold val_main_v190 val_main_v189 val_main_v188 val_main_v187 val_main_v186 val_main_v185 val_main_c_40 val_main_c_41
  pointwise
  rw [f188 x1 G hG hG0]
  exact wrap_of_lt _ _ (by have := cellN_lt (rc e) (ry (ru e)) (rx (ru e)) (gn G (ru e)); rw [BitVec.toNat_ofNat]; omega)

theorem f205 (e : Fin 1179648) :
    val_main_v198 (F := Ideal) x1 (ix2 e 0) = BitVec.ofNat 32 (cellN (rc e) (ry (ru e)) (rx (ru e)) (gn G (ru e))) := by
  unfold val_main_v198 val_main_v197 val_main_v196 val_main_v195 val_main_v194 val_main_v193 val_main_c_43 val_main_c_44
  pointwise
  rw [f188 x1 G hG hG0]
  exact wrap_of_lt _ _ (by have := cellN_lt (rc e) (ry (ru e)) (rx (ru e)) (gn G (ru e)); rw [BitVec.toNat_ofNat]; omega)

include hA hA3 hW in
theorem S_apply (z : Fin 16) (g h : Fin 24) (i j : Fin 4) :
    val_main_v191 (F := Ideal) x0 x1 x3 (ix3 (cellOf z g h) i j) = ((gS A G w i j z g h : ℝ) : EReal) := by
  unfold val_main_v191
  rw [sumS _ _ _ (fun e => cellN (rc e) (ry (ru e)) (rx (ru e)) (gn G (ru e))) (fun e => cellN_lt _ _ _ _) (f197 x1 G hG hG0)
    _ (cellOf z g h) i j (by unfold val_main_v184 val_main_cst_39; pointwise) (fun e => f189 x1 G hG hG0 x0 x3 A w hA hA3 hW e i j)]
  refine congrArg (fun t : ℝ => (t : EReal)) ?_
  have key := sum_upd (fun y x c => if cellN c y x (G y x) = (cellOf z g h).val then A i y x * A j y x * (wN c y x (G y x) * w) else 0)
  beta_reduce at key ⊢
  unfold gn
  rw [key]
  simp only [corners]
  rw [Finset.sum_comm]
  unfold gS
  refine Finset.sum_congr rfl fun x _ => ?_
  rw [Finset.sum_mul]
  refine Finset.sum_congr rfl fun y _ => ?_
  ring

include hA hA3 hW hO in
theorem T_apply (z : Fin 16) (g h : Fin 24) (k : Fin 3) (j : Fin 4) :
    val_main_v199 (F := Ideal) x0 x1 x2 x3 (ix3 (cellOf z g h) k j) = ((gT A O G w k j z g h : ℝ) : EReal) := by
  unfold val_main_v199
  rw [sumT _ _ _ (fun e => cellN (rc e) (ry (ru e)) (rx (ru e)) (gn G (ru e))) (fun e => cellN_lt _ _ _ _) (f205 x1 G hG hG0)
    _ (cellOf z g h) k j (by unfold val_main_v192 val_main_cst_42; pointwise) (fun e => f190 x1 G hG hG0 x0 x2 x3 A O w hA hA3 hO hW e k j)]
  refine congrArg (fun t : ℝ => (t : EReal)) ?_
  have key := sum_upd (fun y x c => if cellN c y x (G y x) = (cellOf z g h).val then O k y x * A j y x * (wN c y x (G y x) * w) else 0)
  beta_reduce at key ⊢
  unfold gn
  rw [key]
  simp only [corners]
  rw [Finset.sum_comm]
  unfold gT
  refine Finset.sum_congr rfl fun x _ => ?_
  rw [Finset.sum_mul]
  refine Finset.sum_congr rfl fun y _ => ?_
  ring

end Cert.BguRef

end
-- ==== Proof.RefSet.lean ====
/- Writing the first three columns of an array: the read of each element. -/
module

public import proofs.«01_k».proof.Proof.Gen.ReferenceIdeal.Read
public import Idealize.ShloMosaic.Lib.Pointwise
public import Idealize.ShloMosaic.Lib.Routing.OpsPair
public import Idealize.ShloMosaic.Lib.Routing.OpsSet

@[expose] public section

set_option maxRecDepth 16384

noncomputable section

namespace Cert.BguRefSolve

open Idealize.ShloMosaic Idealize.ShloMosaic.TcCoe Idealize.ShloMosaic.Tactic Idealize.ShloMosaic.Routing
open Cert.ReferenceIdeal Cert.ReferenceIdeal.Read

/-- The written columns start at the first. -/
theorem startC (idx : IVec S1 32) (hi : idx (ix1 0) = 0#32) (l : S1x9216x3x3.Idx) (a : Fin 4) :
    scatter_S1x9216x3x4_S1_S1x9216x3x3_0123_n_3_0.start l idx a = 0 := by
  unfold ScatterDims.start
  by_cases h : a = 3
  · subst h
    rw [dif_pos (by decide)]
    refine Eq.trans (congrArg BitVec.toInt (Eq.trans (congrArg idx ?_) hi)) (by decide)
    funext b
    fin_cases b
    exact Subsingleton.elim (α := Fin 1) _ _
  · exact dif_neg (by revert a; decide)

/-- An update's place along each axis is its own coordinate. -/
theorem windowC (q : Fin 9216) (k j : Fin 3) :
    (scatter_S1x9216x3x4_S1_S1x9216x3x3_0123_n_3_0.window (ix4 0 q k j) 0 = 0
      ∧ scatter_S1x9216x3x4_S1_S1x9216x3x3_0123_n_3_0.window (ix4 0 q k j) 1 = q.val)
    ∧ (scatter_S1x9216x3x4_S1_S1x9216x3x3_0123_n_3_0.window (ix4 0 q k j) 2 = k.val
      ∧ scatter_S1x9216x3x4_S1_S1x9216x3x3_0123_n_3_0.window (ix4 0 q k j) 3 = j.val) := by
  unfold ScatterDims.window
  refine ⟨⟨?_, ?_⟩, ?_, ?_⟩ <;> · rw [dif_pos (by decide)]; rfl

/-- Where an update goes. -/
theorem goesC (idx : IVec S1 32) (hi : idx (ix1 0) = 0#32) (q q' : Fin 9216) (k k' j : Fin 3) (j' : Fin 4) :
    scatter_S1x9216x3x4_S1_S1x9216x3x3_0123_n_3_0.resultIdx? (ix4 0 q k j) idx = some (ix4 0 q' k' j')
      ↔ (q = q' ∧ k = k') ∧ j.val = j'.val := by
  obtain ⟨⟨w0, w1⟩, w2, w3⟩ := windowC q k j
  have e0 : scatter_S1x9216x3x4_S1_S1x9216x3x3_0123_n_3_0.start (ix4 0 q k j) idx 0
      + (scatter_S1x9216x3x4_S1_S1x9216x3x3_0123_n_3_0.window (ix4 0 q k j) 0 : ℤ) = 0 := by rw [startC idx hi, w0]; omega
  have e1 : scatter_S1x9216x3x4_S1_S1x9216x3x3_0123_n_3_0.start (ix4 0 q k j) idx 1
      + (scatter_S1x9216x3x4_S1_S1x9216x3x3_0123_n_3_0.window (ix4 0 q k j) 1 : ℤ) = q.val := by rw [startC idx hi, w1]; omega
  have e2 : scatter_S1x9216x3x4_S1_S1x9216x3x3_0123_n_3_0.start (ix4 0 q k j) idx 2
      + (scatter_S1x9216x3x4_S1_S1x9216x3x3_0123_n_3_0.window (ix4 0 q k j) 2 : ℤ) = k.val := by rw [startC idx hi, w2]; omega
  have e3 : scatter_S1x9216x3x4_S1_S1x9216x3x3_0123_n_3_0.start (ix4 0 q k j) idx 3
      + (scatter_S1x9216x3x4_S1_S1x9216x3x3_0123_n_3_0.window (ix4 0 q k j) 3 : ℤ) = j.val := by rw [startC idx hi, w3]; omega
  rw [resultIdx?_eq_some]
  constructor
  · intro h
    have h1 := (e1.symm.trans (h 1) : (q.val : ℤ) = (q'.val : ℤ))
    have h2 := (e2.symm.trans (h 2) : (k.val : ℤ) = (k'.val : ℤ))
    have h3 := (e3.symm.trans (h 3) : (j.val : ℤ) = (j'.val : ℤ))
    exact ⟨⟨Fin.ext (by omega), Fin.ext (by omega)⟩, by omega⟩
  · rintro ⟨⟨rfl, rfl⟩, h⟩ a
    match a with
    | ⟨0, _⟩ => exact e0
    | ⟨1, _⟩ => exact e1
    | ⟨2, _⟩ => exact e2
    | ⟨3, _⟩ => exact e3.trans (by rw [h]; rfl)

theorem idx4 (l : S1x9216x3x3.Idx) : ∃ (q : Fin 9216) (k j : Fin 3), l = ix4 0 q k j :=
  ⟨l 1, l 2, l 3, by
    funext a
    match a with
    | ⟨0, _⟩ => exact Subsingleton.elim (α := Fin 1) _ _
    | ⟨1, _⟩ => rfl
    | ⟨2, _⟩ => rfl
    | ⟨3, _⟩ => rfl⟩

/-- A written column holds the update; the last keeps the operand. -/
theorem set_read (x : FVec Ideal S1x9216x3x4 .f32) (idx : IVec S1 32) (hi : idx (ix1 0) = 0#32)
    (u : FVec Ideal S1x9216x3x3 .f32) (q : Fin 9216) (k : Fin 3) (j : Fin 4) :
    Host.scatter scatter_S1x9216x3x4_S1_S1x9216x3x3_0123_n_3_0 (fun _ b => b) x idx u (ix4 0 q k j)
      = if h : j.val < 3 then u (ix4 0 q k ⟨j.val, h⟩) else x (ix4 0 q k j) := by
  by_cases h : j.val < 3
  · rw [dif_pos h]
    refine scatter_set_hit _ x idx u _ _ (fun l hl => ?_) (ix4 0 q k ⟨j.val, h⟩) ((goesC idx hi _ _ _ _ _ _).mpr ⟨⟨rfl, rfl⟩, rfl⟩)
    obtain ⟨q', k', j', rfl⟩ := idx4 l
    obtain ⟨⟨rfl, rfl⟩, h3⟩ := (goesC idx hi _ _ _ _ _ _).mp hl
    rw [show j' = ⟨j.val, h⟩ from Fin.ext h3]
  · rw [dif_neg h]
    refine scatter_set_miss _ x idx u _ (fun l hl => ?_)
    obtain ⟨q', k', j', rfl⟩ := idx4 l
    obtain ⟨_, h3⟩ := (goesC idx hi _ _ _ _ _ _).mp hl
    exact h (by have := j'.isLt; omega)

end Cert.BguRefSolve

end
-- ==== Proof.RefSolve.lean ====
/- The reference's fit at a cell, over the reals: the regularised system beside its right-hand sides, and the four elimination
   steps on it. -/
module

public import proofs.«01_k».proof.Proof.RefGrid
public import proofs.«01_k».proof.Proof.SolveDefs
public import proofs.«01_k».proof.Proof.RefSplat
public import proofs.«01_k».proof.Proof.RefSet

@[expose] public section

set_option maxRecDepth 16384

noncomputable section

namespace Cert.BguRefSolve

open Idealize.ShloMosaic Idealize.ShloMosaic.TcCoe Idealize.ShloMosaic.Tactic
open Cert.ReferenceIdeal Cert.ReferenceIdeal.Read
open Cert.BguHat
open Cert.BguAlg
open Cert.BguSplat (coe_sum)

/-- The denominator of the global gain, and the gain. -/
def gdenQ (σ : Fin 9216 → Fin 22 → ℝ) (k : Fin 3) : ℝ := (∑ q, σ q (gi k)) + lam * ((∑ q, σ q 9) + 1)
def gamQ (σ : Fin 9216 → Fin 22 → ℝ) (k : Fin 3) : ℝ := (∑ q, σ q (ti k)) / gdenQ σ k

theorem addone (x : ℝ) : (x : EReal) + 1 = ((x + 1 : ℝ) : EReal) := by rw [EReal.coe_add, EReal.coe_one]

theorem eye_word (m n : ℕ) (hm : m < 2 ^ 31) (hn : n < 2 ^ 31) :
    (FloatOps.uitofp FTy.f32 (IntOp.cmpi .eq (IntOp.addi (BitVec.ofNat 32 m) 0#32) (BitVec.ofNat 32 n)) : Ideal FTy.f32)
      = (((if m = n then 1 else 0 : ℝ)) : EReal) := by
  have e : IntOp.addi (BitVec.ofNat 32 m) 0#32 = BitVec.ofNat 32 m := addi_ofNat m 0
  rw [e]
  have h := select_eq_ofNat m n hm hn (1 : ℕ) 0
  have : IntOp.cmpi .eq (BitVec.ofNat 32 m) (BitVec.ofNat 32 n) = BitVec.ofBool (decide (m = n)) := by
    unfold IntOp.cmpi
    by_cases h : m = n
    · subst h; simp
    · have : ¬ BitVec.ofNat 32 m = BitVec.ofNat 32 n := fun e => h ((ofNat_eq_iff m n hm hn).mp e)
      have e2 : (BitVec.ofNat 32 m == BitVec.ofNat 32 n) = false := by
        rw [beq_eq_false_iff_ne]; exact this
      simp only [h, decide_false]
      show BitVec.ofBool (BitVec.ofNat 32 m == BitVec.ofNat 32 n) = _
      rw [e2]
  rw [this]
  by_cases h : m = n
  · rw [if_pos h, decide_eq_true h]
    show (((1 : ℕ) : ℝ) : EReal) = _
    norm_num
  · rw [if_neg h, decide_eq_false h]
    show (((0 : ℕ) : ℝ) : EReal) = _
    norm_num

theorem eye4 (i j : Fin 4) : val_main_v207 (F := Ideal) (ix2 i j) = (((if i = j then 1 else 0 : ℝ)) : EReal) := by
  unfold val_main_v207 val_main_v206 val_main_v205 val_main_v204 val_main_v203 val_main_v202 val_main_c_45
  pointwise
  refine (eye_word _ _ (by have := i.isLt; omega) (by have := j.isLt; omega)).trans ?_
  rw [if_congr (Fin.ext_iff.symm) rfl rfl]

theorem eye3 (i j : Fin 3) : val_main_v254 (F := Ideal) (ix2 i j) = (((if i.val = j.val then 1 else 0 : ℝ)) : EReal) := by
  unfold val_main_v254 val_main_v253 val_main_v252 val_main_v251 val_main_v250 val_main_v249 val_main_c_54
  pointwise
  exact eye_word _ _ (by have := i.isLt; omega) (by have := j.isLt; omega)

variable (x1 : Vec Ideal S1x1x384x384 .f32) (x0 x2 x3 : Vec Ideal S1x3x384x384 .f32) (σ : Fin 9216 → Fin 22 → ℝ)

/-- The reference's scatters hold real sums whose denominators and pivots do not vanish. -/
structure Ok : Prop where
  hS : ∀ q i j, val_main_v191 (F := Ideal) x0 x1 x3 (ix3 q i j) = ((sm (σ q) i j : ℝ) : EReal)
  hT : ∀ q k j, val_main_v199 (F := Ideal) x0 x1 x2 x3 (ix3 q k j) = ((tm (σ q) k j : ℝ) : EReal)
  hd : ∀ q k, σ q (gi k) + wl (σ q) ≠ 0
  hg : ∀ k, gdenQ σ k ≠ 0
  p0 : ∀ q, aug (σ q) (gamQ σ) 0 (pc 0) ≠ 0
  p1 : ∀ q, gj1 (aug (σ q) (gamQ σ)) 1 (pc 1) ≠ 0
  p2 : ∀ q, gj2 (aug (σ q) (gamQ σ)) 2 (pc 2) ≠ 0
  p3 : ∀ q, gj3 (aug (σ q) (gamQ σ)) 3 (pc 3) ≠ 0

variable (H : Ok x1 x0 x2 x3 σ)
include H

theorem v207 (q : Fin 9216) (i j : Fin 4) : val_main_v200 (F := Ideal) x0 x1 x3 (ix4 0 q i j) = ((sm (σ q) i j : ℝ) : EReal) := by
  unfold val_main_v200
  have e0 := H.hS
  generalize val_main_v191 (F := Ideal) x0 x1 x3 = t0 at e0 ⊢
  change FVec Ideal S9216x4x4 .f32 at t0
  pointwise
  exact e0 q i j

theorem v208 (q : Fin 9216) (k : Fin 3) (j : Fin 4) : val_main_v201 (F := Ideal) x0 x1 x2 x3 (ix4 0 q k j) = ((tm (σ q) k j : ℝ) : EReal) := by
  unfold val_main_v201
  have e0 := H.hT
  generalize val_main_v199 (F := Ideal) x0 x1 x2 x3 = t0 at e0 ⊢
  change FVec Ideal S9216x3x4 .f32 at t0
  pointwise
  exact e0 q k j

theorem v217 (q : Fin 9216) : val_main_v210 (F := Ideal) x0 x1 x3 (ix2 0 q) = ((σ q 9 : ℝ) : EReal) := by
  unfold val_main_v210 val_main_v209
  have e0 := v207 x1 x0 x2 x3 σ H
  generalize val_main_v200 (F := Ideal) x0 x1 x3 = t0 at e0 ⊢
  change FVec Ideal S1x9216x4x4 .f32 at t0
  pointwise
  exact e0 q 3 3

theorem v221 (q : Fin 9216) : val_main_v214 (F := Ideal) x0 x1 x3 (ix2 0 q) = ((wl (σ q) : ℝ) : EReal) := by
  unfold val_main_v214 val_main_v213 val_main_v212 val_main_v211 val_main_cst_46 val_main_cst_47
  have e0 := v217 x1 x0 x2 x3 σ H
  generalize val_main_v210 (F := Ideal) x0 x1 x3 = t0 at e0 ⊢
  change FVec Ideal S1x9216 .f32 at t0
  pointwise
  rw [e0, addone, lit_lam, ← EReal.coe_mul]
  rfl

theorem v226 (q : Fin 9216) (i j : Fin 4) : val_main_v219 (F := Ideal) x0 x1 x3 (ix4 0 q i j) = ((mat (σ q) i j : ℝ) : EReal) := by
  unfold val_main_v219 val_main_v218 val_main_v217 val_main_v216 val_main_v215 val_main_v208
  have e0 := v207 x1 x0 x2 x3 σ H
  generalize val_main_v200 (F := Ideal) x0 x1 x3 = t0 at e0 ⊢
  change FVec Ideal S1x9216x4x4 .f32 at t0
  have e1 := v221 x1 x0 x2 x3 σ H
  generalize val_main_v214 (F := Ideal) x0 x1 x3 = t1 at e1 ⊢
  change FVec Ideal S1x9216 .f32 at t1
  have e2 := eye4
  generalize val_main_v207 (F := Ideal) = t2 at e2 ⊢
  change FVec Ideal S4x4 .f32 at t2
  pointwise
  rw [e0, e1, e2, ← EReal.coe_mul, ← EReal.coe_add]
  congr 1
  fin_cases i <;> fin_cases j <;> simp [mat, sm]

theorem v229 : val_main_v222 (F := Ideal) x0 x1 x3 (ix1 0) = ((∑ q, σ q 9 : ℝ) : EReal) := by
  rw [val_main_v222_apply, coe_sum]
  have e0 := v217 x1 x0 x2 x3 σ H
  generalize val_main_v210 (F := Ideal) x0 x1 x3 = t0 at e0 ⊢
  have hz : ∀ i, val_main_cst_50 (F := Ideal) i = (0 : EReal) := fun i => by
    unfold val_main_cst_50
    pointwise
  rw [hz, zero_add]
  refine Finset.sum_congr rfl fun q _ => ?_
  refine Eq.trans (congrArg t0 ?_) (e0 q)
  funext a
  fin_cases a <;> rfl

theorem v227 (i j : Fin 4) : val_main_v220 (F := Ideal) x0 x1 x3 (ix3 0 i j) = ((∑ q, sm (σ q) i j : ℝ) : EReal) := by
  rw [val_main_v220_apply, coe_sum]
  have e0 := v207 x1 x0 x2 x3 σ H
  generalize val_main_v200 (F := Ideal) x0 x1 x3 = t0 at e0 ⊢
  have hz : ∀ i, val_main_cst_48 (F := Ideal) i = (0 : EReal) := fun i => by
    unfold val_main_cst_48
    pointwise
  rw [hz, zero_add]
  refine Finset.sum_congr rfl fun q _ => ?_
  refine Eq.trans (congrArg t0 ?_) (e0 q i j)
  funext a
  fin_cases a <;> rfl

theorem v228 (k : Fin 3) (j : Fin 4) : val_main_v221 (F := Ideal) x0 x1 x2 x3 (ix3 0 k j) = ((∑ q, tm (σ q) k j : ℝ) : EReal) := by
  rw [val_main_v221_apply, coe_sum]
  have e0 := v208 x1 x0 x2 x3 σ H
  generalize val_main_v201 (F := Ideal) x0 x1 x2 x3 = t0 at e0 ⊢
  have hz : ∀ i, val_main_cst_49 (F := Ideal) i = (0 : EReal) := fun i => by
    unfold val_main_cst_49
    pointwise
  rw [hz, zero_add]
  refine Finset.sum_congr rfl fun q _ => ?_
  refine Eq.trans (congrArg t0 ?_) (e0 q k j)
  funext a
  fin_cases a <;> rfl

omit H in
theorem sm3 (q : Fin 9216) (k : Fin 3) : sm (σ q) k.castSucc 3 = σ q (gi k) := by
  fin_cases k <;> rfl

omit H in
theorem tm3 (q : Fin 9216) (k : Fin 3) : tm (σ q) k 3 = σ q (ti k) := by
  fin_cases k <;> rfl

theorem v241 (k : Fin 3) : val_main_v234 (F := Ideal) x0 x1 x2 x3 (ix2 0 k) = ((gamQ σ k : ℝ) : EReal) := by
  unfold val_main_v234 val_main_v233 val_main_v232 val_main_v231 val_main_v230 val_main_v229 val_main_v228 val_main_v227 val_main_v226 val_main_v225 val_main_v224 val_main_v223 val_main_cst_51 val_main_cst_52
  have e0 := v227 x1 x0 x2 x3 σ H
  generalize val_main_v220 (F := Ideal) x0 x1 x3 = t0 at e0 ⊢
  change FVec Ideal S1x4x4 .f32 at t0
  have e1 := v228 x1 x0 x2 x3 σ H
  generalize val_main_v221 (F := Ideal) x0 x1 x2 x3 = t1 at e1 ⊢
  change FVec Ideal S1x3x4 .f32 at t1
  have e2 := v229 x1 x0 x2 x3 σ H
  generalize val_main_v222 (F := Ideal) x0 x1 x3 = t2 at e2 ⊢
  change FVec Ideal S1 .f32 at t2
  pointwise
  have e1' := e1 k 3
  have e0' := e0 k.castSucc 3
  simp only [sm3, tm3] at e0' e1'
  refine (congrArg₂ (fun a b => Ideal.div a (b + _)) e1' e0').trans ?_
  beta_reduce
  rw [e2, addone, lit_lam, ← EReal.coe_mul, ← EReal.coe_add]
  exact div_real _ _ (H.hg k)

theorem v251 (q : Fin 9216) (k : Fin 3) : val_main_v244 (F := Ideal) x0 x1 x2 x3 (ix3 0 q k) = ((σ q (ti k) / (σ q (gi k) + wl (σ q)) : ℝ) : EReal) := by
  unfold val_main_v244 val_main_v243 val_main_v242 val_main_v241 val_main_v240 val_main_v239 val_main_v238 val_main_v237
  have e0 := v207 x1 x0 x2 x3 σ H
  generalize val_main_v200 (F := Ideal) x0 x1 x3 = t0 at e0 ⊢
  change FVec Ideal S1x9216x4x4 .f32 at t0
  have e1 := v208 x1 x0 x2 x3 σ H
  generalize val_main_v201 (F := Ideal) x0 x1 x2 x3 = t1 at e1 ⊢
  change FVec Ideal S1x9216x3x4 .f32 at t1
  have e2 := v221 x1 x0 x2 x3 σ H
  generalize val_main_v214 (F := Ideal) x0 x1 x3 = t2 at e2 ⊢
  change FVec Ideal S1x9216 .f32 at t2
  pointwise
  have e1' := e1 q k 3
  have e0' := e0 q k.castSucc 3
  rw [sm3] at e0'
  rw [tm3] at e1'
  refine (congrArg₂ (fun a b => Ideal.div a (b + _)) e1' e0').trans ?_
  beta_reduce
  rw [e2, ← EReal.coe_add]
  exact div_real _ _ (H.hd q k)

theorem v255 (q : Fin 9216) (k : Fin 3) : val_main_v248 (F := Ideal) x0 x1 x2 x3 (ix3 0 q k) = ((mx (σ q) (gamQ σ) k : ℝ) : EReal) := by
  unfold val_main_v248 val_main_call5_v0 val_main_v247 val_main_v246 val_main_v245 val_main_v236 val_main_v235 val_main_cst_53
  have e0 := v217 x1 x0 x2 x3 σ H
  generalize val_main_v210 (F := Ideal) x0 x1 x3 = t0 at e0 ⊢
  change FVec Ideal S1x9216 .f32 at t0
  have e1 := v251 x1 x0 x2 x3 σ H
  generalize val_main_v244 (F := Ideal) x0 x1 x2 x3 = t1 at e1 ⊢
  change FVec Ideal S1x9216x3 .f32 at t1
  have e2 := v241 x1 x0 x2 x3 σ H
  generalize val_main_v234 (F := Ideal) x0 x1 x2 x3 = t2 at e2 ⊢
  change FVec Ideal S1x3 .f32 at t2
  pointwise
  rw [e0, e1, e2]
  unfold mx
  by_cases h : σ q 9 = 0
  · rw [if_pos h, if_pos (by rw [h]; rfl)]
  · rw [if_neg h, if_neg (fun e => h (EReal.coe_eq_zero.mp e))]

/-- The gains on the diagonal. -/
theorem v259 (q : Fin 9216) (k : Fin 3) (j : Fin 3) : val_main_v260 (F := Ideal) x0 x1 x2 x3 (ix4 0 q k j)
    = ((mx (σ q) (gamQ σ) k * (if k.val = j.val then 1 else 0) : ℝ) : EReal) := by
  unfold val_main_v260 val_main_v259 val_main_v258 val_main_v257 val_main_v256
  have e2 := v255 x1 x0 x2 x3 σ H
  generalize val_main_v248 (F := Ideal) x0 x1 x2 x3 = t2 at e2 ⊢
  change FVec Ideal S1x9216x3 .f32 at t2
  have e3 := eye3
  generalize val_main_v254 (F := Ideal) = t3 at e3 ⊢
  change FVec Ideal S3x3 .f32 at t3
  pointwise
  rw [e2, e3, ← EReal.coe_mul]

/-- The default solution: the gains on the diagonal and a zero last column. -/
theorem v262 (q : Fin 9216) (k : Fin 3) (j : Fin 4) : val_main_v262 (F := Ideal) x0 x1 x2 x3 (ix4 0 q k j)
    = ((mx (σ q) (gamQ σ) k * (if k.val = j.val then 1 else 0) : ℝ) : EReal) := by
  unfold val_main_v262
  rw [set_read _ _ (by unfold val_main_v261 val_main_c_56; pointwise)]
  by_cases h : j.val < 3
  · rw [dif_pos h]
    exact v259 x1 x0 x2 x3 σ H q k ⟨j.val, h⟩
  · rw [dif_neg h, if_neg (by have := k.isLt; omega), mul_zero]
    unfold val_main_v255 val_main_cst_55
    pointwise
    simp [Ideal.ofBits, Ideal.ieee]

theorem v270 (q : Fin 9216) (k : Fin 3) (j : Fin 4) : val_main_v266 (F := Ideal) x0 x1 x2 x3 (ix4 0 q k j) = ((rhs (σ q) (gamQ σ) k j : ℝ) : EReal) := by
  unfold val_main_v266 val_main_v265 val_main_v264 val_main_v263
  have e0 := v208 x1 x0 x2 x3 σ H
  generalize val_main_v201 (F := Ideal) x0 x1 x2 x3 = t0 at e0 ⊢
  change FVec Ideal S1x9216x3x4 .f32 at t0
  have e1 := v221 x1 x0 x2 x3 σ H
  generalize val_main_v214 (F := Ideal) x0 x1 x3 = t1 at e1 ⊢
  change FVec Ideal S1x9216 .f32 at t1
  have e2 := v262 x1 x0 x2 x3 σ H
  generalize val_main_v262 (F := Ideal) x0 x1 x2 x3 = t2 at e2 ⊢
  change FVec Ideal S1x9216x3x4 .f32 at t2
  pointwise
  rw [e0, e1, e2, ← EReal.coe_mul, ← EReal.coe_add]
  congr 1
  fin_cases k <;> fin_cases j <;> simp [rhs, tm]

theorem v273 (q : Fin 9216) (r : Fin 4) (c : Fin 7) :
    val_main_v269 (F := Ideal) x0 x1 x2 x3 (ix4 0 q r c) = ((aug (σ q) (gamQ σ) r c : ℝ) : EReal) := by
  unfold val_main_v269 val_main_v267 val_main_v268
  have e0 := v226 x1 x0 x2 x3 σ H
  generalize val_main_v219 (F := Ideal) x0 x1 x3 = t0 at e0 ⊢
  change FVec Ideal S1x9216x4x4 .f32 at t0
  have e1 := v270 x1 x0 x2 x3 σ H
  generalize val_main_v266 (F := Ideal) x0 x1 x2 x3 = t1 at e1 ⊢
  change FVec Ideal S1x9216x3x4 .f32 at t1
  match c with
  | ⟨0, _⟩ =>
    refine Eq.trans (b := t0 (ix4 0 q 0 r)) ?_ (e0 q 0 r)
    show _ = _
    pointwise
  | ⟨1, _⟩ =>
    refine Eq.trans (b := t0 (ix4 0 q 1 r)) ?_ (e0 q 1 r)
    show _ = _
    pointwise
  | ⟨2, _⟩ =>
    refine Eq.trans (b := t0 (ix4 0 q 2 r)) ?_ (e0 q 2 r)
    show _ = _
    pointwise
  | ⟨3, _⟩ =>
    refine Eq.trans (b := t0 (ix4 0 q 3 r)) ?_ (e0 q 3 r)
    show _ = _
    pointwise
  | ⟨4, _⟩ =>
    refine Eq.trans (b := t1 (ix4 0 q 0 r)) ?_ (e1 q 0 r)
    show _ = _
    pointwise
  | ⟨5, _⟩ =>
    refine Eq.trans (b := t1 (ix4 0 q 1 r)) ?_ (e1 q 1 r)
    show _ = _
    pointwise
  | ⟨6, _⟩ =>
    refine Eq.trans (b := t1 (ix4 0 q 2 r)) ?_ (e1 q 2 r)
    show _ = _
    pointwise

theorem v279 (q : Fin 9216) (c : Fin 7) : val_main_v275 (F := Ideal) x0 x1 x2 x3 (ix4 0 q 0 c) = (((aug (σ q) (gamQ σ)) 0 c / (aug (σ q) (gamQ σ)) 0 (pc 0) : ℝ) : EReal) := by
  unfold val_main_v275 val_main_v274 val_main_v273 val_main_v272
  have e0 := v273 x1 x0 x2 x3 σ H
  generalize val_main_v269 (F := Ideal) x0 x1 x2 x3 = t0 at e0 ⊢
  change FVec Ideal S1x9216x4x7 .f32 at t0
  pointwise
  refine (congrArg₂ (fun a b => Ideal.div a b) (e0 q 0 c) (e0 q 0 (pc 0))).trans ?_
  exact div_real _ _ (H.p0 q)

theorem v287 (q : Fin 9216) (r : Fin 4) (c : Fin 7) : val_main_v283 (F := Ideal) x0 x1 x2 x3 (ix4 0 q r c) = ((gj1 (aug (σ q) (gamQ σ)) r c : ℝ) : EReal) := by
  unfold val_main_v283 val_main_call6_v0 val_main_call6_v1 val_main_v282 val_main_v281 val_main_v280 val_main_v279 val_main_v278 val_main_v277 val_main_v276 val_main_v271 val_main_v270 val_main_c_57
  have e0 := v273 x1 x0 x2 x3 σ H
  generalize val_main_v269 (F := Ideal) x0 x1 x2 x3 = t0 at e0 ⊢
  change FVec Ideal S1x9216x4x7 .f32 at t0
  have e1 := v279 x1 x0 x2 x3 σ H
  generalize val_main_v275 (F := Ideal) x0 x1 x2 x3 = t1 at e1 ⊢
  change FVec Ideal S1x9216x1x7 .f32 at t1
  pointwise
  refine (select_eq_ofNat r.val 0 (by have := r.isLt; omega) (by norm_num) _ _).trans ?_
  have e := e0 q r (pc 0)
  change t0 (ix4 0 q r 0) = _ at e
  rw [e0, e1, e, ← EReal.coe_mul, ← EReal.coe_sub]
  unfold gj1 step
  by_cases h : r = 0
  · have h' : r.val = 0 := congrArg Fin.val h
    rw [if_pos h', if_pos h]
  · have h' : ¬ r.val = 0 := fun e => h (Fin.ext e)
    rw [if_neg h', if_neg h]

theorem v291 (q : Fin 9216) (c : Fin 7) : val_main_v287 (F := Ideal) x0 x1 x2 x3 (ix4 0 q 0 c) = (((gj1 (aug (σ q) (gamQ σ))) 1 c / (gj1 (aug (σ q) (gamQ σ))) 1 (pc 1) : ℝ) : EReal) := by
  unfold val_main_v287 val_main_v286 val_main_v285 val_main_v284
  have e0 := v287 x1 x0 x2 x3 σ H
  generalize val_main_v283 (F := Ideal) x0 x1 x2 x3 = t0 at e0 ⊢
  change FVec Ideal S1x9216x4x7 .f32 at t0
  pointwise
  refine (congrArg₂ (fun a b => Ideal.div a b) (e0 q 1 c) (e0 q 1 (pc 1))).trans ?_
  exact div_real _ _ (H.p1 q)

theorem v299 (q : Fin 9216) (r : Fin 4) (c : Fin 7) : val_main_v295 (F := Ideal) x0 x1 x2 x3 (ix4 0 q r c) = ((gj2 (aug (σ q) (gamQ σ)) r c : ℝ) : EReal) := by
  unfold val_main_v295 val_main_call7_v0 val_main_call7_v1 val_main_v294 val_main_v293 val_main_v292 val_main_v291 val_main_v290 val_main_v289 val_main_v288 val_main_v271 val_main_v270 val_main_c_58
  have e0 := v287 x1 x0 x2 x3 σ H
  generalize val_main_v283 (F := Ideal) x0 x1 x2 x3 = t0 at e0 ⊢
  change FVec Ideal S1x9216x4x7 .f32 at t0
  have e1 := v291 x1 x0 x2 x3 σ H
  generalize val_main_v287 (F := Ideal) x0 x1 x2 x3 = t1 at e1 ⊢
  change FVec Ideal S1x9216x1x7 .f32 at t1
  pointwise
  refine (select_eq_ofNat r.val 1 (by have := r.isLt; omega) (by norm_num) _ _).trans ?_
  have e := e0 q r (pc 1)
  change t0 (ix4 0 q r 1) = _ at e
  rw [e0, e1, e, ← EReal.coe_mul, ← EReal.coe_sub]
  unfold gj2 step
  by_cases h : r = 1
  · have h' : r.val = 1 := congrArg Fin.val h
    rw [if_pos h', if_pos h]
  · have h' : ¬ r.val = 1 := fun e => h (Fin.ext e)
    rw [if_neg h', if_neg h]

theorem v303 (q : Fin 9216) (c : Fin 7) : val_main_v299 (F := Ideal) x0 x1 x2 x3 (ix4 0 q 0 c) = (((gj2 (aug (σ q) (gamQ σ))) 2 c / (gj2 (aug (σ q) (gamQ σ))) 2 (pc 2) : ℝ) : EReal) := by
  unfold val_main_v299 val_main_v298 val_main_v297 val_main_v296
  have e0 := v299 x1 x0 x2 x3 σ H
  generalize val_main_v295 (F := Ideal) x0 x1 x2 x3 = t0 at e0 ⊢
  change FVec Ideal S1x9216x4x7 .f32 at t0
  pointwise
  refine (congrArg₂ (fun a b => Ideal.div a b) (e0 q 2 c) (e0 q 2 (pc 2))).trans ?_
  exact div_real _ _ (H.p2 q)

theorem v311 (q : Fin 9216) (r : Fin 4) (c : Fin 7) : val_main_v307 (F := Ideal) x0 x1 x2 x3 (ix4 0 q r c) = ((gj3 (aug (σ q) (gamQ σ)) r c : ℝ) : EReal) := by
  unfold val_main_v307 val_main_call8_v0 val_main_call8_v1 val_main_v306 val_main_v305 val_main_v304 val_main_v303 val_main_v302 val_main_v301 val_main_v300 val_main_v271 val_main_v270 val_main_c_59
  have e0 := v299 x1 x0 x2 x3 σ H
  generalize val_main_v295 (F := Ideal) x0 x1 x2 x3 = t0 at e0 ⊢
  change FVec Ideal S1x9216x4x7 .f32 at t0
  have e1 := v303 x1 x0 x2 x3 σ H
  generalize val_main_v299 (F := Ideal) x0 x1 x2 x3 = t1 at e1 ⊢
  change FVec Ideal S1x9216x1x7 .f32 at t1
  pointwise
  refine (select_eq_ofNat r.val 2 (by have := r.isLt; omega) (by norm_num) _ _).trans ?_
  have e := e0 q r (pc 2)
  change t0 (ix4 0 q r 2) = _ at e
  rw [e0, e1, e, ← EReal.coe_mul, ← EReal.coe_sub]
  unfold gj3 step
  by_cases h : r = 2
  · have h' : r.val = 2 := congrArg Fin.val h
    rw [if_pos h', if_pos h]
  · have h' : ¬ r.val = 2 := fun e => h (Fin.ext e)
    rw [if_neg h', if_neg h]

theorem v315 (q : Fin 9216) (c : Fin 7) : val_main_v311 (F := Ideal) x0 x1 x2 x3 (ix4 0 q 0 c) = (((gj3 (aug (σ q) (gamQ σ))) 3 c / (gj3 (aug (σ q) (gamQ σ))) 3 (pc 3) : ℝ) : EReal) := by
  unfold val_main_v311 val_main_v310 val_main_v309 val_main_v308
  have e0 := v311 x1 x0 x2 x3 σ H
  generalize val_main_v307 (F := Ideal) x0 x1 x2 x3 = t0 at e0 ⊢
  change FVec Ideal S1x9216x4x7 .f32 at t0
  pointwise
  refine (congrArg₂ (fun a b => Ideal.div a b) (e0 q 3 c) (e0 q 3 (pc 3))).trans ?_
  exact div_real _ _ (H.p3 q)

theorem v323 (q : Fin 9216) (r : Fin 4) (c : Fin 7) : val_main_v319 (F := Ideal) x0 x1 x2 x3 (ix4 0 q r c) = ((gj4 (aug (σ q) (gamQ σ)) r c : ℝ) : EReal) := by
  unfold val_main_v319 val_main_call9_v0 val_main_call9_v1 val_main_v318 val_main_v317 val_main_v316 val_main_v315 val_main_v314 val_main_v313 val_main_v312 val_main_v271 val_main_v270 val_main_c_60
  have e0 := v311 x1 x0 x2 x3 σ H
  generalize val_main_v307 (F := Ideal) x0 x1 x2 x3 = t0 at e0 ⊢
  change FVec Ideal S1x9216x4x7 .f32 at t0
  have e1 := v315 x1 x0 x2 x3 σ H
  generalize val_main_v311 (F := Ideal) x0 x1 x2 x3 = t1 at e1 ⊢
  change FVec Ideal S1x9216x1x7 .f32 at t1
  pointwise
  refine (select_eq_ofNat r.val 3 (by have := r.isLt; omega) (by norm_num) _ _).trans ?_
  have e := e0 q r (pc 3)
  change t0 (ix4 0 q r 3) = _ at e
  rw [e0, e1, e, ← EReal.coe_mul, ← EReal.coe_sub]
  unfold gj4 step
  by_cases h : r = 3
  · have h' : r.val = 3 := congrArg Fin.val h
    rw [if_pos h', if_pos h]
  · have h' : ¬ r.val = 3 := fun e => h (Fin.ext e)
    rw [if_neg h', if_neg h]

/-- The result's place: a cell's flat place, the output channel and the coefficient. -/
def cellAt (i : S1x24x24x16x3x4.Idx) : Fin 9216 := BguRef.cellOf (i 3) (i 1) (i 2)

theorem v326 (i : S1x24x24x16x3x4.Idx) : val_main_v322 (F := Ideal) x0 x1 x2 x3 i
    = ((gj4 (aug (σ (cellAt i)) (gamQ σ)) (i 5) ⟨4 + (i 4).val, by have h : (i 4).val < 3 := (i 4).isLt; omega⟩ : ℝ) : EReal) := by
  have h0 : (i 0).val < 1 := (i 0).isLt
  have h1 : (i 1).val < 24 := (i 1).isLt
  have h2 : (i 2).val < 24 := (i 2).isLt
  have h3 : (i 3).val < 16 := (i 3).isLt
  have h4 : (i 4).val < 3 := (i 4).isLt
  have h5 : (i 5).val < 4 := (i 5).isLt
  unfold val_main_v322
  rw [shapeCast_apply _ _ i (ix4 0 (cellAt i) (i 4) (i 5) : S1x9216x3x4.Idx) ?_]
  · unfold val_main_v321 val_main_v320
    have e0 := v323 x1 x0 x2 x3 σ H
    generalize val_main_v319 (F := Ideal) x0 x1 x2 x3 = t0 at e0 ⊢
    change FVec Ideal S1x9216x4x7 .f32 at t0
    refine Eq.trans ?_ (e0 (cellAt i) (i 5) _)
    pointwise
  · have ea : (S1x9216x3x4.rowMajor (ix4 0 (cellAt i) (i 4) (i 5)) : ℕ)
        = 0 * 110592 + (cellAt i).val * 12 + (i 4).val * 4 + (i 5).val :=
      rowMajor_val4 (d := ![1, 9216, 3, 4]) (ix4 0 (cellAt i) (i 4) (i 5)) 110592 12 4 rfl rfl rfl
    have eb : (S1x24x24x16x3x4.rowMajor i : ℕ) = (i 0).val * 110592 + (i 1).val * 4608 + (i 2).val * 192 + (i 3).val * 12
        + (i 4).val * 4 + (i 5).val :=
      rowMajor_val6 (d := ![1, 24, 24, 16, 3, 4]) i 110592 4608 192 12 4 rfl rfl rfl rfl rfl
    have ec : (cellAt i).val = ((i 1).val * 24 + (i 2).val) * 16 + (i 3).val := rfl
    rw [ea, eb, ec]
    omega

end Cert.BguRefSolve

end
-- ==== Proof.Link.lean ====
/- The grid's sums as one array of cells: nonnegative inputs, guide and weight make every cell's system positive definite;
   the flat cells' totals are the grid's. -/
module

public import proofs.«01_k».proof.Proof.Algebra
public import proofs.«01_k».proof.Proof.SplatReal
public import proofs.«01_k».proof.Proof.SolveReal
public import proofs.«01_k».proof.Proof.RefSolve

@[expose] public section

noncomputable section

namespace Cert.BguMain

open Cert.BguAlg Cert.BguHat Cert.BguSplat
open Cert.BguSolve (pt tot gden gam)
open Cert.BguRef (cellOf)
open Cert.BguRefSolve (gdenQ gamQ)

/-- The 22 sums of every cell. -/
def X (A : Fin 4 → Fin 384 → Fin 384 → ℝ) (O : Fin 3 → Fin 384 → Fin 384 → ℝ) (Gd : Fin 384 → Fin 384 → ℝ) (w : ℝ) :
    Fin 22 → Fin 16 → Fin 24 → Fin 24 → ℝ :=
  Fin.addCases (m := 10) (n := 12) (motive := fun _ => Fin 16 → Fin 24 → Fin 24 → ℝ)
    (fun j => gS A Gd w (pairS j).1 (pairS j).2) (fun j => gT A O Gd w (pairT j).1 (pairT j).2)

/-- The cells of the grid, flat. -/
def cells : Fin 9216 ≃ Fin 16 × Fin 24 × Fin 24 where
  toFun q := (⟨q.val % 16, by omega⟩, ⟨q.val / 16 / 24, by have := q.isLt; omega⟩, ⟨q.val / 16 % 24, by omega⟩)
  invFun p := cellOf p.1 p.2.1 p.2.2
  left_inv q := by
    apply Fin.ext
    simp only [cellOf]
    omega
  right_inv p := by
    obtain ⟨z, g, h⟩ := p
    have := z.isLt
    have := g.isLt
    have := h.isLt
    refine Prod.ext (Fin.ext ?_) (Prod.ext (Fin.ext ?_) (Fin.ext ?_)) <;> simp only [cellOf] <;> omega

/-- The flat cells' sums. -/
def sig (Y : Fin 22 → Fin 16 → Fin 24 → Fin 24 → ℝ) (q : Fin 9216) : Fin 22 → ℝ :=
  pt Y (cells q).1 (cells q).2.1 (cells q).2.2

theorem sig_cellOf (Y : Fin 22 → Fin 16 → Fin 24 → Fin 24 → ℝ) (z : Fin 16) (g h : Fin 24) : sig Y (cellOf z g h) = pt Y z g h := by
  have e : cells (cellOf z g h) = (z, g, h) := cells.right_inv (z, g, h)
  unfold sig
  rw [e]

theorem total (Y : Fin 22 → Fin 16 → Fin 24 → Fin 24 → ℝ) (j : Fin 22) : ∑ q, sig Y q j = tot (Y j) := by
  have e := Equiv.sum_comp cells (fun p : Fin 16 × Fin 24 × Fin 24 => Y j p.1 p.2.1 p.2.2)
  refine Eq.trans ?_ (e.trans ?_)
  · rfl
  · rw [Fintype.sum_prod_type]
    refine Finset.sum_congr rfl fun z _ => ?_
    rw [Fintype.sum_prod_type]

theorem gdenQ_eq (Y : Fin 22 → Fin 16 → Fin 24 → Fin 24 → ℝ) (k : Fin 3) : gdenQ (sig Y) k = gden Y k := by
  unfold gdenQ gden
  rw [total, total]

theorem gamQ_eq (Y : Fin 22 → Fin 16 → Fin 24 → Fin 24 → ℝ) : gamQ (sig Y) = gam Y := by
  funext k
  unfold gamQ gam
  rw [total, gdenQ_eq]

variable (A : Fin 4 → Fin 384 → Fin 384 → ℝ) (O : Fin 3 → Fin 384 → Fin 384 → ℝ) (Gd : Fin 384 → Fin 384 → ℝ) (w : ℝ)

theorem gS_comm (i j : Fin 4) (z : Fin 16) (g h : Fin 24) : gS A Gd w i j z g h = gS A Gd w j i z g h := by
  unfold gS
  refine Finset.sum_congr rfl fun x _ => ?_
  congr 1
  refine Finset.sum_congr rfl fun y _ => ?_
  ring

theorem sm_X (z : Fin 16) (g h : Fin 24) (i j : Fin 4) : sm (pt (X A O Gd w) z g h) i j = gS A Gd w i j z g h := by
  fin_cases i <;> fin_cases j <;> first | rfl | exact gS_comm A Gd w _ _ z g h

theorem tm_X (z : Fin 16) (g h : Fin 24) (k : Fin 3) (j : Fin 4) : tm (pt (X A O Gd w) z g h) k j = gT A O Gd w k j z g h := by
  fin_cases k <;> fin_cases j <;> rfl

variable (hA : ∀ i y x, 0 ≤ A i y x) (hG : ∀ y x, 0 ≤ Gd y x) (hw : 0 ≤ w)
include hA hG hw

theorem gS_nonneg (i j : Fin 4) (z : Fin 16) (g h : Fin 24) : 0 ≤ gS A Gd w i j z g h := by
  unfold gS
  refine Finset.sum_nonneg fun x _ => mul_nonneg (Finset.sum_nonneg fun y _ => ?_) (hs_nonneg _ _)
  have h1 := hs_nonneg g y
  have h2 := hz_nonneg z (Gd y x) (hG y x)
  have h3 := hA i y x
  have h4 := hA j y x
  positivity

/-- Every cell's sums are of the kind the solutions need. -/
theorem good (z : Fin 16) (g h : Fin 24) : Good (pt (X A O Gd w) z g h) where
  h9 := gS_nonneg A Gd w hA hG hw 3 3 z g h
  hk k := by
    fin_cases k
    · exact gS_nonneg A Gd w hA hG hw 0 3 z g h
    · exact gS_nonneg A Gd w hA hG hw 1 3 z g h
    · exact gS_nonneg A Gd w hA hG hw 2 3 z g h
  psd p q r t := by
    have e : ∑ x, (∑ y, hs g y * (w * (A 0 y x * p + A 1 y x * q + A 2 y x * r + A 3 y x * t) ^ 2 * hz z (Gd y x))) * hs h x
        = gS A Gd w 0 0 z g h * p ^ 2 + gS A Gd w 1 1 z g h * q ^ 2 + gS A Gd w 2 2 z g h * r ^ 2 + gS A Gd w 3 3 z g h * t ^ 2
          + 2 * (gS A Gd w 0 1 z g h * p * q + gS A Gd w 0 2 z g h * p * r + gS A Gd w 0 3 z g h * p * t
            + gS A Gd w 1 2 z g h * q * r + gS A Gd w 1 3 z g h * q * t + gS A Gd w 2 3 z g h * r * t) := by
      unfold gS
      simp only [Finset.sum_mul, Finset.mul_sum, ← Finset.sum_add_distrib]
      refine Finset.sum_congr rfl fun x _ => ?_
      refine Finset.sum_congr rfl fun y _ => ?_
      ring
    refine le_of_le_of_eq ?_ (e.trans ?_)
    · refine Finset.sum_nonneg fun x _ => mul_nonneg (Finset.sum_nonneg fun y _ => ?_) (hs_nonneg _ _)
      have h1 := hs_nonneg g y
      have h2 := hz_nonneg z (Gd y x) (hG y x)
      positivity
    · rfl

theorem gden_ne (k : Fin 3) : gden (X A O Gd w) k ≠ 0 := by
  have h1 : 0 ≤ tot (X A O Gd w (gi k)) :=
    Finset.sum_nonneg fun z _ => Finset.sum_nonneg fun g _ => Finset.sum_nonneg fun h _ => (good A O Gd w hA hG hw z g h).hk k
  have h2 : 0 ≤ tot (X A O Gd w 9) :=
    Finset.sum_nonneg fun z _ => Finset.sum_nonneg fun g _ => Finset.sum_nonneg fun h _ => (good A O Gd w hA hG hw z g h).h9
  have := lam_pos
  unfold gden
  positivity

end Cert.BguMain

end
-- ==== Proof.RunValue.lean ====
/- The kernel's run with its result: the frame's launch, whose last state also names the result array; and the two
   regions' arrays as what their bodies leave. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Gen.KernelIdeal.Frame
public import proofs.«01_k».proof.Proof.Splat

@[expose] public section

-- membership in a rectangle of production extents (`View.cover_of_tiled`): the elaborator's structural look
-- recurses once per coordinate of the long axes
set_option maxRecDepth 16384

noncomputable section

namespace Cert.BguRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every run leaves the result array at the last boundary's contents, and the arguments as launched. -/
theorem run : θ_run defs (onTc (τ := τ) (main (F := F))) ⟨m, fun _ => 0, ρ⟩ (fun r => ∀ c : Dev nD,
      r.2.mem ((c.tc : Thread nD τ).loc main_v0) = W4 m ρ c (Proc.devRef .tc main_v0)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

theorem ix0_0 (t : Fin cfg0.N) (a : Fin 4) : win0_0.index t a = 0 :=
  (by decide +kernel : ∀ t : Fin cfg0.N, ∀ a : Fin 4, win0_0.index t a = 0) t a

theorem ix0_1 (t : Fin cfg0.N) (a : Fin 4) : win0_1.index t a = 0 :=
  (by decide +kernel : ∀ t : Fin cfg0.N, ∀ a : Fin 4, win0_1.index t a = 0) t a

theorem ix0_2 (t : Fin cfg0.N) (a : Fin 4) : win0_2.index t a = 0 :=
  (by decide +kernel : ∀ t : Fin cfg0.N, ∀ a : Fin 4, win0_2.index t a = 0) t a

theorem ix0_3 (t : Fin cfg0.N) (a : Fin 4) : win0_3.index t a = 0 :=
  (by decide +kernel : ∀ t : Fin cfg0.N, ∀ a : Fin 4, win0_3.index t a = 0) t a

theorem ix0_4 (t : Fin cfg0.N) (a : Fin 2) : win0_4.index t a = 0 :=
  (by decide +kernel : ∀ t : Fin cfg0.N, ∀ a : Fin 2, win0_4.index t a = 0) t a

theorem ix0_5 (t : Fin cfg0.N) (a : Fin 2) : win0_5.index t a = 0 :=
  (by decide +kernel : ∀ t : Fin cfg0.N, ∀ a : Fin 2, win0_5.index t a = 0) t a

theorem ix0_6 (t : Fin cfg0.N) (a : Fin 4) : win0_6.index t a = 0 :=
  (by decide +kernel : ∀ t : Fin cfg0.N, ∀ a : Fin 4, win0_6.index t a = 0) t a

/-- Window 0 of the splat region is its whole array. -/
theorem iblk0_0 (c : Dev nD) (t : Fin cfg0.N) : iblk0 (V1 m ρ) c 0 t = W1 m ρ c (Proc.devRef .tc main_arg0) := by
  funext y
  blk_simp [iblk0]
  congr 1
  blk_ext [ix0_0 t]

/-- Window 1 of the splat region is its whole array. -/
theorem iblk0_1 (c : Dev nD) (t : Fin cfg0.N) : iblk0 (V1 m ρ) c 1 t = W1 m ρ c (Proc.devRef .tc main_arg1) := by
  funext y
  blk_simp [iblk0]
  congr 1
  blk_ext [ix0_1 t]

/-- Window 2 of the splat region is its whole array. -/
theorem iblk0_2 (c : Dev nD) (t : Fin cfg0.N) : iblk0 (V1 m ρ) c 2 t = W1 m ρ c (Proc.devRef .tc main_arg2) := by
  funext y
  blk_simp [iblk0]
  congr 1
  blk_ext [ix0_2 t]

/-- Window 3 of the splat region is its whole array. -/
theorem iblk0_3 (c : Dev nD) (t : Fin cfg0.N) : iblk0 (V1 m ρ) c 3 t = W1 m ρ c (Proc.devRef .tc main_arg3) := by
  funext y
  blk_simp [iblk0]
  congr 1
  blk_ext [ix0_3 t]

/-- Window 4 of the splat region is its whole array. -/
theorem iblk0_4 (c : Dev nD) (t : Fin cfg0.N) : iblk0 (V1 m ρ) c 4 t = W1 m ρ c (Proc.devRef .tc main_call0_v48) := by
  funext y
  blk_simp [iblk0]
  congr 1
  blk_ext [ix0_4 t]

/-- Window 5 of the splat region is its whole array. -/
theorem iblk0_5 (c : Dev nD) (t : Fin cfg0.N) : iblk0 (V1 m ρ) c 5 t = W1 m ρ c (Proc.devRef .tc main_call0_v98) := by
  funext y
  blk_simp [iblk0]
  congr 1
  blk_ext [ix0_5 t]

theorem ix1_0 (t : Fin cfg1.N) (a : Fin 4) : win1_0.index t a = 0 :=
  (by decide +kernel : ∀ t : Fin cfg1.N, ∀ a : Fin 4, win1_0.index t a = 0) t a

theorem ix1_1 (t : Fin cfg1.N) (a : Fin 5) : win1_1.index t a = 0 :=
  (by decide +kernel : ∀ t : Fin cfg1.N, ∀ a : Fin 5, win1_1.index t a = 0) t a

/-- The solve region's input window is its whole array. -/
theorem iblk1_0 (c : Dev nD) (t : Fin cfg1.N) : iblk1 (V2 m ρ) c 0 t = W2 m ρ c (Proc.devRef .tc main_call0_v99) := by
  funext y
  blk_simp [iblk1]
  congr 1
  blk_ext [ix1_0 t]

/-- The sums' array after the splat region. -/
theorem g_eq (c : Dev nD) : W2 m ρ c (Proc.devRef .tc main_call0_v99)
    = BguSplat.blockAt (k0_pay40 (BguSplat.chan (m ((c : Thread nD τ).loc main_arg0)) 0))
        (k0_pay41 (BguSplat.chan (m ((c : Thread nD τ).loc main_arg0)) 1))
        (k0_pay42 (BguSplat.chan (m ((c : Thread nD τ).loc main_arg0)) 2)) k0_pay43
        (k0_pay44 (BguSplat.chan (m ((c : Thread nD τ).loc main_arg3)) 0) (BguSplat.chan (m ((c : Thread nD τ).loc main_arg3)) 1)
          (BguSplat.chan (m ((c : Thread nD τ).loc main_arg3)) 2))
        (BguSplat.chan (m ((c : Thread nD τ).loc main_arg2)) 0) (BguSplat.chan (m ((c : Thread nD τ).loc main_arg2)) 1)
        (BguSplat.chan (m ((c : Thread nD τ).loc main_arg2)) 2)
        (k0_pay45 (m ((c : Thread nD τ).loc main_arg1))) (k0_pay46 (m ((c : Thread nD τ).loc main_arg1)))
        (W1 m ρ c (Proc.devRef .tc main_call0_v48)) (W1 m ρ c (Proc.devRef .tc main_call0_v98)) := by
  refine (W2_arr m ρ c 6).trans ?_
  refine (dat0 (V1 m ρ) c).arrAt_eq_of_covers 6 _ (by decide +kernel) fun t hf y => ?_
  rw [after0_6]
  unfold outsAt0
  rw [BguSplat.out_eq, iblk0_0, iblk0_1, iblk0_2, iblk0_3, iblk0_4, iblk0_5,
    W1_args m ρ c main_arg0 (by decide), W1_args m ρ c main_arg1 (by decide), W1_args m ρ c main_arg2 (by decide),
    W1_args m ρ c main_arg3 (by decide)]
  blk_simp
  congr 1
  blk_ext [ix0_6 t]

/-- The coefficients' array after the solve region. -/
theorem gamma_eq (c : Dev nD) : W3 m ρ c (Proc.devRef .tc main_call0_v100) = out1_1 (W2 m ρ c (Proc.devRef .tc main_call0_v99)) := by
  refine (W3_arr m ρ c 1).trans ?_
  refine (dat1 (V2 m ρ) c).arrAt_eq_of_covers 1 _ (by decide +kernel) fun t hf y => ?_
  rw [after1_1]
  rw [iblk1_0]
  blk_simp
  congr 1
  blk_ext [ix1_1 t]

end Cert.BguRun

end
-- ==== Proof.Tables.lean ====
/- The two weight tables that the host computes, as terms over no argument. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Gen.KernelIdeal.Frame
public import Idealize.ShloMosaic.Lib.StableHlo.RunRead
public import Idealize.ShloMosaic.Lib.StableHlo.ReadAt

@[expose] public section

-- membership in a rectangle of production extents (`View.cover_of_tiled`): the elaborator's structural look
-- recurses once per coordinate of the long axes
set_option maxRecDepth 16384

noncomputable section

namespace Cert.BguTab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The place of every pixel, for the rows. -/
abbrev h0 : List (HloOp τ sig (Elt F)) :=
  [ StableHlo.nullary main_call0_v0 (sitofp .f32 (iotaInDim S384 32 0)),
    StableHlo.nullary main_call0_cst (constant S_ .f32 0x3F000000#32),
    StableHlo.unary main_call0_cst main_call0_v1 (broadcastInDim S384 ![] bcast_S_S384 : (⟨S_, .f32⟩ : BufTy).Contents (Elt F) → (⟨S384, .f32⟩ : BufTy).Contents (Elt F)),
    StableHlo.binary main_call0_v0 main_call0_v1 main_call0_v2 (addf : (⟨S384, .f32⟩ : BufTy).Contents (Elt F) → (⟨S384, .f32⟩ : BufTy).Contents (Elt F) → (⟨S384, .f32⟩ : BufTy).Contents (Elt F)),
    StableHlo.nullary main_call0_cst_0 (constant S_ .f32 0x41B80000#32),
    StableHlo.unary main_call0_cst_0 main_call0_v3 (broadcastInDim S384 ![] bcast_S_S384 : (⟨S_, .f32⟩ : BufTy).Contents (Elt F) → (⟨S384, .f32⟩ : BufTy).Contents (Elt F)),
    StableHlo.binary main_call0_v2 main_call0_v3 main_call0_v4 (mulf : (⟨S384, .f32⟩ : BufTy).Contents (Elt F) → (⟨S384, .f32⟩ : BufTy).Contents (Elt F) → (⟨S384, .f32⟩ : BufTy).Contents (Elt F)),
    StableHlo.nullary main_call0_cst_1 (constant S_ .f32 0x43C00000#32),
    StableHlo.unary main_call0_cst_1 main_call0_v5 (broadcastInDim S384 ![] bcast_S_S384 : (⟨S_, .f32⟩ : BufTy).Contents (Elt F) → (⟨S384, .f32⟩ : BufTy).Contents (Elt F)),
    StableHlo.binary main_call0_v4 main_call0_v5 main_call0_v6 (Host.divf : (⟨S384, .f32⟩ : BufTy).Contents (Elt F) → (⟨S384, .f32⟩ : BufTy).Contents (Elt F) → (⟨S384, .f32⟩ : BufTy).Contents (Elt F)),
    StableHlo.unary main_call0_v6 main_call0_v7 (Host.floor : (⟨S384, .f32⟩ : BufTy).Contents (Elt F) → (⟨S384, .f32⟩ : BufTy).Contents (Elt F)),
    StableHlo.unary main_call0_v7 main_call0_v8 (fptosi 32 : (⟨S384, .f32⟩ : BufTy).Contents (Elt F) → (⟨S384, .i32⟩ : BufTy).Contents (Elt F)),
    StableHlo.nullary main_call0_c (constantI S_ 32 0#32),
    StableHlo.nullary main_call0_c_2 (constantI S_ 32 23#32) ]

/-- The cell of every pixel, for the rows. -/
abbrev h1 : List (HloOp τ sig (Elt F)) :=
  [ StableHlo.TRef.unary (.of main_call0_c : StableHlo.TRef sig ⟨S_, .i32⟩) (.of main_call0_call0_v0 : StableHlo.TRef sig ⟨S_, .i32⟩) id,
    StableHlo.TRef.unary (.of main_call0_call0_v0 : StableHlo.TRef sig ⟨S_, .i32⟩) (.of main_call0_call0_v1 : StableHlo.TRef sig ⟨S384, .i32⟩) (broadcastInDim S384 ![] bcast_S_S384),
    StableHlo.TRef.binary (.of main_call0_call0_v1 : StableHlo.TRef sig ⟨S384, .i32⟩) (.of main_call0_v8 : StableHlo.TRef sig ⟨S384, .i32⟩) (.of main_call0_call0_v2 : StableHlo.TRef sig ⟨S384, .i32⟩) maxsi,
    StableHlo.TRef.unary (.of main_call0_c_2 : StableHlo.TRef sig ⟨S_, .i32⟩) (.of main_call0_call0_v3 : StableHlo.TRef sig ⟨S_, .i32⟩) id,
    StableHlo.TRef.unary (.of main_call0_call0_v3 : StableHlo.TRef sig ⟨S_, .i32⟩) (.of main_call0_call0_v4 : StableHlo.TRef sig ⟨S384, .i32⟩) (broadcastInDim S384 ![] bcast_S_S384),
    StableHlo.TRef.binary (.of main_call0_call0_v4 : StableHlo.TRef sig ⟨S384, .i32⟩) (.of main_call0_call0_v2 : StableHlo.TRef sig ⟨S384, .i32⟩) (.of main_call0_v9 : StableHlo.TRef sig ⟨S384, .i32⟩) minsi ]

/-- The row table, and the places for the columns. -/
abbrev h2 : List (HloOp τ sig (Elt F)) :=
  ( StableHlo.nullary main_call0_c_3 (constantI S_ 32 1#32)
  :: StableHlo.unary main_call0_c_3 main_call0_v10 (broadcastInDim S384 ![] bcast_S_S384 : (⟨S_, .i32⟩ : BufTy).Contents (Elt F) → (⟨S384, .i32⟩ : BufTy).Contents (Elt F))
  :: StableHlo.binary main_call0_v9 main_call0_v10 main_call0_v11 (addi : (⟨S384, .i32⟩ : BufTy).Contents (Elt F) → (⟨S384, .i32⟩ : BufTy).Contents (Elt F) → (⟨S384, .i32⟩ : BufTy).Contents (Elt F))
  :: StableHlo.nullary main_call0_c_4 (constantI S_ 32 23#32)
  :: StableHlo.unary main_call0_c_4 main_call0_v12 (broadcastInDim S384 ![] bcast_S_S384 : (⟨S_, .i32⟩ : BufTy).Contents (Elt F) → (⟨S384, .i32⟩ : BufTy).Contents (Elt F))
  :: StableHlo.binary main_call0_v11 main_call0_v12 main_call0_v13 (minsi : (⟨S384, .i32⟩ : BufTy).Contents (Elt F) → (⟨S384, .i32⟩ : BufTy).Contents (Elt F) → (⟨S384, .i32⟩ : BufTy).Contents (Elt F))
  :: StableHlo.unary main_call0_v9 main_call0_v14 (sitofp .f32 : (⟨S384, .i32⟩ : BufTy).Contents (Elt F) → (⟨S384, .f32⟩ : BufTy).Contents (Elt F))
  :: StableHlo.binary main_call0_v6 main_call0_v14 main_call0_v15 (subf : (⟨S384, .f32⟩ : BufTy).Contents (Elt F) → (⟨S384, .f32⟩ : BufTy).Contents (Elt F) → (⟨S384, .f32⟩ : BufTy).Contents (Elt F))
  :: StableHlo.nullary main_call0_cst_5 (constant S_ .f32 0x00000000#32)
  :: StableHlo.unary main_call0_cst_5 main_call0_v16 (broadcastInDim S24x384 ![] bcast_S_S24x384 : (⟨S_, .f32⟩ : BufTy).Contents (Elt F) → (⟨S24x384, .f32⟩ : BufTy).Contents (Elt F))
  :: StableHlo.nullary main_call0_v17 (iotaInDim S384 32 0)
  :: StableHlo.nullary main_call0_cst_6 (constant S_ .f32 0x3F800000#32)
  :: StableHlo.unary main_call0_cst_6 main_call0_v18 (broadcastInDim S384 ![] bcast_S_S384 : (⟨S_, .f32⟩ : BufTy).Contents (Elt F) → (⟨S384, .f32⟩ : BufTy).Contents (Elt F))
  :: StableHlo.binary main_call0_v18 main_call0_v15 main_call0_v19 (subf : (⟨S384, .f32⟩ : BufTy).Contents (Elt F) → (⟨S384, .f32⟩ : BufTy).Contents (Elt F) → (⟨S384, .f32⟩ : BufTy).Contents (Elt F))
  :: StableHlo.nullary main_call0_c_7 (constantI S_ 32 0#32)
  :: StableHlo.unary main_call0_c_7 main_call0_v20 (broadcastInDim S384 ![] bcast_S_S384 : (⟨S_, .i32⟩ : BufTy).Contents (Elt F) → (⟨S384, .i32⟩ : BufTy).Contents (Elt F))
  :: StableHlo.binary main_call0_v9 main_call0_v20 main_call0_v21 (cmpi .slt : (⟨S384, .i32⟩ : BufTy).Contents (Elt F) → (⟨S384, .i32⟩ : BufTy).Contents (Elt F) → (⟨S384, .i1⟩ : BufTy).Contents (Elt F))
  :: StableHlo.nullary main_call0_c_8 (constantI S_ 32 24#32)
  :: StableHlo.unary main_call0_c_8 main_call0_v22 (broadcastInDim S384 ![] bcast_S_S384 : (⟨S_, .i32⟩ : BufTy).Contents (Elt F) → (⟨S384, .i32⟩ : BufTy).Contents (Elt F))
  :: StableHlo.binary main_call0_v9 main_call0_v22 main_call0_v23 (addi : (⟨S384, .i32⟩ : BufTy).Contents (Elt F) → (⟨S384, .i32⟩ : BufTy).Contents (Elt F) → (⟨S384, .i32⟩ : BufTy).Contents (Elt F))
  :: StableHlo.ternary main_call0_v21 main_call0_v23 main_call0_v9 main_call0_v24 (select : (⟨S384, .i1⟩ : BufTy).Contents (Elt F) → (⟨S384, .i32⟩ : BufTy).Contents (Elt F) → (⟨S384, .i32⟩ : BufTy).Contents (Elt F) → (⟨S384, .i32⟩ : BufTy).Contents (Elt F))
  :: StableHlo.nullary main_call0_c_9 (constantI S_ 32 0#32)
  :: StableHlo.unary main_call0_c_9 main_call0_v25 (broadcastInDim S384 ![] bcast_S_S384 : (⟨S_, .i32⟩ : BufTy).Contents (Elt F) → (⟨S384, .i32⟩ : BufTy).Contents (Elt F))
  :: StableHlo.binary main_call0_v17 main_call0_v25 main_call0_v26 (cmpi .slt : (⟨S384, .i32⟩ : BufTy).Contents (Elt F) → (⟨S384, .i32⟩ : BufTy).Contents (Elt F) → (⟨S384, .i1⟩ : BufTy).Contents (Elt F))
  :: StableHlo.nullary main_call0_c_10 (constantI S_ 32 384#32)
  :: StableHlo.unary main_call0_c_10 main_call0_v27 (broadcastInDim S384 ![] bcast_S_S384 : (⟨S_, .i32⟩ : BufTy).Contents (Elt F) → (⟨S384, .i32⟩ : BufTy).Contents (Elt F))
  :: StableHlo.binary main_call0_v17 main_call0_v27 main_call0_v28 (addi : (⟨S384, .i32⟩ : BufTy).Contents (Elt F) → (⟨S384, .i32⟩ : BufTy).Contents (Elt F) → (⟨S384, .i32⟩ : BufTy).Contents (Elt F))
  :: StableHlo.ternary main_call0_v26 main_call0_v28 main_call0_v17 main_call0_v29 (select : (⟨S384, .i1⟩ : BufTy).Contents (Elt F) → (⟨S384, .i32⟩ : BufTy).Contents (Elt F) → (⟨S384, .i32⟩ : BufTy).Contents (Elt F) → (⟨S384, .i32⟩ : BufTy).Contents (Elt F))
  :: StableHlo.unary main_call0_v24 main_call0_v30 (broadcastInDim S384x1 ![0] bcast_S384_S384x1_0 : (⟨S384, .i32⟩ : BufTy).Contents (Elt F) → (⟨S384x1, .i32⟩ : BufTy).Contents (Elt F))
  :: StableHlo.unary main_call0_v29 main_call0_v31 (broadcastInDim S384x1 ![0] bcast_S384_S384x1_0 : (⟨S384, .i32⟩ : BufTy).Contents (Elt F) → (⟨S384x1, .i32⟩ : BufTy).Contents (Elt F))
  :: StableHlo.binary main_call0_v30 main_call0_v31 main_call0_v32 ((fun a b => concatenate S384x2 1 [⟨S384x1, a⟩, ⟨S384x1, b⟩] concatenates_S384x1_S384x1_S384x2_d1) : (⟨S384x1, .i32⟩ : BufTy).Contents (Elt F) → (⟨S384x1, .i32⟩ : BufTy).Contents (Elt F) → (⟨S384x2, .i32⟩ : BufTy).Contents (Elt F))
  :: StableHlo.ternary main_call0_v16 main_call0_v32 main_call0_v19 main_call0_v33 ((fun x i u => Host.scatterAdd scatter_S24x384_S384x2_S384_n_01_01_1 x i u) : (⟨S24x384, .f32⟩ : BufTy).Contents (Elt F) → (⟨S384x2, .i32⟩ : BufTy).Contents (Elt F) → (⟨S384, .f32⟩ : BufTy).Contents (Elt F) → (⟨S24x384, .f32⟩ : BufTy).Contents (Elt F))
  :: StableHlo.nullary main_call0_v34 (iotaInDim S384 32 0)
  :: StableHlo.nullary main_call0_c_11 (constantI S_ 32 0#32)
  :: StableHlo.unary main_call0_c_11 main_call0_v35 (broadcastInDim S384 ![] bcast_S_S384 : (⟨S_, .i32⟩ : BufTy).Contents (Elt F) → (⟨S384, .i32⟩ : BufTy).Contents (Elt F))
  :: StableHlo.binary main_call0_v13 main_call0_v35 main_call0_v36 (cmpi .slt : (⟨S384, .i32⟩ : BufTy).Contents (Elt F) → (⟨S384, .i32⟩ : BufTy).Contents (Elt F) → (⟨S384, .i1⟩ : BufTy).Contents (Elt F))
  :: StableHlo.nullary main_call0_c_12 (constantI S_ 32 24#32)
  :: StableHlo.unary main_call0_c_12 main_call0_v37 (broadcastInDim S384 ![] bcast_S_S384 : (⟨S_, .i32⟩ : BufTy).Contents (Elt F) → (⟨S384, .i32⟩ : BufTy).Contents (Elt F))
  :: StableHlo.binary main_call0_v13 main_call0_v37 main_call0_v38 (addi : (⟨S384, .i32⟩ : BufTy).Contents (Elt F) → (⟨S384, .i32⟩ : BufTy).Contents (Elt F) → (⟨S384, .i32⟩ : BufTy).Contents (Elt F))
  :: StableHlo.ternary main_call0_v36 main_call0_v38 main_call0_v13 main_call0_v39 (select : (⟨S384, .i1⟩ : BufTy).Contents (Elt F) → (⟨S384, .i32⟩ : BufTy).Contents (Elt F) → (⟨S384, .i32⟩ : BufTy).Contents (Elt F) → (⟨S384, .i32⟩ : BufTy).Contents (Elt F))
  :: StableHlo.nullary main_call0_c_13 (constantI S_ 32 0#32)
  :: StableHlo.unary main_call0_c_13 main_call0_v40 (broadcastInDim S384 ![] bcast_S_S384 : (⟨S_, .i32⟩ : BufTy).Contents (Elt F) → (⟨S384, .i32⟩ : BufTy).Contents (Elt F))
  :: StableHlo.binary main_call0_v34 main_call0_v40 main_call0_v41 (cmpi .slt : (⟨S384, .i32⟩ : BufTy).Contents (Elt F) → (⟨S384, .i32⟩ : BufTy).Contents (Elt F) → (⟨S384, .i1⟩ : BufTy).Contents (Elt F))
  :: StableHlo.nullary main_call0_c_14 (constantI S_ 32 384#32)
  :: StableHlo.unary main_call0_c_14 main_call0_v42 (broadcastInDim S384 ![] bcast_S_S384 : (⟨S_, .i32⟩ : BufTy).Contents (Elt F) → (⟨S384, .i32⟩ : BufTy).Contents (Elt F))
  :: StableHlo.binary main_call0_v34 main_call0_v42 main_call0_v43 (addi : (⟨S384, .i32⟩ : BufTy).Contents (Elt F) → (⟨S384, .i32⟩ : BufTy).Contents (Elt F) → (⟨S384, .i32⟩ : BufTy).Contents (Elt F))
  :: StableHlo.ternary main_call0_v41 main_call0_v43 main_call0_v34 main_call0_v44 (select : (⟨S384, .i1⟩ : BufTy).Contents (Elt F) → (⟨S384, .i32⟩ : BufTy).Contents (Elt F) → (⟨S384, .i32⟩ : BufTy).Contents (Elt F) → (⟨S384, .i32⟩ : BufTy).Contents (Elt F))
  :: StableHlo.unary main_call0_v39 main_call0_v45 (broadcastInDim S384x1 ![0] bcast_S384_S384x1_0 : (⟨S384, .i32⟩ : BufTy).Contents (Elt F) → (⟨S384x1, .i32⟩ : BufTy).Contents (Elt F))
  :: StableHlo.unary main_call0_v44 main_call0_v46 (broadcastInDim S384x1 ![0] bcast_S384_S384x1_0 : (⟨S384, .i32⟩ : BufTy).Contents (Elt F) → (⟨S384x1, .i32⟩ : BufTy).Contents (Elt F))
  :: StableHlo.binary main_call0_v45 main_call0_v46 main_call0_v47 ((fun a b => concatenate S384x2 1 [⟨S384x1, a⟩, ⟨S384x1, b⟩] concatenates_S384x1_S384x1_S384x2_d1) : (⟨S384x1, .i32⟩ : BufTy).Contents (Elt F) → (⟨S384x1, .i32⟩ : BufTy).Contents (Elt F) → (⟨S384x2, .i32⟩ : BufTy).Contents (Elt F))
  :: StableHlo.ternary main_call0_v33 main_call0_v47 main_call0_v15 main_call0_v48 ((fun x i u => Host.scatterAdd scatter_S24x384_S384x2_S384_n_01_01_1 x i u) : (⟨S24x384, .f32⟩ : BufTy).Contents (Elt F) → (⟨S384x2, .i32⟩ : BufTy).Contents (Elt F) → (⟨S384, .f32⟩ : BufTy).Contents (Elt F) → (⟨S24x384, .f32⟩ : BufTy).Contents (Elt F))
  :: StableHlo.nullary main_call0_v49 (sitofp .f32 (iotaInDim S384 32 0))
  :: StableHlo.nullary main_call0_cst_15 (constant S_ .f32 0x3F000000#32)
  :: StableHlo.unary main_call0_cst_15 main_call0_v50 (broadcastInDim S384 ![] bcast_S_S384 : (⟨S_, .f32⟩ : BufTy).Contents (Elt F) → (⟨S384, .f32⟩ : BufTy).Contents (Elt F))
  :: StableHlo.binary main_call0_v49 main_call0_v50 main_call0_v51 (addf : (⟨S384, .f32⟩ : BufTy).Contents (Elt F) → (⟨S384, .f32⟩ : BufTy).Contents (Elt F) → (⟨S384, .f32⟩ : BufTy).Contents (Elt F))
  :: StableHlo.nullary main_call0_cst_16 (constant S_ .f32 0x41B80000#32)
  :: StableHlo.unary main_call0_cst_16 main_call0_v52 (broadcastInDim S384 ![] bcast_S_S384 : (⟨S_, .f32⟩ : BufTy).Contents (Elt F) → (⟨S384, .f32⟩ : BufTy).Contents (Elt F))
  :: StableHlo.binary main_call0_v51 main_call0_v52 main_call0_v53 (mulf : (⟨S384, .f32⟩ : BufTy).Contents (Elt F) → (⟨S384, .f32⟩ : BufTy).Contents (Elt F) → (⟨S384, .f32⟩ : BufTy).Contents (Elt F))
  :: StableHlo.nullary main_call0_cst_17 (constant S_ .f32 0x43C00000#32)
  :: StableHlo.unary main_call0_cst_17 main_call0_v54 (broadcastInDim S384 ![] bcast_S_S384 : (⟨S_, .f32⟩ : BufTy).Contents (Elt F) → (⟨S384, .f32⟩ : BufTy).Contents (Elt F))
  :: StableHlo.binary main_call0_v53 main_call0_v54 main_call0_v55 (Host.divf : (⟨S384, .f32⟩ : BufTy).Contents (Elt F) → (⟨S384, .f32⟩ : BufTy).Contents (Elt F) → (⟨S384, .f32⟩ : BufTy).Contents (Elt F))
  :: StableHlo.unary main_call0_v55 main_call0_v56 (Host.floor : (⟨S384, .f32⟩ : BufTy).Contents (Elt F) → (⟨S384, .f32⟩ : BufTy).Contents (Elt F))
  :: StableHlo.unary main_call0_v56 main_call0_v57 (fptosi 32 : (⟨S384, .f32⟩ : BufTy).Contents (Elt F) → (⟨S384, .i32⟩ : BufTy).Contents (Elt F))
  :: StableHlo.nullary main_call0_c_18 (constantI S_ 32 0#32)
  :: StableHlo.nullary main_call0_c_19 (constantI S_ 32 23#32)
  :: [] )

/-- The cell of every pixel, for the columns. -/
abbrev h3 : List (HloOp τ sig (Elt F)) :=
  [ StableHlo.TRef.unary (.of main_call0_c_18 : StableHlo.TRef sig ⟨S_, .i32⟩) (.of main_call0_call1_v0 : StableHlo.TRef sig ⟨S_, .i32⟩) id,
    StableHlo.TRef.unary (.of main_call0_call1_v0 : StableHlo.TRef sig ⟨S_, .i32⟩) (.of main_call0_call1_v1 : StableHlo.TRef sig ⟨S384, .i32⟩) (broadcastInDim S384 ![] bcast_S_S384),
    StableHlo.TRef.binary (.of main_call0_call1_v1 : StableHlo.TRef sig ⟨S384, .i32⟩) (.of main_call0_v57 : StableHlo.TRef sig ⟨S384, .i32⟩) (.of main_call0_call1_v2 : StableHlo.TRef sig ⟨S384, .i32⟩) maxsi,
    StableHlo.TRef.unary (.of main_call0_c_19 : StableHlo.TRef sig ⟨S_, .i32⟩) (.of main_call0_call1_v3 : StableHlo.TRef sig ⟨S_, .i32⟩) id,
    StableHlo.TRef.unary (.of main_call0_call1_v3 : StableHlo.TRef sig ⟨S_, .i32⟩) (.of main_call0_call1_v4 : StableHlo.TRef sig ⟨S384, .i32⟩) (broadcastInDim S384 ![] bcast_S_S384),
    StableHlo.TRef.binary (.of main_call0_call1_v4 : StableHlo.TRef sig ⟨S384, .i32⟩) (.of main_call0_call1_v2 : StableHlo.TRef sig ⟨S384, .i32⟩) (.of main_call0_v58 : StableHlo.TRef sig ⟨S384, .i32⟩) minsi ]

/-- The column table. -/
abbrev h4 : List (HloOp τ sig (Elt F)) :=
  ( StableHlo.nullary main_call0_c_20 (constantI S_ 32 1#32)
  :: StableHlo.unary main_call0_c_20 main_call0_v59 (broadcastInDim S384 ![] bcast_S_S384 : (⟨S_, .i32⟩ : BufTy).Contents (Elt F) → (⟨S384, .i32⟩ : BufTy).Contents (Elt F))
  :: StableHlo.binary main_call0_v58 main_call0_v59 main_call0_v60 (addi : (⟨S384, .i32⟩ : BufTy).Contents (Elt F) → (⟨S384, .i32⟩ : BufTy).Contents (Elt F) → (⟨S384, .i32⟩ : BufTy).Contents (Elt F))
  :: StableHlo.nullary main_call0_c_21 (constantI S_ 32 23#32)
  :: StableHlo.unary main_call0_c_21 main_call0_v61 (broadcastInDim S384 ![] bcast_S_S384 : (⟨S_, .i32⟩ : BufTy).Contents (Elt F) → (⟨S384, .i32⟩ : BufTy).Contents (Elt F))
  :: StableHlo.binary main_call0_v60 main_call0_v61 main_call0_v62 (minsi : (⟨S384, .i32⟩ : BufTy).Contents (Elt F) → (⟨S384, .i32⟩ : BufTy).Contents (Elt F) → (⟨S384, .i32⟩ : BufTy).Contents (Elt F))
  :: StableHlo.unary main_call0_v58 main_call0_v63 (sitofp .f32 : (⟨S384, .i32⟩ : BufTy).Contents (Elt F) → (⟨S384, .f32⟩ : BufTy).Contents (Elt F))
  :: StableHlo.binary main_call0_v55 main_call0_v63 main_call0_v64 (subf : (⟨S384, .f32⟩ : BufTy).Contents (Elt F) → (⟨S384, .f32⟩ : BufTy).Contents (Elt F) → (⟨S384, .f32⟩ : BufTy).Contents (Elt F))
  :: StableHlo.nullary main_call0_cst_22 (constant S_ .f32 0x00000000#32)
  :: StableHlo.unary main_call0_cst_22 main_call0_v65 (broadcastInDim S24x384 ![] bcast_S_S24x384 : (⟨S_, .f32⟩ : BufTy).Contents (Elt F) → (⟨S24x384, .f32⟩ : BufTy).Contents (Elt F))
  :: StableHlo.nullary main_call0_v66 (iotaInDim S384 32 0)
  :: StableHlo.nullary main_call0_cst_23 (constant S_ .f32 0x3F800000#32)
  :: StableHlo.unary main_call0_cst_23 main_call0_v67 (broadcastInDim S384 ![] bcast_S_S384 : (⟨S_, .f32⟩ : BufTy).Contents (Elt F) → (⟨S384, .f32⟩ : BufTy).Contents (Elt F))
  :: StableHlo.binary main_call0_v67 main_call0_v64 main_call0_v68 (subf : (⟨S384, .f32⟩ : BufTy).Contents (Elt F) → (⟨S384, .f32⟩ : BufTy).Contents (Elt F) → (⟨S384, .f32⟩ : BufTy).Contents (Elt F))
  :: StableHlo.nullary main_call0_c_24 (constantI S_ 32 0#32)
  :: StableHlo.unary main_call0_c_24 main_call0_v69 (broadcastInDim S384 ![] bcast_S_S384 : (⟨S_, .i32⟩ : BufTy).Contents (Elt F) → (⟨S384, .i32⟩ : BufTy).Contents (Elt F))
  :: StableHlo.binary main_call0_v58 main_call0_v69 main_call0_v70 (cmpi .slt : (⟨S384, .i32⟩ : BufTy).Contents (Elt F) → (⟨S384, .i32⟩ : BufTy).Contents (Elt F) → (⟨S384, .i1⟩ : BufTy).Contents (Elt F))
  :: StableHlo.nullary main_call0_c_25 (constantI S_ 32 24#32)
  :: StableHlo.unary main_call0_c_25 main_call0_v71 (broadcastInDim S384 ![] bcast_S_S384 : (⟨S_, .i32⟩ : BufTy).Contents (Elt F) → (⟨S384, .i32⟩ : BufTy).Contents (Elt F))
  :: StableHlo.binary main_call0_v58 main_call0_v71 main_call0_v72 (addi : (⟨S384, .i32⟩ : BufTy).Contents (Elt F) → (⟨S384, .i32⟩ : BufTy).Contents (Elt F) → (⟨S384, .i32⟩ : BufTy).Contents (Elt F))
  :: StableHlo.ternary main_call0_v70 main_call0_v72 main_call0_v58 main_call0_v73 (select : (⟨S384, .i1⟩ : BufTy).Contents (Elt F) → (⟨S384, .i32⟩ : BufTy).Contents (Elt F) → (⟨S384, .i32⟩ : BufTy).Contents (Elt F) → (⟨S384, .i32⟩ : BufTy).Contents (Elt F))
  :: StableHlo.nullary main_call0_c_26 (constantI S_ 32 0#32)
  :: StableHlo.unary main_call0_c_26 main_call0_v74 (broadcastInDim S384 ![] bcast_S_S384 : (⟨S_, .i32⟩ : BufTy).Contents (Elt F) → (⟨S384, .i32⟩ : BufTy).Contents (Elt F))
  :: StableHlo.binary main_call0_v66 main_call0_v74 main_call0_v75 (cmpi .slt : (⟨S384, .i32⟩ : BufTy).Contents (Elt F) → (⟨S384, .i32⟩ : BufTy).Contents (Elt F) → (⟨S384, .i1⟩ : BufTy).Contents (Elt F))
  :: StableHlo.nullary main_call0_c_27 (constantI S_ 32 384#32)
  :: StableHlo.unary main_call0_c_27 main_call0_v76 (broadcastInDim S384 ![] bcast_S_S384 : (⟨S_, .i32⟩ : BufTy).Contents (Elt F) → (⟨S384, .i32⟩ : BufTy).Contents (Elt F))
  :: StableHlo.binary main_call0_v66 main_call0_v76 main_call0_v77 (addi : (⟨S384, .i32⟩ : BufTy).Contents (Elt F) → (⟨S384, .i32⟩ : BufTy).Contents (Elt F) → (⟨S384, .i32⟩ : BufTy).Contents (Elt F))
  :: StableHlo.ternary main_call0_v75 main_call0_v77 main_call0_v66 main_call0_v78 (select : (⟨S384, .i1⟩ : BufTy).Contents (Elt F) → (⟨S384, .i32⟩ : BufTy).Contents (Elt F) → (⟨S384, .i32⟩ : BufTy).Contents (Elt F) → (⟨S384, .i32⟩ : BufTy).Contents (Elt F))
  :: StableHlo.unary main_call0_v73 main_call0_v79 (broadcastInDim S384x1 ![0] bcast_S384_S384x1_0 : (⟨S384, .i32⟩ : BufTy).Contents (Elt F) → (⟨S384x1, .i32⟩ : BufTy).Contents (Elt F))
  :: StableHlo.unary main_call0_v78 main_call0_v80 (broadcastInDim S384x1 ![0] bcast_S384_S384x1_0 : (⟨S384, .i32⟩ : BufTy).Contents (Elt F) → (⟨S384x1, .i32⟩ : BufTy).Contents (Elt F))
  :: StableHlo.binary main_call0_v79 main_call0_v80 main_call0_v81 ((fun a b => concatenate S384x2 1 [⟨S384x1, a⟩, ⟨S384x1, b⟩] concatenates_S384x1_S384x1_S384x2_d1) : (⟨S384x1, .i32⟩ : BufTy).Contents (Elt F) → (⟨S384x1, .i32⟩ : BufTy).Contents (Elt F) → (⟨S384x2, .i32⟩ : BufTy).Contents (Elt F))
  :: StableHlo.ternary main_call0_v65 main_call0_v81 main_call0_v68 main_call0_v82 ((fun x i u => Host.scatterAdd scatter_S24x384_S384x2_S384_n_01_01_1 x i u) : (⟨S24x384, .f32⟩ : BufTy).Contents (Elt F) → (⟨S384x2, .i32⟩ : BufTy).Contents (Elt F) → (⟨S384, .f32⟩ : BufTy).Contents (Elt F) → (⟨S24x384, .f32⟩ : BufTy).Contents (Elt F))
  :: StableHlo.nullary main_call0_v83 (iotaInDim S384 32 0)
  :: StableHlo.nullary main_call0_c_28 (constantI S_ 32 0#32)
  :: StableHlo.unary main_call0_c_28 main_call0_v84 (broadcastInDim S384 ![] bcast_S_S384 : (⟨S_, .i32⟩ : BufTy).Contents (Elt F) → (⟨S384, .i32⟩ : BufTy).Contents (Elt F))
  :: StableHlo.binary main_call0_v62 main_call0_v84 main_call0_v85 (cmpi .slt : (⟨S384, .i32⟩ : BufTy).Contents (Elt F) → (⟨S384, .i32⟩ : BufTy).Contents (Elt F) → (⟨S384, .i1⟩ : BufTy).Contents (Elt F))
  :: StableHlo.nullary main_call0_c_29 (constantI S_ 32 24#32)
  :: StableHlo.unary main_call0_c_29 main_call0_v86 (broadcastInDim S384 ![] bcast_S_S384 : (⟨S_, .i32⟩ : BufTy).Contents (Elt F) → (⟨S384, .i32⟩ : BufTy).Contents (Elt F))
  :: StableHlo.binary main_call0_v62 main_call0_v86 main_call0_v87 (addi : (⟨S384, .i32⟩ : BufTy).Contents (Elt F) → (⟨S384, .i32⟩ : BufTy).Contents (Elt F) → (⟨S384, .i32⟩ : BufTy).Contents (Elt F))
  :: StableHlo.ternary main_call0_v85 main_call0_v87 main_call0_v62 main_call0_v88 (select : (⟨S384, .i1⟩ : BufTy).Contents (Elt F) → (⟨S384, .i32⟩ : BufTy).Contents (Elt F) → (⟨S384, .i32⟩ : BufTy).Contents (Elt F) → (⟨S384, .i32⟩ : BufTy).Contents (Elt F))
  :: StableHlo.nullary main_call0_c_30 (constantI S_ 32 0#32)
  :: StableHlo.unary main_call0_c_30 main_call0_v89 (broadcastInDim S384 ![] bcast_S_S384 : (⟨S_, .i32⟩ : BufTy).Contents (Elt F) → (⟨S384, .i32⟩ : BufTy).Contents (Elt F))
  :: StableHlo.binary main_call0_v83 main_call0_v89 main_call0_v90 (cmpi .slt : (⟨S384, .i32⟩ : BufTy).Contents (Elt F) → (⟨S384, .i32⟩ : BufTy).Contents (Elt F) → (⟨S384, .i1⟩ : BufTy).Contents (Elt F))
  :: StableHlo.nullary main_call0_c_31 (constantI S_ 32 384#32)
  :: StableHlo.unary main_call0_c_31 main_call0_v91 (broadcastInDim S384 ![] bcast_S_S384 : (⟨S_, .i32⟩ : BufTy).Contents (Elt F) → (⟨S384, .i32⟩ : BufTy).Contents (Elt F))
  :: StableHlo.binary main_call0_v83 main_call0_v91 main_call0_v92 (addi : (⟨S384, .i32⟩ : BufTy).Contents (Elt F) → (⟨S384, .i32⟩ : BufTy).Contents (Elt F) → (⟨S384, .i32⟩ : BufTy).Contents (Elt F))
  :: StableHlo.ternary main_call0_v90 main_call0_v92 main_call0_v83 main_call0_v93 (select : (⟨S384, .i1⟩ : BufTy).Contents (Elt F) → (⟨S384, .i32⟩ : BufTy).Contents (Elt F) → (⟨S384, .i32⟩ : BufTy).Contents (Elt F) → (⟨S384, .i32⟩ : BufTy).Contents (Elt F))
  :: StableHlo.unary main_call0_v88 main_call0_v94 (broadcastInDim S384x1 ![0] bcast_S384_S384x1_0 : (⟨S384, .i32⟩ : BufTy).Contents (Elt F) → (⟨S384x1, .i32⟩ : BufTy).Contents (Elt F))
  :: StableHlo.unary main_call0_v93 main_call0_v95 (broadcastInDim S384x1 ![0] bcast_S384_S384x1_0 : (⟨S384, .i32⟩ : BufTy).Contents (Elt F) → (⟨S384x1, .i32⟩ : BufTy).Contents (Elt F))
  :: StableHlo.binary main_call0_v94 main_call0_v95 main_call0_v96 ((fun a b => concatenate S384x2 1 [⟨S384x1, a⟩, ⟨S384x1, b⟩] concatenates_S384x1_S384x1_S384x2_d1) : (⟨S384x1, .i32⟩ : BufTy).Contents (Elt F) → (⟨S384x1, .i32⟩ : BufTy).Contents (Elt F) → (⟨S384x2, .i32⟩ : BufTy).Contents (Elt F))
  :: StableHlo.ternary main_call0_v82 main_call0_v96 main_call0_v64 main_call0_v97 ((fun x i u => Host.scatterAdd scatter_S24x384_S384x2_S384_n_01_01_1 x i u) : (⟨S24x384, .f32⟩ : BufTy).Contents (Elt F) → (⟨S384x2, .i32⟩ : BufTy).Contents (Elt F) → (⟨S384, .f32⟩ : BufTy).Contents (Elt F) → (⟨S24x384, .f32⟩ : BufTy).Contents (Elt F))
  :: StableHlo.unary main_call0_v97 main_call0_v98 ((transpose S384x24 [1, 0] · transposes_S24x384_S384x24_1_0) : (⟨S24x384, .f32⟩ : BufTy).Contents (Elt F) → (⟨S384x24, .f32⟩ : BufTy).Contents (Elt F))
  :: [] )

set_option maxHeartbeats 40000000 in
theorem ops_eq : (hostOps0 : List (HloOp τ sig (Elt F))) = h0 ++ (h1 ++ (h2 ++ (h3 ++ h4))) := rfl

/-- Operations in two stretches. -/
theorem after_cat (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- After each stretch. -/
def U1 (c : Dev nD) : Valuation τ sig (Elt F) := StableHlo.after h0 (W0 m ρ c)
def U2 (c : Dev nD) : Valuation τ sig (Elt F) := StableHlo.after h1 (U1 m ρ c)
def U3 (c : Dev nD) : Valuation τ sig (Elt F) := StableHlo.after h2 (U2 m ρ c)
def U4 (c : Dev nD) : Valuation τ sig (Elt F) := StableHlo.after h3 (U3 m ρ c)

/-- The first region's entry is after the last stretch. -/
theorem entry (c : Dev nD) : W1 m ρ c = StableHlo.after h4 (U4 m ρ c) := by
  show StableHlo.after hostOps0 (W0 m ρ c) = _
  rw [ops_eq, after_cat, after_cat, after_cat, after_cat]
  rfl

/-- A constant along the axis. -/
def cF (b : BitVec 32) : Vec F S384 .f32 := broadcastInDim S384 ![] bcast_S_S384 (constant S_ .f32 b)

/-- A constant word along the axis. -/
def cI (b : BitVec 32) : IVec S384 32 := broadcastInDim S384 ![] bcast_S_S384 (constantI S_ 32 b)

/-- A pixel's place on the grid's axis. -/
def posV : Vec F S384 .f32 := Host.divf (mulf (addf (sitofp .f32 (iotaInDim S384 32 0)) (cF 0x3F000000#32)) (cF 0x41B80000#32)) (cF 0x43C00000#32)

/-- The cell at or below. -/
def rowV : IVec S384 32 := minsi (cI 23#32) (maxsi (cI 0#32) (fptosi 32 (Host.floor (posV (F := F)))))

/-- Two columns side by side. -/
def catV (a b : IVec S384x1 32) : IVec S384x2 32 :=
  concatenate S384x2 1 [⟨S384x1, a⟩, ⟨S384x1, b⟩] concatenates_S384x1_S384x1_S384x2_d1

/-- The positions of one scatter: a row per pixel, the pixel as the column. -/
def pairsV (r : IVec S384 32) : IVec S384x2 32 :=
  catV (broadcastInDim S384x1 ![0] bcast_S384_S384x1_0 (select (cmpi .slt r (cI 0#32)) (addi r (cI 24#32)) r))
    (broadcastInDim S384x1 ![0] bcast_S384_S384x1_0 (select (cmpi .slt (iotaInDim S384 32 0) (cI 0#32))
       (addi (iotaInDim S384 32 0) (cI 384#32)) (iotaInDim S384 32 0)))

/-- The table of hat weights, of the cells and the places. -/
def tabOf (r : IVec S384 32) (p : Vec F S384 .f32) : Vec F S24x384 .f32 :=
  Host.scatterAdd scatter_S24x384_S384x2_S384_n_01_01_1
    (Host.scatterAdd scatter_S24x384_S384x2_S384_n_01_01_1
      (broadcastInDim S24x384 ![] bcast_S_S24x384 (constant S_ .f32 0x00000000#32)) (pairsV r)
      (subf (cF 0x3F800000#32) (subf p (sitofp .f32 r))))
    (pairsV (minsi (addi r (cI 1#32)) (cI 23#32))) (subf p (sitofp .f32 r))

/-- The table of hat weights. -/
def tabV : Vec F S24x384 .f32 := tabOf (rowV (F := F)) posV

set_option maxHeartbeats 1000000

theorem w1_6 (c : Dev nD) : U1 m ρ c (Proc.devRef .tc main_call0_v6) = posV := by
  show StableHlo.after h0 (W0 m ρ c) _ = _
  after_reads_simp
  rfl

theorem w1_8 (c : Dev nD) : U1 m ρ c (Proc.devRef .tc main_call0_v8) = fptosi 32 (Host.floor (posV (F := F))) := by
  show StableHlo.after h0 (W0 m ρ c) _ = _
  after_reads_simp
  rfl

theorem w1_c (c : Dev nD) : U1 m ρ c (Proc.devRef .tc main_call0_c) = constantI S_ 32 0#32 := by
  show StableHlo.after h0 (W0 m ρ c) _ = _
  after_reads_simp

theorem w1_c2 (c : Dev nD) : U1 m ρ c (Proc.devRef .tc main_call0_c_2) = constantI S_ 32 23#32 := by
  show StableHlo.after h0 (W0 m ρ c) _ = _
  after_reads_simp

theorem w2_9 (c : Dev nD) : U2 m ρ c (Proc.devRef .tc main_call0_v9) = rowV (F := F) := by
  show StableHlo.after h1 (U1 m ρ c) _ = _
  generalize hV : U1 m ρ c = V
  after_reads_simp
  subst hV
  rw [w1_8, w1_c, w1_c2]
  simp -implicitDefEqProofs only [StableHlo.TRef.toBuf, StableHlo.TRef.ofBuf, cast_cast, cast_eq]
  rfl

theorem w2_6 (c : Dev nD) : U2 m ρ c (Proc.devRef .tc main_call0_v6) = posV := by
  show StableHlo.after h1 (U1 m ρ c) _ = _
  generalize hV : U1 m ρ c = V
  after_reads_simp
  subst hV
  exact w1_6 m ρ c

theorem w3_48 (c : Dev nD) : U3 m ρ c (Proc.devRef .tc main_call0_v48) = tabV := by
  show StableHlo.after h2 (U2 m ρ c) _ = _
  generalize hV : U2 m ρ c = V
  after_reads_simp
  change Host.scatterAdd _ (Host.scatterAdd _ _ (catV _ _) _) (catV _ _) _ = _
  after_reads_simp
  subst hV
  rw [w2_9, w2_6]
  unfold tabV tabOf pairsV cF cI
  generalize rowV (F := F) = r
  generalize posV (F := F) = p
  rfl

theorem w3_55 (c : Dev nD) : U3 m ρ c (Proc.devRef .tc main_call0_v55) = posV := by
  show StableHlo.after h2 (U2 m ρ c) _ = _
  after_reads_simp
  rfl

theorem w3_57 (c : Dev nD) : U3 m ρ c (Proc.devRef .tc main_call0_v57) = fptosi 32 (Host.floor (posV (F := F))) := by
  show StableHlo.after h2 (U2 m ρ c) _ = _
  after_reads_simp
  rfl

theorem w3_c (c : Dev nD) : U3 m ρ c (Proc.devRef .tc main_call0_c_18) = constantI S_ 32 0#32 := by
  show StableHlo.after h2 (U2 m ρ c) _ = _
  after_reads_simp

theorem w3_c2 (c : Dev nD) : U3 m ρ c (Proc.devRef .tc main_call0_c_19) = constantI S_ 32 23#32 := by
  show StableHlo.after h2 (U2 m ρ c) _ = _
  after_reads_simp

theorem w4_58 (c : Dev nD) : U4 m ρ c (Proc.devRef .tc main_call0_v58) = rowV (F := F) := by
  show StableHlo.after h3 (U3 m ρ c) _ = _
  generalize hV : U3 m ρ c = V
  after_reads_simp
  subst hV
  rw [w3_57, w3_c, w3_c2]
  simp -implicitDefEqProofs only [StableHlo.TRef.toBuf, StableHlo.TRef.ofBuf, cast_cast, cast_eq]
  rfl

theorem w4_55 (c : Dev nD) : U4 m ρ c (Proc.devRef .tc main_call0_v55) = posV := by
  show StableHlo.after h3 (U3 m ρ c) _ = _
  generalize hV : U3 m ρ c = V
  after_reads_simp
  subst hV
  exact w3_55 m ρ c

/-- The row table. -/
theorem w5_48 (c : Dev nD) : W1 m ρ c (Proc.devRef .tc main_call0_v48) = tabV := by
  rw [entry]
  generalize hV : U4 m ρ c = V
  after_reads_simp
  subst hV
  show StableHlo.after h3 (U3 m ρ c) _ = _
  generalize hV : U3 m ρ c = V
  after_reads_simp
  subst hV
  exact w3_48 m ρ c

/-- The column table, transposed. -/
theorem w5_98 (c : Dev nD) : W1 m ρ c (Proc.devRef .tc main_call0_v98)
    = transpose S384x24 [1, 0] (tabV (F := F)) transposes_S24x384_S384x24_1_0 := by
  rw [entry]
  generalize hV : U4 m ρ c = V
  after_reads_simp
  change transpose S384x24 [1, 0] (Host.scatterAdd _ (Host.scatterAdd _ _ (catV _ _) _) (catV _ _) _) _ = _
  after_reads_simp
  subst hV
  rw [w4_58, w4_55]
  unfold tabV tabOf pairsV cF cI
  generalize rowV (F := F) = r
  generalize posV (F := F) = p
  rfl

end Cert.BguTab

end
-- ==== Proof.TabReal.lean ====
/- The weight tables over the reals: at row `g` and pixel `i` the hat weight of the grid line `g` at the pixel. -/
module

public import proofs.«01_k».proof.Proof.Tables
public import proofs.«01_k».proof.Proof.Hat
public import Idealize.ShloMosaic.Lib.Pointwise
public import Idealize.ShloMosaic.Lib.Routing.OpsPair
public import Mathlib.Tactic.FinCases

@[expose] public section

set_option maxRecDepth 16384

noncomputable section

namespace Cert.BguTab

open Idealize.ShloMosaic Idealize.ShloMosaic.Tactic Idealize.ShloMosaic.Routing Cert.KernelIdeal Cert.KernelIdeal.Gen

theorem posV_apply (i : Fin 384) : posV (F := Ideal) (ix1 i) = ((((i.val : ℝ) + 1 / 2) * 23 / 384 : ℝ) : EReal) := by
  unfold posV cF
  pointwise
  rw [show (FloatOps.sitofp FTy.f32 (BitVec.ofNat 32 i.val) : Ideal FTy.f32) = ((((BitVec.ofNat 32 i.val).toInt : ℤ) : ℝ) : EReal) from rfl,
    BguHat.toInt_ofNat _ (by have := i.isLt; omega), BguHat.lit_half, BguHat.lit_23, BguHat.lit_384,
    ← EReal.coe_add, ← EReal.coe_mul, BguHat.div_real _ _ (by norm_num)]
  push_cast
  rfl

theorem rowV_apply (i : Fin 384) : rowV (F := Ideal) (ix1 i) = BitVec.ofNat 32 (BguHat.qc i) := by
  unfold rowV cI
  pointwise
  rw [posV_apply]
  rw [Ideal.liftRound_coe]
  refine (BguHat.clamp_floor _ (by positivity) 23 (by norm_num)).trans ?_
  congr 1
  have h := BguHat.floor_pos i
  have h2 : (⌊((i.val : ℝ) + 1 / 2) * 23 / 384⌋₊ : ℤ) = ⌊((i.val : ℝ) + 1 / 2) * 23 / 384⌋ := Int.natCast_floor_eq_floor (by positivity)
  have := BguHat.qc_le i
  omega

theorem pairsV_0 (r : IVec S384 32) (n : Fin 384 → ℕ) (hn : ∀ i, n i < 24) (hr : ∀ i, r (ix1 i) = BitVec.ofNat 32 (n i)) (i : Fin 384) :
    pairsV r (ix2 i (0 : Fin 2)) = BitVec.ofNat 32 (n i) := by
  unfold pairsV catV cI
  pointwise
  rw [hr]
  exact wrap_of_lt _ _ (by have := hn i; rw [BitVec.toNat_ofNat]; omega)

theorem pairsV_1 (r : IVec S384 32) (i : Fin 384) :
    pairsV r (ix2 i (1 : Fin 2)) = BitVec.ofNat 32 i.val := by
  unfold pairsV catV cI
  pointwise
  exact wrap_of_lt _ _ (by have := i.isLt; rw [BitVec.toNat_ofNat]; omega)

theorem start_apply (idx : IVec S384x2 32) (i : Fin 384) (a : Fin 2) :
    scatter_S24x384_S384x2_S384_n_01_01_1.start (ix1 i) idx a = (idx (ix2 i a)).toInt := by
  unfold ScatterDims.start
  fin_cases a
  · rw [dif_pos (by decide)]
    congr 2
    funext b
    fin_cases b <;> rfl
  · rw [dif_pos (by decide)]
    congr 2
    funext b
    fin_cases b <;> rfl

theorem window_apply (i : Fin 384) (a : Fin 2) :
    scatter_S24x384_S384x2_S384_n_01_01_1.window (ix1 i) a = 0 := by
  unfold ScatterDims.window
  fin_cases a <;> exact dif_neg (by decide)

/-- One scatter into the table. -/
theorem scatter_apply (x : FVec Ideal S24x384 .f32) (r : IVec S384 32) (n : Fin 384 → ℕ) (hn : ∀ i, n i < 24)
    (hr : ∀ i, r (ix1 i) = BitVec.ofNat 32 (n i)) (u : FVec Ideal S384 .f32) (g : Fin 24) (i : Fin 384) :
    Host.scatterAdd (F := Ideal) scatter_S24x384_S384x2_S384_n_01_01_1 x (pairsV r) u (ix2 g i)
      = x (ix2 g i) + if n i = g.val then u (ix1 i) else 0 := by
  show x (ix2 g i) + ∑ j ∈ Finset.univ.filter (fun j => scatter_S24x384_S384x2_S384_n_01_01_1.resultIdx? j (pairsV r) = some (ix2 g i)), u j = _
  congr 1
  have hj : ∀ k : Fin 384, scatter_S24x384_S384x2_S384_n_01_01_1.resultIdx? (ix1 k) (pairsV r) = some (ix2 g i) ↔ n k = g.val ∧ k = i := by
    intro k
    have h1 := hn k
    have h2 := k.isLt
    have e0 : scatter_S24x384_S384x2_S384_n_01_01_1.start (ix1 k) (pairsV r) 0
        + (scatter_S24x384_S384x2_S384_n_01_01_1.window (ix1 k) 0 : ℤ) = n k := by
      rw [start_apply, window_apply, pairsV_0 r n hn hr, BguHat.toInt_ofNat _ (by omega)]; omega
    have e1 : scatter_S24x384_S384x2_S384_n_01_01_1.start (ix1 k) (pairsV r) 1
        + (scatter_S24x384_S384x2_S384_n_01_01_1.window (ix1 k) 1 : ℤ) = k.val := by
      rw [start_apply, window_apply, pairsV_1, BguHat.toInt_ofNat _ (by omega)]; omega
    rw [resultIdx?_eq_some]
    constructor
    · intro h
      have h0 := (e0.symm.trans (h 0) : (n k : ℤ) = (g.val : ℤ))
      have h1 := (e1.symm.trans (h 1) : (k.val : ℤ) = (i.val : ℤ))
      exact ⟨by omega, Fin.ext (by omega)⟩
    · rintro ⟨h, rfl⟩ a
      match a with
      | ⟨0, _⟩ => exact e0.trans (by rw [h]; rfl)
      | ⟨1, _⟩ => exact e1
  have hf : Finset.univ.filter (fun j => scatter_S24x384_S384x2_S384_n_01_01_1.resultIdx? j (pairsV r) = some (ix2 g i))
      = if n i = g.val then {(ix1 i : S384.Idx)} else ∅ := by
    ext j
    obtain ⟨k, rfl⟩ : ∃ k : Fin 384, j = ix1 k := ⟨j 0, by funext a; fin_cases a; rfl⟩
    rw [Finset.mem_filter, hj]
    by_cases h : n i = g.val
    · rw [if_pos h, Finset.mem_singleton]
      constructor
      · rintro ⟨_, _, rfl⟩; rfl
      · intro e
        have e0 : k = i := congrFun e 0
        exact ⟨Finset.mem_univ _, e0 ▸ h, e0⟩
    · rw [if_neg h]
      constructor
      · rintro ⟨_, h', rfl⟩; exact absurd h' h
      · intro e; exact absurd e (Finset.notMem_empty _)
  rw [hf]
  by_cases h : n i = g.val
  · rw [if_pos h, if_pos h, Finset.sum_singleton]
  · rw [if_neg h, if_neg h, Finset.sum_empty]

theorem nextV_apply (i : Fin 384) :
    (minsi (addi (rowV (F := Ideal)) (cI 1#32)) (cI 23#32)) (ix1 i) = BitVec.ofNat 32 (min (BguHat.qc i + 1) 23) := by
  unfold cI
  pointwise
  have := BguHat.qc_le i
  rw [rowV_apply]
  refine (congrArg (fun w => IntOp.minsi w (23#32)) (BguHat.addi_ofNat _ 1)).trans ?_
  exact BguHat.minsi_ofNat _ 23 (by omega) (by norm_num)

theorem wV_apply (i : Fin 384) : (subf (posV (F := Ideal)) (sitofp (F := Ideal) .f32 (rowV (F := Ideal))) : FVec Ideal S384 .f32) (ix1 i) = ((BguHat.wq i : ℝ) : EReal) := by
  pointwise
  have := BguHat.qc_le i
  rw [posV_apply, rowV_apply,
    show (FloatOps.sitofp FTy.f32 (BitVec.ofNat 32 (BguHat.qc i)) : Ideal FTy.f32) = ((((BitVec.ofNat 32 (BguHat.qc i)).toInt : ℤ) : ℝ) : EReal) from rfl,
    BguHat.toInt_ofNat _ (by omega), ← EReal.coe_sub]
  unfold BguHat.wq
  push_cast
  rfl

/-- The table is the hat weights. -/
theorem tabV_apply (g : Fin 24) (i : Fin 384) : tabV (F := Ideal) (ix2 g i) = ((BguHat.hs g i : ℝ) : EReal) := by
  unfold tabV tabOf
  have := BguHat.qc_le
  rw [scatter_apply _ _ (fun i => min (BguHat.qc i + 1) 23) (fun i => by omega) nextV_apply,
    scatter_apply _ _ BguHat.qc (fun i => by have := BguHat.qc_le i; omega) rowV_apply, wV_apply]
  have h1 : (subf (cF (F := Ideal) 0x3F800000#32) (subf (posV (F := Ideal)) (sitofp (F := Ideal) .f32 (rowV (F := Ideal)))) : FVec Ideal S384 .f32) (ix1 i)
      = (((1 - BguHat.wq i : ℝ)) : EReal) := by
    have e := wV_apply i
    unfold cF
    generalize subf (posV (F := Ideal)) (sitofp (F := Ideal) .f32 (rowV (F := Ideal))) = w at e ⊢
    pointwise
    rw [e, ← EReal.coe_one, ← EReal.coe_sub]
  have h0 : (broadcastInDim S24x384 ![] bcast_S_S24x384 (constant (F := Ideal) S_ .f32 0x00000000#32) : FVec Ideal S24x384 .f32) (ix2 g i) = (0 : EReal) := by
    pointwise
  rw [h1, h0, zero_add]
  unfold BguHat.hs
  rw [EReal.coe_add]
  congr 1 <;> split_ifs <;> rfl

theorem tabT_apply (i : Fin 384) (g : Fin 24) :
    transpose S384x24 [1, 0] (tabV (F := Ideal)) transposes_S24x384_S384x24_1_0 (ix2 i g) = ((BguHat.hs g i : ℝ) : EReal) := by
  rw [← tabV_apply]
  generalize tabV (F := Ideal) = t
  pointwise

end Cert.BguTab

end
-- ==== Proof.Value.lean ====
/- The two results are one: the kernel's result array and the reference's, each read at a place, are the coefficient of the
   same cell's fit; and the claim that follows. -/
module

public import proofs.«01_k».proof.Defs
public import proofs.«01_k».proof.Proof.Pre
public import proofs.«01_k».proof.Proof.Link
public import proofs.«01_k».proof.Proof.RunValue
public import proofs.«01_k».proof.Proof.TabReal
public import proofs.«01_k».proof.Proof.Gen.ReferenceIdeal.Run
public import Idealize.ShloMosaic.Adequacy

@[expose] public section

set_option maxRecDepth 16384

noncomputable section

namespace Cert.BguMain

open Idealize.ShloMosaic Idealize.ShloMosaic.TcCoe Idealize.ShloMosaic.Tactic
open Idealize.SL.Sem
open Cert.BguAlg
open Cert.BguSolve (pt tot gden gam)
open Cert.BguRef (cellOf)

variable (A : Fin 4 → Fin 384 → Fin 384 → ℝ) (O : Fin 3 → Fin 384 → Fin 384 → ℝ) (Gd : Fin 384 → Fin 384 → ℝ) (w : ℝ)

/-- The result both programs leave. -/
def result (i : (⟨6, ![1, 24, 24, 16, 3, 4]⟩ : Shape).Idx) : EReal :=
  ((outR (pt (X A O Gd w) (i 3) (i 1) (i 2)) (gam (X A O Gd w)) (i 4) (i 5) : ℝ) : EReal)

variable (hA : ∀ i y x, 0 ≤ A i y x) (hA3 : ∀ y x, A 3 y x = 1) (hG : ∀ y x, 0 ≤ Gd y x) (hw : 0 ≤ w)
include hA hA3 hG hw

section Kernel

open Cert.KernelIdeal Cert.KernelIdeal.Gen

variable (m : (ℓ : Loc nD τ Cert.KernelIdeal.sig) → Buf (Elt Ideal) ℓ) (ρ : Dev nD → PrngReg) (c : Dev nD)
  (x0 x2 x3 : Vec Ideal S1x3x384x384 .f32) (x1 : Vec Ideal S1x1x384x384 .f32)
  (e0 : m ((c : Thread nD τ).loc main_arg0) = x0) (e1 : m ((c : Thread nD τ).loc main_arg1) = x1)
  (e2 : m ((c : Thread nD τ).loc main_arg2) = x2) (e3 : m ((c : Thread nD τ).loc main_arg3) = x3)
  (h0 : ∀ (k : Fin 3) y x, x0 (ix4 0 k y x) = ((A k.castSucc y x : ℝ) : EReal))
  (h1 : ∀ y x, x1 (ix4 0 0 y x) = ((Gd y x : ℝ) : EReal))
  (h2 : ∀ (k : Fin 3) y x, x2 (ix4 0 k y x) = ((O k y x : ℝ) : EReal))
  (h3 : ∀ (k : Fin 3) y x, x3 (ix4 0 k y x) = ((w : ℝ) : EReal))
include e0 e1 e2 e3 h0 h1 h2 h3

/-- The splat region's array holds the grid's sums. -/
theorem splat_value : BguSolve.Ok (W2 m ρ c (Proc.devRef .tc main_call0_v99)) (X A O Gd w) where
  hx := by
    rw [BguRun.g_eq, BguTab.w5_48, BguTab.w5_98, e0, e1, e2, e3]
    intro j z g h
    refine Fin.addCases (m := 10) (n := 12) (fun j => ?_) (fun j => ?_) j
    · refine (BguSplat.blockS_real (A := A) (Gd := Gd) (w := w) x0 x1 x2 x3 _ _ h0 hA3 h1 hG h3 BguTab.tabV_apply BguTab.tabT_apply z j g h).trans ?_
      unfold X
      rw [Fin.addCases_left]
    · refine (BguSplat.blockT_real (A := A) (O := O) (Gd := Gd) (w := w) x0 x1 x2 x3 _ _ h0 hA3 h1 hG h2 h3 BguTab.tabV_apply BguTab.tabT_apply z j g h).trans ?_
      unfold X
      rw [Fin.addCases_right]
  hd k z g h := (good A O Gd w hA hG hw z g h).hd k
  hg k := gden_ne A O Gd w hA hG hw k
  ha z g h := ne_of_gt (good A O Gd w hA hG hw z g h).amax_pos
  hdet z g h := (good A O Gd w hA hG hw z g h).det_nrm

/-- The kernel's result. -/
theorem kernel_value : (W4 m ρ c (Proc.devRef .tc main_v0) : FVec Ideal S1x24x24x16x3x4 .f32) = result A O Gd w := by
  have H := splat_value A O Gd w hA hA3 hG hw m ρ c x0 x2 x3 x1 e0 e1 e2 e3 h0 h1 h2 h3
  have hv := BguSolve.out_apply _ _ H
  rw [← BguRun.gamma_eq] at hv
  show StableHlo.after hostOps2 (W3 m ρ c) _ = _
  generalize W3 m ρ c = V at hv ⊢
  after_reads_simp
  generalize V (Proc.devRef .tc main_call0_v100) = t at hv ⊢
  change FVec Ideal S3x4x16x24x24 .f32 at t
  simp -implicitDefEqProofs only [StableHlo.TRef.toBuf, StableHlo.TRef.ofBuf, cast_cast, cast_eq]
  change broadcastInDim S1x24x24x16x3x4 ![1, 2, 3, 4, 5] bcast_S24x24x16x3x4_S1x24x24x16x3x4_1_2_3_4_5
    (transpose S24x24x16x3x4 [3, 4, 2, 0, 1] t transposes_S3x4x16x24x24_S24x24x16x3x4_3_4_2_0_1) = _
  funext i
  refine Eq.trans ?_ (hv (i 4) (i 5) (i 3) (i 1) (i 2))
  pointwise

end Kernel

section Reference

open Cert.ReferenceIdeal Cert.ReferenceIdeal.Read

variable (x0 x2 x3 : Vec Ideal S1x3x384x384 .f32) (x1 : Vec Ideal S1x1x384x384 .f32)
  (h0 : ∀ (k : Fin 3) y x, x0 (ix4 0 k y x) = ((A k.castSucc y x : ℝ) : EReal))
  (h1 : ∀ y x, x1 (ix4 0 0 y x) = ((Gd y x : ℝ) : EReal))
  (h2 : ∀ (k : Fin 3) y x, x2 (ix4 0 k y x) = ((O k y x : ℝ) : EReal))
  (h3 : ∀ (k : Fin 3) y x, x3 (ix4 0 k y x) = ((w : ℝ) : EReal))
include h0 h1 h2 h3

/-- The reference's scatters hold the grid's sums. -/
theorem scatter_value : BguRefSolve.Ok x1 x0 x2 x3 (sig (X A O Gd w)) := by
  have hW : ∀ p : S1x3x384x384.Idx, x3 p = ((w : ℝ) : EReal) := by
    intro p
    refine Eq.trans (congrArg x3 ?_) (h3 (p 1) (p 2) (p 3))
    funext a
    match a with
    | ⟨0, _⟩ => exact Subsingleton.elim (α := Fin 1) _ _
    | ⟨1, _⟩ => rfl
    | ⟨2, _⟩ => rfl
    | ⟨3, _⟩ => rfl
  have gd : ∀ q, Good (sig (X A O Gd w) q) := fun q => good A O Gd w hA hG hw _ _ _
  have pv := fun q => piv (gd q) (gam (X A O Gd w))
  refine ⟨fun q i j => ?_, fun q k j => ?_, fun q k => (gd q).hd k, fun k => ?_, fun q => ?_, fun q => ?_, fun q => ?_, fun q => ?_⟩
  · obtain ⟨⟨z, g, h⟩, rfl⟩ := cells.symm.surjective q
    refine (BguRef.S_apply x1 Gd h1 hG x0 x3 A w h0 hA3 hW z g h i j).trans ?_
    rw [← sm_X A O Gd w, ← sig_cellOf]
    rfl
  · obtain ⟨⟨z, g, h⟩, rfl⟩ := cells.symm.surjective q
    refine (BguRef.T_apply x1 Gd h1 hG x0 x2 x3 A O w h0 hA3 h2 hW z g h k j).trans ?_
    rw [← tm_X A O Gd w, ← sig_cellOf]
    rfl
  · rw [gdenQ_eq]
    exact gden_ne A O Gd w hA hG hw k
  · rw [gamQ_eq]
    exact ne_of_gt (pv q).1
  · rw [gamQ_eq]
    exact ne_of_gt (pv q).2.1
  · rw [gamQ_eq]
    exact ne_of_gt (pv q).2.2.1
  · rw [gamQ_eq]
    exact ne_of_gt (pv q).2.2.2

/-- The reference's result. -/
theorem reference_value : (val_main_v322 (F := Ideal) x0 x1 x2 x3 : FVec Ideal S1x24x24x16x3x4 .f32) = result A O Gd w := by
  have H := scatter_value A O Gd w hA hA3 hG hw x0 x2 x3 x1 h0 h1 h2 h3
  funext i
  refine (BguRefSolve.v326 x1 x0 x2 x3 _ H i).trans ?_
  have e : sig (X A O Gd w) (BguRefSolve.cellAt i) = pt (X A O Gd w) (i 3) (i 1) (i 2) := sig_cellOf _ _ _ _
  rw [gamQ_eq, e]
  exact congrArg (fun t : ℝ => (t : EReal)) (gj_eq (good A O Gd w hA hG hw (i 3) (i 1) (i 2)) (gam (X A O Gd w)) (i 4) (i 5))

end Reference

omit hA hA3 hG hw in
/-- The value claim: on the inputs the precondition names, both programs leave the same array. -/
theorem algebraic : Cert.algebraic_KernelIdeal_ReferenceIdeal_pre_well_posed (hPre_well_posed := BguPre.facts) := by
  intro m g m' g' hp hargs
  letI := BguPre.facts
  let A : Dev Cert.KernelIdeal.nD → Fin 4 → Fin 384 → Fin 384 → ℝ := fun c k y x =>
    if h : k.val < 3 then ((m ((c.tc : Thread Cert.KernelIdeal.nD Cert.KernelIdeal.τ).loc Cert.KernelIdeal.main_arg0) :
      FVec Ideal Cert.KernelIdeal.S1x3x384x384 .f32) (ix4 0 ⟨k.val, h⟩ y x)).toReal else 1
  let O : Dev Cert.KernelIdeal.nD → Fin 3 → Fin 384 → Fin 384 → ℝ := fun c k y x =>
    ((m ((c.tc : Thread Cert.KernelIdeal.nD Cert.KernelIdeal.τ).loc Cert.KernelIdeal.main_arg2) :
      FVec Ideal Cert.KernelIdeal.S1x3x384x384 .f32) (ix4 0 k y x)).toReal
  let Gd : Dev Cert.KernelIdeal.nD → Fin 384 → Fin 384 → ℝ := fun c y x =>
    ((m ((c.tc : Thread Cert.KernelIdeal.nD Cert.KernelIdeal.τ).loc Cert.KernelIdeal.main_arg1) :
      FVec Ideal Cert.KernelIdeal.S1x1x384x384 .f32) (ix4 0 0 y x)).toReal
  let w : Dev Cert.KernelIdeal.nD → ℝ := fun c =>
    ((m ((c.tc : Thread Cert.KernelIdeal.nD Cert.KernelIdeal.τ).loc Cert.KernelIdeal.main_arg3) :
      FVec Ideal Cert.KernelIdeal.S1x3x384x384 .f32) (ix4 0 0 0 0)).toReal
  have h0 := fun c => BguPre.p0 _ _ _ _ (hp c).1
  have h1 := fun c => BguPre.p1 _ _ _ _ (hp c).2.1
  have h2 := fun c => BguPre.p2 _ _ _ _ (hp c).2.2.1
  have h3 := fun c => BguPre.p3 _ _ _ _ (hp c).2.2.2
  have hA : ∀ c i y x, 0 ≤ A c i y x := by
    intro c i y x
    by_cases h : i.val < 3
    · show 0 ≤ (if h : i.val < 3 then _ else (1 : ℝ))
      rw [dif_pos h]
      exact (h0 c ⟨i.val, h⟩ y x).2
    · show 0 ≤ (if h : i.val < 3 then _ else (1 : ℝ))
      rw [dif_neg h]
      exact zero_le_one
  have hA3 : ∀ c y x, A c 3 y x = 1 := fun c y x => dif_neg (by decide)
  have hG : ∀ c y x, 0 ≤ Gd c y x := fun c y x => (h1 c y x).2
  have hw : ∀ c, 0 ≤ w c := fun c => (h3 c 0 0 0).2
  have k0 : ∀ c (k : Fin 3) (y x : Fin 384), (m ((c.tc : Thread Cert.KernelIdeal.nD Cert.KernelIdeal.τ).loc Cert.KernelIdeal.main_arg0) :
      FVec Ideal Cert.KernelIdeal.S1x3x384x384 .f32) (ix4 0 k y x) = ((A c k.castSucc y x : ℝ) : EReal) := by
    intro c k y x
    refine (h0 c k y x).1.trans (congrArg (fun t : ℝ => (t : EReal)) ?_)
    show _ = (if h : (k.castSucc).val < 3 then _ else (1 : ℝ))
    rw [dif_pos (show (k.castSucc).val < 3 from k.isLt)]
    rfl
  refine ⟨fun c => result (A c) (O c) (Gd c) (w c), ?_, ?_⟩
  · refine (θ_run Cert.KernelIdeal.defs _ _).mono (fun r h c => ⟨?_, (h c).2⟩) (BguRun.run m g)
    refine (h c).1.trans ?_
    exact kernel_value (A c) (O c) (Gd c) (w c) (hA c) (hA3 c) (hG c) (hw c) m g c _ _ _ _ rfl rfl rfl rfl (k0 c)
      (fun y x => (h1 c y x).1) (h2 c) (fun k y x => (h3 c k y x).1)
  · refine (θ_run Cert.ReferenceIdeal.defs _ _).mono (fun r h c => ⟨?_, (h c).2⟩) (Cert.ReferenceIdeal.Value.run m' g')
    refine (h c).1.trans ?_
    refine (Cert.ReferenceIdeal.Read.val_main_v322_eq (Idealize.ShloMosaic.StableHlo.launchContents m' c)).trans ?_
    obtain ⟨a0, a1, a2, a3⟩ := hargs c
    refine Eq.trans ?_ (reference_value (A c) (O c) (Gd c) (w c) (hA c) (hA3 c) (hG c) (hw c) _ _ _ _ (k0 c)
      (fun y x => (h1 c y x).1) (h2 c) (fun k y x => (h3 c k y x).1))
    rw [← a0, ← a1, ← a2, ← a3]

end Cert.BguMain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Frames
public import proofs.«01_k».proof.Proof.Value
public import Idealize.ShloMosaic.Adequacy

@[expose] public section

noncomputable section

namespace Cert.Proof

open Idealize.ShloMosaic Idealize.SL.Sem

/-- Every conjunct of the certificate. -/
theorem claim : Cert.Claim :=
  ⟨Cert.Kernel.Gen.facts, Cert.KernelIdeal.Gen.facts, Cert.ReferenceIdeal.Gen.facts, BguPre.facts,
    BguClaims.frame_p, BguClaims.frame_pi, BguClaims.frame_pi_pre, BguClaims.frame_ri, BguClaims.frame_ri_pre,
    BguClaims.preserves, BguMain.algebraic⟩

end Cert.Proof

end
